-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_boxes [hPre_finite_boxes : Cert.Pre_finite_boxes.Facts] (m : (ℓ : Loc Cert.KernelIdeal.nD Cert.KernelIdeal.τ Cert.KernelIdeal.sig) → Buf (Elt Ideal) ℓ) : Prop :=
  ∀ c : Dev Cert.KernelIdeal.nD,
    (Cert.Pre_finite_boxes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_boxes [hPre_finite_boxes : Cert.Pre_finite_boxes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_boxes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_boxes [hKernelIdeal : Cert.KernelIdeal.Facts] [hPre_finite_boxes : Cert.Pre_finite_boxes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_boxes m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_boxes [hReferenceIdeal : Cert.ReferenceIdeal.Facts] [hPre_finite_boxes : Cert.Pre_finite_boxes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_boxes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_boxes [hKernelIdeal : Cert.KernelIdeal.Facts] [hReferenceIdeal : Cert.ReferenceIdeal.Facts] [hPre_finite_boxes : Cert.Pre_finite_boxes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_boxes m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v29)) (v1 : (c : Dev Cert.KernelIdeal.nD) → Buf (Elt Ideal) ((c.tc : Thread Cert.KernelIdeal.nD Cert.KernelIdeal.τ).loc Cert.KernelIdeal.main_v30)) (v2 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_v30) = v1 c
          ∧ r.2.mem ((c.tc : Thread Cert.KernelIdeal.nD Cert.KernelIdeal.τ).loc Cert.KernelIdeal.main_v31) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_v42) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_boxes : Cert.Pre_finite_boxes.Facts),
    quiescent_Kernel (hKernel := hKernel)
    ∧ quiescent_KernelIdeal (hKernelIdeal := hKernelIdeal)
    ∧ quiescent_KernelIdeal_pre_finite_boxes (hKernelIdeal := hKernelIdeal) (hPre_finite_boxes := hPre_finite_boxes)
    ∧ quiescent_ReferenceIdeal (hReferenceIdeal := hReferenceIdeal)
    ∧ quiescent_ReferenceIdeal_pre_finite_boxes (hReferenceIdeal := hReferenceIdeal) (hPre_finite_boxes := hPre_finite_boxes)
    ∧ preserves_Kernel_KernelIdeal
    ∧ algebraic_KernelIdeal_ReferenceIdeal_pre_finite_boxes (hKernelIdeal := hKernelIdeal) (hReferenceIdeal := hReferenceIdeal) (hPre_finite_boxes := hPre_finite_boxes)
-- ==== Pre_finite_boxes.lean ====
abbrev S2x5000x4 : Shape := ⟨3, ![2, 5000, 4]⟩
abbrev S2x5000x80 : Shape := ⟨3, ![2, 5000, 80]⟩
abbrev S_ : Shape := ⟨0, ![]⟩

class Facts : Prop where
  bcast_S_S2x5000x4 : S_.BroadcastsInDim S2x5000x4 (![] : Fin 0 → Fin S2x5000x4.rank)
  reducesTo_S2x5000x4_S_d0_1_2 : S2x5000x4.ReducesTo [0, 1, 2] S_
  h_S_ : 0 < S_.numel

variable [Facts]

def fn {F : FTy → Type} [FloatOps F] (main_arg0 : FVec F S2x5000x4 .f32) (main_arg1 : FVec F S2x5000x80 .f32) : IVec S_ 1 :=
  let main_cst : FVec F S_ .f32 := constant S_ .f32 0xFF800000#32
  let main_v0 : FVec F S2x5000x4 .f32 := broadcastInDim S2x5000x4 ![] bcast_S_S2x5000x4 main_cst
  let main_v1 : IVec S2x5000x4 1 := cmpf .ogt main_arg0 main_v0
  let main_cst_0 : FVec F S_ .f32 := constant S_ .f32 0x7F800000#32
  let main_v2 : FVec F S2x5000x4 .f32 := broadcastInDim S2x5000x4 ![] bcast_S_S2x5000x4 main_cst_0
  let main_v3 : IVec S2x5000x4 1 := cmpf .olt main_arg0 main_v2
  let main_v4 : IVec S2x5000x4 1 := andi main_v1 main_v3
  let main_c : IVec S_ 1 := constantI S_ 1 1#1
  let main_v5 : IVec S_ 1 := (fun x v => Host.reduce IntOp.andi x v reducesTo_S2x5000x4_S_d0_1_2 h_S_) main_v4 main_c
  main_v5
-- ==== Kernel.lean ====
abbrev S2x5000x4 : Shape := ⟨3, ![2, 5000, 4]⟩
abbrev S2x5000x80 : Shape := ⟨3, ![2, 5000, 80]⟩
abbrev S2x4x5000 : Shape := ⟨3, ![2, 4, 5000]⟩
abbrev S8x5000 : Shape := ⟨2, ![8, 5000]⟩
abbrev S2x80x5000 : Shape := ⟨3, ![2, 80, 5000]⟩
abbrev S160x5000 : Shape := ⟨2, ![160, 5000]⟩
abbrev S_ : Shape := ⟨0, ![]⟩
abbrev S8x5120 : Shape := ⟨2, ![8, 5120]⟩
abbrev S160x5120 : Shape := ⟨2, ![160, 5120]⟩
abbrev S5120x8 : Shape := ⟨2, ![5120, 8]⟩
abbrev S5120x4 : Shape := ⟨2, ![5120, 4]⟩
abbrev S5120x12 : Shape := ⟨2, ![5120, 12]⟩
abbrev S1x5120x12 : Shape := ⟨3, ![1, 5120, 12]⟩
abbrev S2x5120x12 : Shape := ⟨3, ![2, 5120, 12]⟩
abbrev S2x4x300 : Shape := ⟨3, ![2, 4, 300]⟩
abbrev S2x1x300 : Shape := ⟨3, ![2, 1, 300]⟩
abbrev S160x300 : Shape := ⟨2, ![160, 300]⟩
abbrev S1x5120 : Shape := ⟨2, ![1, 5120]⟩
abbrev S160 : Shape := ⟨1, ![160]⟩
abbrev S160x1 : Shape := ⟨2, ![160, 1]⟩
abbrev S80x5120 : Shape := ⟨2, ![80, 5120]⟩
abbrev S80x12 : Shape := ⟨2, ![80, 12]⟩
abbrev S80x4 : Shape := ⟨2, ![80, 4]⟩
abbrev S80x1 : Shape := ⟨2, ![80, 1]⟩
abbrev S80x300 : Shape := ⟨2, ![80, 300]⟩
abbrev S1x300 : Shape := ⟨2, ![1, 300]⟩
abbrev S4x300 : Shape := ⟨2, ![4, 300]⟩
abbrev S1x80x300 : Shape := ⟨3, ![1, 80, 300]⟩
abbrev S1 : Shape := ⟨1, ![1]⟩
abbrev S1x1x1 : Shape := ⟨3, ![1, 1, 1]⟩
abbrev S1x1 : Shape := ⟨2, ![1, 1]⟩
abbrev S1x1x300 : Shape := ⟨3, ![1, 1, 300]⟩
abbrev S4x1 : Shape := ⟨2, ![4, 1]⟩
abbrev S1x4x300 : Shape := ⟨3, ![1, 4, 300]⟩
abbrev S2x300x4 : Shape := ⟨3, ![2, 300, 4]⟩
abbrev S2x300 : Shape := ⟨2, ![2, 300]⟩

abbrev nBuf : Space → Nat
  | .hbm => 40
  | .vmem => 12
  | .smem => 0
  | _ => 0

abbrev bufTy : (tb : Table) → Fin (tcTables nBuf tb) → BufTy
  | .hbm, ⟨0, _⟩ => ⟨S2x5000x4, .f32⟩
  | .hbm, ⟨1, _⟩ => ⟨S2x5000x80, .f32⟩
  | .hbm, ⟨2, _⟩ => ⟨S2x4x5000, .f32⟩
  | .hbm, ⟨3, _⟩ => ⟨S8x5000, .f32⟩
  | .hbm, ⟨4, _⟩ => ⟨S2x80x5000, .f32⟩
  | .hbm, ⟨5, _⟩ => ⟨S160x5000, .f32⟩
  | .hbm, ⟨6, _⟩ => ⟨S_, .i32⟩
  | .hbm, ⟨7, _⟩ => ⟨S_, .f32⟩
  | .hbm, ⟨8, _⟩ => ⟨S8x5120, .f32⟩
  | .hbm, ⟨9, _⟩ => ⟨S_, .i32⟩
  | .hbm, ⟨10, _⟩ => ⟨S_, .f32⟩
  | .hbm, ⟨11, _⟩ => ⟨S160x5120, .f32⟩
  | .hbm, ⟨12, _⟩ => ⟨S5120x8, .f32⟩
  | .hbm, ⟨13, _⟩ => ⟨S5120x8, .bf16⟩
  | .hbm, ⟨14, _⟩ => ⟨S5120x8, .bf16⟩
  | .hbm, ⟨15, _⟩ => ⟨S5120x8, .f32⟩
  | .hbm, ⟨16, _⟩ => ⟨S5120x8, .f32⟩
  | .hbm, ⟨17, _⟩ => ⟨S5120x8, .bf16⟩
  | .hbm, ⟨18, _⟩ => ⟨S5120x8, .bf16⟩
  | .hbm, ⟨19, _⟩ => ⟨S5120x8, .f32⟩
  | .hbm, ⟨20, _⟩ => ⟨S5120x8, .f32⟩
  | .hbm, ⟨21, _⟩ => ⟨S5120x8, .bf16⟩
  | .hbm, ⟨22, _⟩ => ⟨S5120x8, .bf16⟩
  | .hbm, ⟨23, _⟩ => ⟨S5120x4, .bf16⟩
  | .hbm, ⟨24, _⟩ => ⟨S5120x4, .bf16⟩
  | .hbm, ⟨25, _⟩ => ⟨S5120x4, .bf16⟩
  | .hbm, ⟨26, _⟩ => ⟨S5120x12, .bf16⟩
  | .hbm, ⟨27, _⟩ => ⟨S5120x4, .bf16⟩
  | .hbm, ⟨28, _⟩ => ⟨S5120x4, .bf16⟩
  | .hbm, ⟨29, _⟩ => ⟨S5120x4, .bf16⟩
  | .hbm, ⟨30, _⟩ => ⟨S5120x12, .bf16⟩
  | .hbm, ⟨31, _⟩ => ⟨S1x5120x12, .bf16⟩
  | .hbm, ⟨32, _⟩ => ⟨S1x5120x12, .bf16⟩
  | .hbm, ⟨33, _⟩ => ⟨S2x5120x12, .bf16⟩
  | .hbm, ⟨34, _⟩ => ⟨S2x4x300, .f32⟩
  | .hbm, ⟨35, _⟩ => ⟨S2x1x300, .f32⟩
  | .hbm, ⟨36, _⟩ => ⟨S2x1x300, .i32⟩
  | .hbm, ⟨37, _⟩ => ⟨S2x300x4, .f32⟩
  | .hbm, ⟨38, _⟩ => ⟨S2x300, .f32⟩
  | .hbm, ⟨39, _⟩ => ⟨S2x300, .i32⟩
  | .local _ .vmem, ⟨0, _⟩ => ⟨S8x5120, .f32⟩
  | .local _ .vmem, ⟨1, _⟩ => ⟨S2x5120x12, .bf16⟩
  | .local _ .vmem, ⟨2, _⟩ => ⟨S160x5120, .f32⟩
  | .local _ .vmem, ⟨3, _⟩ => ⟨S2x4x300, .f32⟩
  | .local _ .vmem, ⟨4, _⟩ => ⟨S2x1x300, .f32⟩
  | .local _ .vmem, ⟨5, _⟩ => ⟨S2x1x300, .i32⟩
  | .local _ .vmem, ⟨6, _⟩ => ⟨S160x5120, .f32⟩
  | .local _ .vmem, ⟨7, _⟩ => ⟨S160x300, .f32⟩
  | .local _ .vmem, ⟨8, _⟩ => ⟨S160x300, .f32⟩
  | .local _ .vmem, ⟨9, _⟩ => ⟨S160x300, .f32⟩
  | .local _ .vmem, ⟨10, _⟩ => ⟨S160x300, .f32⟩
  | .local _ .vmem, ⟨11, _⟩ => ⟨S160x300, .f32⟩
  | _, _ => ⟨S2x5000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_c_0 : Ref sig .tc := ⟨.hbm, 9, rfl⟩
abbrev main_call1_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28_0 : Ref sig .tc := ⟨.hbm, 34, rfl⟩
abbrev main_v28_1 : Ref sig .tc := ⟨.hbm, 35, rfl⟩
abbrev main_v28_2 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c300_i32 : BitVec 32 := 300#32
  let v45 : BitVec 32 := Scalar.addi c0_i32 c300_i32
  let c1_i32 : BitVec 32 := 1#32
  ⟨c0_i32, v45, c1_i32⟩
@[reducible] def k0_t2_loop : Scf.Loop 32 :=
  let c0_i32_25 : BitVec 32 := 0#32
  let c300_i32_26 : BitVec 32 := 300#32
  let v53 : BitVec 32 := Scalar.addi c0_i32_25 c300_i32_26
  let c1_i32_27 : BitVec 32 := 1#32
  ⟨c0_i32_25, v53, c1_i32_27⟩
abbrev stage0_0 : Fin 1 → Memref sig .tc .vmem S8x5120 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x5120x12 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S160x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x4x300 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1x300 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x1x300 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x5000x4 : Shape := ⟨3, ![2, 5000, 4]⟩
abbrev S2x5000x80 : Shape := ⟨3, ![2, 5000, 80]⟩
abbrev S2x80x5000 : Shape := ⟨3, ![2, 80, 5000]⟩
abbrev S_ : Shape := ⟨0, ![]⟩
abbrev S300x2x80 : Shape := ⟨3, ![300, 2, 80]⟩
abbrev S2x80x1 : Shape := ⟨3, ![2, 80, 1]⟩
abbrev S2x80 : Shape := ⟨2, ![2, 80]⟩
abbrev S2 : Shape := ⟨1, ![2]⟩
abbrev S2x1 : Shape := ⟨2, ![2, 1]⟩
abbrev S2x80x2 : Shape := ⟨3, ![2, 80, 2]⟩
abbrev S2x80x4 : Shape := ⟨3, ![2, 80, 4]⟩
abbrev S2x5000x1 : Shape := ⟨3, ![2, 5000, 1]⟩
abbrev S2x5000 : Shape := ⟨2, ![2, 5000]⟩
abbrev S2x1x5000 : Shape := ⟨3, ![2, 1, 5000]⟩
abbrev S1x2x80 : Shape := ⟨3, ![1, 2, 80]⟩
abbrev S2x80x300 : Shape := ⟨3, ![2, 80, 300]⟩
abbrev S2x24000 : Shape := ⟨2, ![2, 24000]⟩
abbrev S80 : Shape := ⟨1, ![80]⟩
abbrev S1x80x1 : Shape := ⟨3, ![1, 80, 1]⟩
abbrev S2x300 : Shape := ⟨2, ![2, 300]⟩
abbrev S2x300x1 : Shape := ⟨3, ![2, 300, 1]⟩
abbrev S2x300x2 : Shape := ⟨3, ![2, 300, 2]⟩
abbrev S2x300x4 : Shape := ⟨3, ![2, 300, 4]⟩

abbrev nBuf : Space → Nat
  | .hbm => 188
  | .vmem => 0
  | .smem => 0
  | _ => 0

abbrev hbmTy0_0 (i : Nat) : BufTy := match i % 128 with
  | 0 => ⟨S2x5000x4, .f32⟩
  | 1 => ⟨S2x5000x80, .f32⟩
  | 2 => ⟨S2x80x5000, .f32⟩
  | 3 => ⟨S_, .f32⟩
  | 4 => ⟨S2x80x5000, .f32⟩
  | 5 => ⟨S2x80x5000, .i1⟩
  | 6 => ⟨S_, .i32⟩
  | 7 => ⟨S300x2x80, .i32⟩
  | 8 => ⟨S_, .f32⟩
  | 9 => ⟨S300x2x80, .f32⟩
  | 10 => ⟨S_, .i32⟩
  | 11 => ⟨S2x80x5000, .f32⟩
  | 12 => ⟨S2x5000x4, .f32⟩
  | 13 => ⟨S_, .i32⟩
  | 14 => ⟨S2x80x5000, .i1⟩
  | 15 => ⟨S300x2x80, .i32⟩
  | 16 => ⟨S300x2x80, .f32⟩
  | 17 => ⟨S_, .i32⟩
  | 18 => ⟨S_, .i1⟩
  | 19 => ⟨S_, .f32⟩
  | 20 => ⟨S_, .f32⟩
  | 21 => ⟨S2x80x5000, .f32⟩
  | 22 => ⟨S2x80x5000, .f32⟩
  | 23 => ⟨S2x80x1, .f32⟩
  | 24 => ⟨S2x80x1, .i32⟩
  | 25 => ⟨S2x80, .f32⟩
  | 26 => ⟨S2x80, .i32⟩
  | 27 => ⟨S_, .f32⟩
  | 28 => ⟨S2x80, .f32⟩
  | 29 => ⟨S2x80, .i1⟩
  | 30 => ⟨S2, .i32⟩
  | 31 => ⟨S2x1, .i32⟩
  | 32 => ⟨S2x80, .i32⟩
  | 33 => ⟨S2x80x1, .i32⟩
  | 34 => ⟨S2x80x1, .i32⟩
  | 35 => ⟨S2x80x2, .i32⟩
  | 36 => ⟨S2x80x4, .f32⟩
  | 37 => ⟨S2x80x1, .f32⟩
  | 38 => ⟨S2x80, .f32⟩
  | 39 => ⟨S2x80x1, .f32⟩
  | 40 => ⟨S2x80x1, .f32⟩
  | 41 => ⟨S2x80, .f32⟩
  | 42 => ⟨S2x80x1, .f32⟩
  | 43 => ⟨S2x80x1, .f32⟩
  | 44 => ⟨S2x80, .f32⟩
  | 45 => ⟨S2x80x1, .f32⟩
  | 46 => ⟨S2x80x1, .f32⟩
  | 47 => ⟨S2x80, .f32⟩
  | 48 => ⟨S2x80x1, .f32⟩
  | 49 => ⟨S2x5000x1, .f32⟩
  | 50 => ⟨S2x5000, .f32⟩
  | 51 => ⟨S2x1x5000, .f32⟩
  | 52 => ⟨S2x5000x1, .f32⟩
  | 53 => ⟨S2x5000, .f32⟩
  | 54 => ⟨S2x1x5000, .f32⟩
  | 55 => ⟨S2x5000x1, .f32⟩
  | 56 => ⟨S2x5000, .f32⟩
  | 57 => ⟨S2x1x5000, .f32⟩
  | 58 => ⟨S2x5000x1, .f32⟩
  | 59 => ⟨S2x5000, .f32⟩
  | 60 => ⟨S2x1x5000, .f32⟩
  | 61 => ⟨S2x80x5000, .f32⟩
  | 62 => ⟨S2x80x5000, .f32⟩
  | 63 => ⟨S2x80x5000, .f32⟩
  | 64 => ⟨S2x80x5000, .f32⟩
  | 65 => ⟨S2x80x5000, .f32⟩
  | 66 => ⟨S2x80x5000, .f32⟩
  | 67 => ⟨S2x80x5000, .f32⟩
  | 68 => ⟨S2x80x5000, .f32⟩
  | 69 => ⟨S2x80x5000, .f32⟩
  | 70 => ⟨S2x80x5000, .f32⟩
  | 71 => ⟨S2x80x5000, .f32⟩
  | 72 => ⟨S2x80x5000, .f32⟩
  | 73 => ⟨S2x80x5000, .f32⟩
  | 74 => ⟨S_, .f32⟩
  | 75 => ⟨S2x80x5000, .f32⟩
  | 76 => ⟨S2x80x5000, .f32⟩
  | 77 => ⟨S2x80x5000, .f32⟩
  | 78 => ⟨S_, .f32⟩
  | 79 => ⟨S2x80x5000, .f32⟩
  | 80 => ⟨S2x80x5000, .f32⟩
  | 81 => ⟨S2x80x5000, .f32⟩
  | 82 => ⟨S2x80x1, .f32⟩
  | 83 => ⟨S_, .f32⟩
  | 84 => ⟨S2x80x1, .f32⟩
  | 85 => ⟨S2x80x1, .f32⟩
  | 86 => ⟨S2x80x1, .f32⟩
  | 87 => ⟨S_, .f32⟩
  | 88 => ⟨S2x80x1, .f32⟩
  | 89 => ⟨S2x80x1, .f32⟩
  | 90 => ⟨S2x80x1, .f32⟩
  | 91 => ⟨S2x1x5000, .f32⟩
  | 92 => ⟨S_, .f32⟩
  | 93 => ⟨S2x1x5000, .f32⟩
  | 94 => ⟨S2x1x5000, .f32⟩
  | 95 => ⟨S2x1x5000, .f32⟩
  | 96 => ⟨S_, .f32⟩
  | 97 => ⟨S2x1x5000, .f32⟩
  | 98 => ⟨S2x1x5000, .f32⟩
  | 99 => ⟨S2x1x5000, .f32⟩
  | 100 => ⟨S2x80x5000, .f32⟩
  | 101 => ⟨S2x80x5000, .f32⟩
  | 102 => ⟨S2x80x5000, .f32⟩
  | 103 => ⟨S2x80x5000, .f32⟩
  | 104 => ⟨S_, .f32⟩
  | 105 => ⟨S2x80x5000, .f32⟩
  | 106 => ⟨S2x80x5000, .i1⟩
  | 107 => ⟨S2x80x5000, .f32⟩
  | 108 => ⟨S_, .f32⟩
  | 109 => ⟨S_, .f32⟩
  | 110 => ⟨S2x80x5000, .f32⟩
  | 111 => ⟨S2x80x5000, .f32⟩
  | 112 => ⟨S2x80x1, .i1⟩
  | 113 => ⟨S_, .f32⟩
  | 114 => ⟨S2x80x5000, .f32⟩
  | 115 => ⟨S2x80x5000, .i1⟩
  | 116 => ⟨S2x80x5000, .i1⟩
  | 117 => ⟨S2x80x5000, .i1⟩
  | 118 => ⟨S2x80x5000, .i1⟩
  | 119 => ⟨S_, .i32⟩
  | 120 => ⟨S_, .i32⟩
  | 121 => ⟨S2x80, .i32⟩
  | 122 => ⟨S2x80, .i32⟩
  | 123 => ⟨S_, .f32⟩
  | 124 => ⟨S_, .f32⟩
  | 125 => ⟨S2x80, .f32⟩
  | 126 => ⟨S2x80, .f32⟩
  | 127 => ⟨S1x2x80, .i32⟩
  | _ => ⟨S2x5000x4, .f32⟩

abbrev hbmTy0_1 (i : Nat) : BufTy := match i % 128 with
  | 0 => ⟨S_, .i32⟩
  | 1 => ⟨S_, .i32⟩
  | 2 => ⟨S300x2x80, .i32⟩
  | 3 => ⟨S1x2x80, .f32⟩
  | 4 => ⟨S_, .i32⟩
  | 5 => ⟨S_, .i32⟩
  | 6 => ⟨S300x2x80, .f32⟩
  | 7 => ⟨S_, .i32⟩
  | 8 => ⟨S_, .i32⟩
  | 9 => ⟨S2x80x300, .i32⟩
  | 10 => ⟨S2x24000, .i32⟩
  | 11 => ⟨S2x80x300, .f32⟩
  | 12 => ⟨S2x24000, .f32⟩
  | 13 => ⟨S80, .i32⟩
  | 14 => ⟨S1x80x1, .i32⟩
  | 15 => ⟨S2x80x300, .i32⟩
  | 16 => ⟨S2x24000, .i32⟩
  | 17 => ⟨S2x300, .f32⟩
  | 18 => ⟨S2x300, .i32⟩
  | 19 => ⟨S2, .i32⟩
  | 20 => ⟨S2x1, .i32⟩
  | 21 => ⟨S2x300, .i32⟩
  | 22 => ⟨S2x300x1, .i32⟩
  | 23 => ⟨S2x300x1, .i32⟩
  | 24 => ⟨S2x300x2, .i32⟩
  | 25 => ⟨S2x300, .i32⟩
  | 26 => ⟨S2, .i32⟩
  | 27 => ⟨S2x1, .i32⟩
  | 28 => ⟨S2x300, .i32⟩
  | 29 => ⟨S2x300x1, .i32⟩
  | 30 => ⟨S2x300x1, .i32⟩
  | 31 => ⟨S2x300x2, .i32⟩
  | 32 => ⟨S2x300, .i32⟩
  | 33 => ⟨S_, .f32⟩
  | 34 => ⟨S2x300, .f32⟩
  | 35 => ⟨S2x300, .i1⟩
  | 36 => ⟨S2x300x1, .i1⟩
  | 37 => ⟨S_, .i32⟩
  | 38 => ⟨S2x300, .i32⟩
  | 39 => ⟨S2x300, .i32⟩
  | 40 => ⟨S2, .i32⟩
  | 41 => ⟨S2x1, .i32⟩
  | 42 => ⟨S2x300, .i32⟩
  | 43 => ⟨S2x300x1, .i32⟩
  | 44 => ⟨S2x300x1, .i32⟩
  | 45 => ⟨S2x300x2, .i32⟩
  | 46 => ⟨S2x300x4, .f32⟩
  | 47 => ⟨S_, .f32⟩
  | 48 => ⟨S_, .f32⟩
  | 49 => ⟨S2x300x4, .i1⟩
  | 50 => ⟨S2x300x4, .f32⟩
  | 51 => ⟨S2x300x4, .f32⟩
  | 52 => ⟨S_, .f32⟩
  | 53 => ⟨S_, .f32⟩
  | 54 => ⟨S2x300, .f32⟩
  | 55 => ⟨S2x300, .f32⟩
  | 56 => ⟨S_, .i32⟩
  | 57 => ⟨S_, .i32⟩
  | 58 => ⟨S2x300, .i32⟩
  | 59 => ⟨S2x300, .i32⟩
  | _ => ⟨S2x5000x4, .f32⟩

abbrev hbmTy (i : Nat) : BufTy := match i / 128 with
  | 0 => hbmTy0_0 i
  | 1 => hbmTy0_1 i
  | _ => ⟨S2x5000x4, .f32⟩

abbrev bufTy : (tb : Table) → Fin (tcTables nBuf tb) → BufTy
  | .hbm, ⟨i, _⟩ => hbmTy i
  | _, _ => ⟨S2x5000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_c_1 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev main_v5_5 : Ref sig .tc := ⟨.hbm, 16, rfl⟩
abbrev main_while0c_c_12 : Ref sig .tc := ⟨.hbm, 17, rfl⟩
abbrev main_while0c_v43 : Ref sig .tc := ⟨.hbm, 18, rfl⟩
abbrev main_while0b_cst_12 : Ref sig .tc := ⟨.hbm, 19, rfl⟩
abbrev main_while0b_call0_v0 : Ref sig .tc := ⟨.hbm, 20, rfl⟩
abbrev main_while0b_call0_v1 : Ref sig .tc := ⟨.hbm, 21, rfl⟩
abbrev main_while0b_v43 : Ref sig .tc := ⟨.hbm, 22, rfl⟩
abbrev main_while0b_values_13 : Ref sig .tc := ⟨.hbm, 23, rfl⟩
abbrev main_while0b_indices_14 : Ref sig .tc := ⟨.hbm, 24, rfl⟩
abbrev main_while0b_v44 : Ref sig .tc := ⟨.hbm, 25, rfl⟩
abbrev main_while0b_v45 : Ref sig .tc := ⟨.hbm, 26, rfl⟩
abbrev main_while0b_cst_15 : Ref sig .tc := ⟨.hbm, 27, rfl⟩
abbrev main_while0b_v46 : Ref sig .tc := ⟨.hbm, 28, rfl⟩
abbrev main_while0b_v47 : Ref sig .tc := ⟨.hbm, 29, rfl⟩
abbrev main_while0b_v48 : Ref sig .tc := ⟨.hbm, 30, rfl⟩
abbrev main_while0b_v49 : Ref sig .tc := ⟨.hbm, 31, rfl⟩
abbrev main_while0b_v50 : Ref sig .tc := ⟨.hbm, 32, rfl⟩
abbrev main_while0b_v51 : Ref sig .tc := ⟨.hbm, 33, rfl⟩
abbrev main_while0b_v52 : Ref sig .tc := ⟨.hbm, 34, rfl⟩
abbrev main_while0b_v53 : Ref sig .tc := ⟨.hbm, 35, rfl⟩
abbrev main_while0b_v54 : Ref sig .tc := ⟨.hbm, 36, rfl⟩
abbrev main_while0b_v55 : Ref sig .tc := ⟨.hbm, 37, rfl⟩
abbrev main_while0b_v56 : Ref sig .tc := ⟨.hbm, 38, rfl⟩
abbrev main_while0b_v57 : Ref sig .tc := ⟨.hbm, 39, rfl⟩
abbrev main_while0b_v58 : Ref sig .tc := ⟨.hbm, 40, rfl⟩
abbrev main_while0b_v59 : Ref sig .tc := ⟨.hbm, 41, rfl⟩
abbrev main_while0b_v60 : Ref sig .tc := ⟨.hbm, 42, rfl⟩
abbrev main_while0b_v61 : Ref sig .tc := ⟨.hbm, 43, rfl⟩
abbrev main_while0b_v62 : Ref sig .tc := ⟨.hbm, 44, rfl⟩
abbrev main_while0b_v63 : Ref sig .tc := ⟨.hbm, 45, rfl⟩
abbrev main_while0b_v64 : Ref sig .tc := ⟨.hbm, 46, rfl⟩
abbrev main_while0b_v65 : Ref sig .tc := ⟨.hbm, 47, rfl⟩
abbrev main_while0b_v66 : Ref sig .tc := ⟨.hbm, 48, rfl⟩
abbrev main_while0b_v67 : Ref sig .tc := ⟨.hbm, 49, rfl⟩
abbrev main_while0b_v68 : Ref sig .tc := ⟨.hbm, 50, rfl⟩
abbrev main_while0b_v69 : Ref sig .tc := ⟨.hbm, 51, rfl⟩
abbrev main_while0b_v70 : Ref sig .tc := ⟨.hbm, 52, rfl⟩
abbrev main_while0b_v71 : Ref sig .tc := ⟨.hbm, 53, rfl⟩
abbrev main_while0b_v72 : Ref sig .tc := ⟨.hbm, 54, rfl⟩
abbrev main_while0b_v73 : Ref sig .tc := ⟨.hbm, 55, rfl⟩
abbrev main_while0b_v74 : Ref sig .tc := ⟨.hbm, 56, rfl⟩
abbrev main_while0b_v75 : Ref sig .tc := ⟨.hbm, 57, rfl⟩
abbrev main_while0b_v76 : Ref sig .tc := ⟨.hbm, 58, rfl⟩
abbrev main_while0b_v77 : Ref sig .tc := ⟨.hbm, 59, rfl⟩
abbrev main_while0b_v78 : Ref sig .tc := ⟨.hbm, 60, rfl⟩
abbrev main_while0b_v79 : Ref sig .tc := ⟨.hbm, 61, rfl⟩
abbrev main_while0b_v80 : Ref sig .tc := ⟨.hbm, 62, rfl⟩
abbrev main_while0b_v81 : Ref sig .tc := ⟨.hbm, 63, rfl⟩
abbrev main_while0b_v82 : Ref sig .tc := ⟨.hbm, 64, rfl⟩
abbrev main_while0b_v83 : Ref sig .tc := ⟨.hbm, 65, rfl⟩
abbrev main_while0b_v84 : Ref sig .tc := ⟨.hbm, 66, rfl⟩
abbrev main_while0b_v85 : Ref sig .tc := ⟨.hbm, 67, rfl⟩
abbrev main_while0b_v86 : Ref sig .tc := ⟨.hbm, 68, rfl⟩
abbrev main_while0b_v87 : Ref sig .tc := ⟨.hbm, 69, rfl⟩
abbrev main_while0b_v88 : Ref sig .tc := ⟨.hbm, 70, rfl⟩
abbrev main_while0b_v89 : Ref sig .tc := ⟨.hbm, 71, rfl⟩
abbrev main_while0b_v90 : Ref sig .tc := ⟨.hbm, 72, rfl⟩
abbrev main_while0b_v91 : Ref sig .tc := ⟨.hbm, 73, rfl⟩
abbrev main_while0b_cst_16 : Ref sig .tc := ⟨.hbm, 74, rfl⟩
abbrev main_while0b_v92 : Ref sig .tc := ⟨.hbm, 75, rfl⟩
abbrev main_while0b_v93 : Ref sig .tc := ⟨.hbm, 76, rfl⟩
abbrev main_while0b_v94 : Ref sig .tc := ⟨.hbm, 77, rfl⟩
abbrev main_while0b_cst_17 : Ref sig .tc := ⟨.hbm, 78, rfl⟩
abbrev main_while0b_v95 : Ref sig .tc := ⟨.hbm, 79, rfl⟩
abbrev main_while0b_v96 : Ref sig .tc := ⟨.hbm, 80, rfl⟩
abbrev main_while0b_v97 : Ref sig .tc := ⟨.hbm, 81, rfl⟩
abbrev main_while0b_v98 : Ref sig .tc := ⟨.hbm, 82, rfl⟩
abbrev main_while0b_cst_18 : Ref sig .tc := ⟨.hbm, 83, rfl⟩
abbrev main_while0b_v99 : Ref sig .tc := ⟨.hbm, 84, rfl⟩
abbrev main_while0b_v100 : Ref sig .tc := ⟨.hbm, 85, rfl⟩
abbrev main_while0b_v101 : Ref sig .tc := ⟨.hbm, 86, rfl⟩
abbrev main_while0b_cst_19 : Ref sig .tc := ⟨.hbm, 87, rfl⟩
abbrev main_while0b_v102 : Ref sig .tc := ⟨.hbm, 88, rfl⟩
abbrev main_while0b_v103 : Ref sig .tc := ⟨.hbm, 89, rfl⟩
abbrev main_while0b_v104 : Ref sig .tc := ⟨.hbm, 90, rfl⟩
abbrev main_while0b_v105 : Ref sig .tc := ⟨.hbm, 91, rfl⟩
abbrev main_while0b_cst_20 : Ref sig .tc := ⟨.hbm, 92, rfl⟩
abbrev main_while0b_v106 : Ref sig .tc := ⟨.hbm, 93, rfl⟩
abbrev main_while0b_v107 : Ref sig .tc := ⟨.hbm, 94, rfl⟩
abbrev main_while0b_v108 : Ref sig .tc := ⟨.hbm, 95, rfl⟩
abbrev main_while0b_cst_21 : Ref sig .tc := ⟨.hbm, 96, rfl⟩
abbrev main_while0b_v109 : Ref sig .tc := ⟨.hbm, 97, rfl⟩
abbrev main_while0b_v110 : Ref sig .tc := ⟨.hbm, 98, rfl⟩
abbrev main_while0b_v111 : Ref sig .tc := ⟨.hbm, 99, rfl⟩
abbrev main_while0b_v112 : Ref sig .tc := ⟨.hbm, 100, rfl⟩
abbrev main_while0b_v113 : Ref sig .tc := ⟨.hbm, 101, rfl⟩
abbrev main_while0b_v114 : Ref sig .tc := ⟨.hbm, 102, rfl⟩
abbrev main_while0b_v115 : Ref sig .tc := ⟨.hbm, 103, rfl⟩
abbrev main_while0b_cst_22 : Ref sig .tc := ⟨.hbm, 104, rfl⟩
abbrev main_while0b_v116 : Ref sig .tc := ⟨.hbm, 105, rfl⟩
abbrev main_while0b_v117 : Ref sig .tc := ⟨.hbm, 106, rfl⟩
abbrev main_while0b_v118 : Ref sig .tc := ⟨.hbm, 107, rfl⟩
abbrev main_while0b_cst_23 : Ref sig .tc := ⟨.hbm, 108, rfl⟩
abbrev main_while0b_call1_v0 : Ref sig .tc := ⟨.hbm, 109, rfl⟩
abbrev main_while0b_call1_v1 : Ref sig .tc := ⟨.hbm, 110, rfl⟩
abbrev main_while0b_v119 : Ref sig .tc := ⟨.hbm, 111, rfl⟩
abbrev main_while0b_v120 : Ref sig .tc := ⟨.hbm, 112, rfl⟩
abbrev main_while0b_cst_24 : Ref sig .tc := ⟨.hbm, 113, rfl⟩
abbrev main_while0b_v121 : Ref sig .tc := ⟨.hbm, 114, rfl⟩
abbrev main_while0b_v122 : Ref sig .tc := ⟨.hbm, 115, rfl⟩
abbrev main_while0b_v123 : Ref sig .tc := ⟨.hbm, 116, rfl⟩
abbrev main_while0b_call2_v0 : Ref sig .tc := ⟨.hbm, 117, rfl⟩
abbrev main_while0b_v124 : Ref sig .tc := ⟨.hbm, 118, rfl⟩
abbrev main_while0b_c_25 : Ref sig .tc := ⟨.hbm, 119, rfl⟩
abbrev main_while0b_call3_v0 : Ref sig .tc := ⟨.hbm, 120, rfl⟩
abbrev main_while0b_call3_v1 : Ref sig .tc := ⟨.hbm, 121, rfl⟩
abbrev main_while0b_v125 : Ref sig .tc := ⟨.hbm, 122, rfl⟩
abbrev main_while0b_cst_26 : Ref sig .tc := ⟨.hbm, 123, rfl⟩
abbrev main_while0b_call4_v0 : Ref sig .tc := ⟨.hbm, 124, rfl⟩
abbrev main_while0b_call4_v1 : Ref sig .tc := ⟨.hbm, 125, rfl⟩
abbrev main_while0b_v126 : Ref sig .tc := ⟨.hbm, 126, rfl⟩
abbrev main_while0b_call5_v0 : Ref sig .tc := ⟨.hbm, 127, rfl⟩
abbrev main_while0b_call5_c : Ref sig .tc := ⟨.hbm, 128, rfl⟩
abbrev main_while0b_call5_c_0 : Ref sig .tc := ⟨.hbm, 129, rfl⟩
abbrev main_while0b_v127 : Ref sig .tc := ⟨.hbm, 130, rfl⟩
abbrev main_while0b_call6_v0 : Ref sig .tc := ⟨.hbm, 131, rfl⟩
abbrev main_while0b_call6_c : Ref sig .tc := ⟨.hbm, 132, rfl⟩
abbrev main_while0b_call6_c_0 : Ref sig .tc := ⟨.hbm, 133, rfl⟩
abbrev main_while0b_v128 : Ref sig .tc := ⟨.hbm, 134, rfl⟩
abbrev main_while0b_c_27 : Ref sig .tc := ⟨.hbm, 135, rfl⟩
abbrev main_while0b_v129 : Ref sig .tc := ⟨.hbm, 136, rfl⟩
abbrev main_v6 : Ref sig .tc := ⟨.hbm, 137, rfl⟩
abbrev main_v7 : Ref sig .tc := ⟨.hbm, 138, rfl⟩
abbrev main_v8 : Ref sig .tc := ⟨.hbm, 139, rfl⟩
abbrev main_v9 : Ref sig .tc := ⟨.hbm, 140, rfl⟩
abbrev main_v10 : Ref sig .tc := ⟨.hbm, 141, rfl⟩
abbrev main_v11 : Ref sig .tc := ⟨.hbm, 142, rfl⟩
abbrev main_v12 : Ref sig .tc := ⟨.hbm, 143, rfl⟩
abbrev main_v13 : Ref sig .tc := ⟨.hbm, 144, rfl⟩
abbrev main_values : Ref sig .tc := ⟨.hbm, 145, rfl⟩
abbrev main_indices : Ref sig .tc := ⟨.hbm, 146, rfl⟩
abbrev main_v14 : Ref sig .tc := ⟨.hbm, 147, rfl⟩
abbrev main_v15 : Ref sig .tc := ⟨.hbm, 148, rfl⟩
abbrev main_v16 : Ref sig .tc := ⟨.hbm, 149, rfl⟩
abbrev main_v17 : Ref sig .tc := ⟨.hbm, 150, rfl⟩
abbrev main_v18 : Ref sig .tc := ⟨.hbm, 151, rfl⟩
abbrev main_v19 : Ref sig .tc := ⟨.hbm, 152, rfl⟩
abbrev main_v20 : Ref sig .tc := ⟨.hbm, 153, rfl⟩
abbrev main_v21 : Ref sig .tc := ⟨.hbm, 154, rfl⟩
abbrev main_v22 : Ref sig .tc := ⟨.hbm, 155, rfl⟩
abbrev main_v23 : Ref sig .tc := ⟨.hbm, 156, rfl⟩
abbrev main_v24 : Ref sig .tc := ⟨.hbm, 157, rfl⟩
abbrev main_v25 : Ref sig .tc := ⟨.hbm, 158, rfl⟩
abbrev main_v26 : Ref sig .tc := ⟨.hbm, 159, rfl⟩
abbrev main_v27 : Ref sig .tc := ⟨.hbm, 160, rfl⟩
abbrev main_cst_2 : Ref sig .tc := ⟨.hbm, 161, rfl⟩
abbrev main_v28 : Ref sig .tc := ⟨.hbm, 162, rfl⟩
abbrev main_v29 : Ref sig .tc := ⟨.hbm, 163, rfl⟩
abbrev main_v30 : Ref sig .tc := ⟨.hbm, 164, rfl⟩
abbrev main_c_3 : Ref sig .tc := ⟨.hbm, 165, rfl⟩
abbrev main_v31 : Ref sig .tc := ⟨.hbm, 166, rfl⟩
abbrev main_v32 : Ref sig .tc := ⟨.hbm, 167, rfl⟩
abbrev main_v33 : Ref sig .tc := ⟨.hbm, 168, rfl⟩
abbrev main_v34 : Ref sig .tc := ⟨.hbm, 169, rfl⟩
abbrev main_v35 : Ref sig .tc := ⟨.hbm, 170, rfl⟩
abbrev main_v36 : Ref sig .tc := ⟨.hbm, 171, rfl⟩
abbrev main_v37 : Ref sig .tc := ⟨.hbm, 172, rfl⟩
abbrev main_v38 : Ref sig .tc := ⟨.hbm, 173, rfl⟩
abbrev main_v39 : Ref sig .tc := ⟨.hbm, 174, rfl⟩
abbrev main_cst_4 : Ref sig .tc := ⟨.hbm, 175, rfl⟩
abbrev main_call7_v0 : Ref sig .tc := ⟨.hbm, 176, rfl⟩
abbrev main_call7_v1 : Ref sig .tc := ⟨.hbm, 177, rfl⟩
abbrev main_call7_v2 : Ref sig .tc := ⟨.hbm, 178, rfl⟩
abbrev main_v40 : Ref sig .tc := ⟨.hbm, 179, rfl⟩
abbrev main_cst_5 : Ref sig .tc := ⟨.hbm, 180, rfl⟩
abbrev main_call8_v0 : Ref sig .tc := ⟨.hbm, 181, rfl⟩
abbrev main_call8_v1 : Ref sig .tc := ⟨.hbm, 182, rfl⟩
abbrev main_v41 : Ref sig .tc := ⟨.hbm, 183, rfl⟩
abbrev main_c_6 : Ref sig .tc := ⟨.hbm, 184, rfl⟩
abbrev main_call9_v0 : Ref sig .tc := ⟨.hbm, 185, rfl⟩
abbrev main_call9_v1 : Ref sig .tc := ⟨.hbm, 186, rfl⟩
abbrev main_v42 : Ref sig .tc := ⟨.hbm, 187, rfl⟩

abbrev nD : Nat := 1
abbrev τ : Topo := Topo.v7x

variable {F : FTy → Type} [FloatOps F]

abbrev main_while0_count : Scf.Loop 32 := ⟨0#32, 300#32, 1#32⟩
-- ==== Proof.Loop1.lean ====
/-
  The selection loop of the kernel, one trip at a time. A trip reads and rewrites six scratch buffers: the masked
  scores `arg6` and the five candidate tables `arg7` … `arg11`. `trip1` runs one trip over a symbolic trip number and
  finds what it stores; `pcsAt` lists those stores and `rawAt` iterates them; `loopInv1` is the loop's invariant in those words.
-/
module

public import proofs.«01_k».proof.Proof.Gen.KernelIdeal.Frame
public import proofs.«01_k».proof.Proof.Gen.KernelIdeal.Loops

@[expose] public section

set_option maxRecDepth 8192
set_option maxHeartbeats 400000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (arg0 : Memref sig .tc .vmem S8x5120 .f32) (harg0 : arg0.IsWhole) (arg1 : Memref sig .tc .vmem S2x5120x12 .bf16) (harg1 : arg1.IsWhole)
  (arg2 : Memref sig .tc .vmem S160x5120 .f32) (harg2 : arg2.IsWhole) (arg3 : Memref sig .tc .vmem S2x4x300 .f32) (harg3 : arg3.IsWhole)
  (arg4 : Memref sig .tc .vmem S2x1x300 .f32) (harg4 : arg4.IsWhole) (arg5 : Memref sig .tc .vmem S2x1x300 .i32) (harg5 : arg5.IsWhole)
  (arg6 : Memref sig .tc .vmem S160x5120 .f32) (harg6 : arg6.IsWhole) (arg7 : Memref sig .tc .vmem S160x300 .f32) (harg7 : arg7.IsWhole)
  (arg8 : Memref sig .tc .vmem S160x300 .f32) (harg8 : arg8.IsWhole) (arg9 : Memref sig .tc .vmem S160x300 .f32) (harg9 : arg9.IsWhole)
  (arg10 : Memref sig .tc .vmem S160x300 .f32) (harg10 : arg10.IsWhole) (arg11 : Memref sig .tc .vmem S160x300 .f32) (harg11 : arg11.IsWhole)
  (v10 v12 v14 v16 v18 v20 v22 v24 v31 v32 v33 : FVec F S1x5120 .f32) (v39 : IVec S160x5120 32) (v40 : IVec S160x300 32) (v41 v43 : Vec F S1x5120x12 .bf16)

/-- The six scratch buffers at given raw contents. -/
abbrev Trip1 (c : Dev nD) (f6 : BufTy.Contents (Elt F) arg6.view.ty) (f7 : BufTy.Contents (Elt F) arg7.view.ty) (f8 : BufTy.Contents (Elt F) arg8.view.ty)
    (f9 : BufTy.Contents (Elt F) arg9.view.ty) (f10 : BufTy.Contents (Elt F) arg10.view.ty) (f11 : BufTy.Contents (Elt F) arg11.view.ty) : sProp 𝕄 :=
  iprop((arg6.view.loc (c : Thread nD τ) ↦[arg6.view.set]{fullShare} f6) ∗ (arg7.view.loc (c : Thread nD τ) ↦[arg7.view.set]{fullShare} f7)
    ∗ (arg8.view.loc (c : Thread nD τ) ↦[arg8.view.set]{fullShare} f8) ∗ (arg9.view.loc (c : Thread nD τ) ↦[arg9.view.set]{fullShare} f9)
    ∗ (arg10.view.loc (c : Thread nD τ) ↦[arg10.view.set]{fullShare} f10) ∗ (arg11.view.loc (c : Thread nD τ) ↦[arg11.view.set]{fullShare} f11))

/-- One trip of the selection loop: from the six buffers at any contents it runs to the six buffers written with the
    pieces the run finds. -/
@[irreducible] def trip1 (c : Dev nD) (k : Fin k0_t1_loop.trips)
    (f6 : BufTy.Contents (Elt F) arg6.view.ty) (f7 : BufTy.Contents (Elt F) arg7.view.ty) (f8 : BufTy.Contents (Elt F) arg8.view.ty)
    (f9 : BufTy.Contents (Elt F) arg9.view.ty) (f10 : BufTy.Contents (Elt F) arg10.view.ty) (f11 : BufTy.Contents (Elt F) arg11.view.ty) :
    Σ' (L6 : List (View.Piece (Elt F) S160x5120 .f32)) (L7 : List (View.Piece (Elt F) S160x300 .f32)) (L8 : List (View.Piece (Elt F) S160x300 .f32))
      (L9 : List (View.Piece (Elt F) S160x300 .f32)) (L10 : List (View.Piece (Elt F) S160x300 .f32)),
      { L11 : List (View.Piece (Elt F) S160x300 .f32) //
        Trip1 (F := F) arg6 arg7 arg8 arg9 arg10 arg11 c f6 f7 f8 f9 f10 f11
        ⊢ wp frame (wpE (defs₀ (F := F)) Variants.none (c : Thread nD τ) none) Set.univ
            (k0_t1_body (F := F) arg0 harg0 arg1 harg1 arg2 harg2 arg3 harg3 arg4 harg4 arg5 harg5 arg6 harg6 arg7 harg7 arg8 harg8 arg9 harg9 arg10 harg10 arg11 harg11 v10 v12 v14 v16 v18 v20 v22 v24 v31 v32 v33 v39 v40 v41 v43 k PUnit.unit)
            (fun _ => Trip1 (F := F) arg6 arg7 arg8 arg9 arg10 arg11 c (arg6.view.writes (Elt F) f6 L6) (arg7.view.writes (Elt F) f7 L7)
              (arg8.view.writes (Elt F) f8 L8) (arg9.view.writes (Elt F) f9 L9) (arg10.view.writes (Elt F) f10 L10) (arg11.view.writes (Elt F) f11 L11)) } := by
  have hk : k.val < 300 := Nat.lt_of_lt_of_le k.isLt k0_t1_abs.2.1
  refine ⟨?_, ?_, ?_, ?_, ?_, ?_, ?run⟩
  case run =>
    unfold k0_t1_body
    iintro ⟨H6, H7, H8, H9, H10, H11⟩
    sl_exec
    sl_step
    sl_close

/-- The six scratch contents before a trip, as the buffers hold them. -/
structure Raw (F : FTy → Type) [FloatOps F] (arg6 : Memref sig .tc .vmem S160x5120 .f32) (arg7 arg8 arg9 arg10 arg11 : Memref sig .tc .vmem S160x300 .f32) where
  /-- the masked scores -/
  f6 : BufTy.Contents (Elt F) arg6.view.ty
  /-- the candidates' scores -/
  f7 : BufTy.Contents (Elt F) arg7.view.ty
  /-- the candidates' first coordinates -/
  f8 : BufTy.Contents (Elt F) arg8.view.ty
  /-- the candidates' second coordinates -/
  f9 : BufTy.Contents (Elt F) arg9.view.ty
  /-- the candidates' third coordinates -/
  f10 : BufTy.Contents (Elt F) arg10.view.ty
  /-- the candidates' fourth coordinates -/
  f11 : BufTy.Contents (Elt F) arg11.view.ty

/-- The six contents after trip `k`, found at `r`. -/
def rawNext (c : Dev nD) (k : Fin k0_t1_loop.trips) (r : Raw F arg6 arg7 arg8 arg9 arg10 arg11) : Raw F arg6 arg7 arg8 arg9 arg10 arg11 :=
  let T := trip1 (F := F) arg0 harg0 arg1 harg1 arg2 harg2 arg3 harg3 arg4 harg4 arg5 harg5 arg6 harg6 arg7 harg7 arg8 harg8 arg9 harg9 arg10 harg10 arg11 harg11 v10 v12 v14 v16 v18 v20 v22 v24 v31 v32 v33 v39 v40 v41 v43 c k r.f6 r.f7 r.f8 r.f9 r.f10 r.f11
  ⟨arg6.view.writes (Elt F) r.f6 T.1, arg7.view.writes (Elt F) r.f7 T.2.1, arg8.view.writes (Elt F) r.f8 T.2.2.1,
    arg9.view.writes (Elt F) r.f9 T.2.2.2.1, arg10.view.writes (Elt F) r.f10 T.2.2.2.2.1, arg11.view.writes (Elt F) r.f11 T.2.2.2.2.2.1⟩

/-- The six contents before trip `k`, from those at the loop's entry. -/
def rawAt (c : Dev nD) (f6 : BufTy.Contents (Elt F) arg6.view.ty) (f7 : BufTy.Contents (Elt F) arg7.view.ty) (f8 : BufTy.Contents (Elt F) arg8.view.ty)
    (f9 : BufTy.Contents (Elt F) arg9.view.ty) (f10 : BufTy.Contents (Elt F) arg10.view.ty) (f11 : BufTy.Contents (Elt F) arg11.view.ty) :
    ℕ → Raw F arg6 arg7 arg8 arg9 arg10 arg11
  | 0 => ⟨f6, f7, f8, f9, f10, f11⟩
  | k + 1 => if h : k < k0_t1_loop.trips then rawNext (F := F) arg0 harg0 arg1 harg1 arg2 harg2 arg3 harg3 arg4 harg4 arg5 harg5 arg6 harg6 arg7 harg7 arg8 harg8 arg9 harg9 arg10 harg10 arg11 harg11 v10 v12 v14 v16 v18 v20 v22 v24 v31 v32 v33 v39 v40 v41 v43 c ⟨k, h⟩ (rawAt c f6 f7 f8 f9 f10 f11 k) else rawAt c f6 f7 f8 f9 f10 f11 k

/-- The contents before the next trip are those one trip makes of the contents before it. -/
theorem rawAt_succ (c : Dev nD) (f6 : BufTy.Contents (Elt F) arg6.view.ty) (f7 : BufTy.Contents (Elt F) arg7.view.ty) (f8 : BufTy.Contents (Elt F) arg8.view.ty)
    (f9 : BufTy.Contents (Elt F) arg9.view.ty) (f10 : BufTy.Contents (Elt F) arg10.view.ty) (f11 : BufTy.Contents (Elt F) arg11.view.ty) (k : Fin k0_t1_loop.trips) :
    rawAt (F := F) arg0 harg0 arg1 harg1 arg2 harg2 arg3 harg3 arg4 harg4 arg5 harg5 arg6 harg6 arg7 harg7 arg8 harg8 arg9 harg9 arg10 harg10 arg11 harg11 v10 v12 v14 v16 v18 v20 v22 v24 v31 v32 v33 v39 v40 v41 v43 c f6 f7 f8 f9 f10 f11 (k.val + 1) = rawNext (F := F) arg0 harg0 arg1 harg1 arg2 harg2 arg3 harg3 arg4 harg4 arg5 harg5 arg6 harg6 arg7 harg7 arg8 harg8 arg9 harg9 arg10 harg10 arg11 harg11 v10 v12 v14 v16 v18 v20 v22 v24 v31 v32 v33 v39 v40 v41 v43 c k (rawAt (F := F) arg0 harg0 arg1 harg1 arg2 harg2 arg3 harg3 arg4 harg4 arg5 harg5 arg6 harg6 arg7 harg7 arg8 harg8 arg9 harg9 arg10 harg10 arg11 harg11 v10 v12 v14 v16 v18 v20 v22 v24 v31 v32 v33 v39 v40 v41 v43 c f6 f7 f8 f9 f10 f11 k.val) := by
  rw [rawAt.eq_2]; exact dif_pos k.isLt

/-- The pieces stored so far into the six buffers, newest first. -/
structure Pcs (F : FTy → Type) [FloatOps F] where
  /-- into the masked scores -/
  l6 : List (View.Piece (Elt F) S160x5120 .f32)
  /-- into the candidates' scores -/
  l7 : List (View.Piece (Elt F) S160x300 .f32)
  /-- into the candidates' first coordinates -/
  l8 : List (View.Piece (Elt F) S160x300 .f32)
  /-- into the candidates' second coordinates -/
  l9 : List (View.Piece (Elt F) S160x300 .f32)
  /-- into the candidates' third coordinates -/
  l10 : List (View.Piece (Elt F) S160x300 .f32)
  /-- into the candidates' fourth coordinates -/
  l11 : List (View.Piece (Elt F) S160x300 .f32)

/-- The pieces after trip `k`, which finds the buffers at the pieces `p` over the entry's contents. -/
def pcsNext (c : Dev nD) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (k : Fin k0_t1_loop.trips) (p : Pcs F) : Pcs F :=
  let T := trip1 (F := F) arg0 harg0 arg1 harg1 arg2 harg2 arg3 harg3 arg4 harg4 arg5 harg5 arg6 harg6 arg7 harg7 arg8 harg8 arg9 harg9 arg10 harg10 arg11 harg11 v10 v12 v14 v16 v18 v20 v22 v24 v31 v32 v33 v39 v40 v41 v43 c k (arg6.view.writes (Elt F) f6 p.l6) (arg7.view.writes (Elt F) f7 p.l7) (arg8.view.writes (Elt F) f8 p.l8) (arg9.view.writes (Elt F) f9 p.l9) (arg10.view.writes (Elt F) f10 p.l10) (arg11.view.writes (Elt F) f11 p.l11)
  ⟨T.1 ++ p.l6, T.2.1 ++ p.l7, T.2.2.1 ++ p.l8, T.2.2.2.1 ++ p.l9, T.2.2.2.2.1 ++ p.l10, T.2.2.2.2.2.1 ++ p.l11⟩

/-- The pieces of the trips before `k`. -/
def pcsAt (c : Dev nD) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) : ℕ → Pcs F
  | 0 => ⟨[], [], [], [], [], []⟩
  | k + 1 => if h : k < k0_t1_loop.trips then pcsNext (F := F) arg0 harg0 arg1 harg1 arg2 harg2 arg3 harg3 arg4 harg4 arg5 harg5 arg6 harg6 arg7 harg7 arg8 harg8 arg9 harg9 arg10 harg10 arg11 harg11 v10 v12 v14 v16 v18 v20 v22 v24 v31 v32 v33 v39 v40 v41 v43 c f6 f7 f8 f9 f10 f11 ⟨k, h⟩ (pcsAt c f6 f7 f8 f9 f10 f11 k) else pcsAt c f6 f7 f8 f9 f10 f11 k

/-- The pieces before the next trip are those one trip adds to the pieces before it. -/
theorem pcsAt_succ (c : Dev nD) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (k : Fin k0_t1_loop.trips) :
    pcsAt (F := F) arg0 harg0 arg1 harg1 arg2 harg2 arg3 harg3 arg4 harg4 arg5 harg5 arg6 harg6 arg7 harg7 arg8 harg8 arg9 harg9 arg10 harg10 arg11 harg11 v10 v12 v14 v16 v18 v20 v22 v24 v31 v32 v33 v39 v40 v41 v43 c f6 f7 f8 f9 f10 f11 (k.val + 1) = pcsNext (F := F) arg0 harg0 arg1 harg1 arg2 harg2 arg3 harg3 arg4 harg4 arg5 harg5 arg6 harg6 arg7 harg7 arg8 harg8 arg9 harg9 arg10 harg10 arg11 harg11 v10 v12 v14 v16 v18 v20 v22 v24 v31 v32 v33 v39 v40 v41 v43 c f6 f7 f8 f9 f10 f11 k (pcsAt (F := F) arg0 harg0 arg1 harg1 arg2 harg2 arg3 harg3 arg4 harg4 arg5 harg5 arg6 harg6 arg7 harg7 arg8 harg8 arg9 harg9 arg10 harg10 arg11 harg11 v10 v12 v14 v16 v18 v20 v22 v24 v31 v32 v33 v39 v40 v41 v43 c f6 f7 f8 f9 f10 f11 k.val) := by
  rw [pcsAt.eq_2]; exact dif_pos k.isLt

/-- The pieces written over the entry's contents are the contents iterated trip by trip. -/
theorem rawAt_eq_writes (c : Dev nD) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (k : ℕ) :
    rawAt (F := F) arg0 harg0 arg1 harg1 arg2 harg2 arg3 harg3 arg4 harg4 arg5 harg5 arg6 harg6 arg7 harg7 arg8 harg8 arg9 harg9 arg10 harg10 arg11 harg11 v10 v12 v14 v16 v18 v20 v22 v24 v31 v32 v33 v39 v40 v41 v43 c f6 f7 f8 f9 f10 f11 k
      = ⟨arg6.view.writes (Elt F) f6 (pcsAt (F := F) arg0 harg0 arg1 harg1 arg2 harg2 arg3 harg3 arg4 harg4 arg5 harg5 arg6 harg6 arg7 harg7 arg8 harg8 arg9 harg9 arg10 harg10 arg11 harg11 v10 v12 v14 v16 v18 v20 v22 v24 v31 v32 v33 v39 v40 v41 v43 c f6 f7 f8 f9 f10 f11 k).l6, arg7.view.writes (Elt F) f7 (pcsAt (F := F) arg0 harg0 arg1 harg1 arg2 harg2 arg3 harg3 arg4 harg4 arg5 harg5 arg6 harg6 arg7 harg7 arg8 harg8 arg9 harg9 arg10 harg10 arg11 harg11 v10 v12 v14 v16 v18 v20 v22 v24 v31 v32 v33 v39 v40 v41 v43 c f6 f7 f8 f9 f10 f11 k).l7, arg8.view.writes (Elt F) f8 (pcsAt (F := F) arg0 harg0 arg1 harg1 arg2 harg2 arg3 harg3 arg4 harg4 arg5 harg5 arg6 harg6 arg7 harg7 arg8 harg8 arg9 harg9 arg10 harg10 arg11 harg11 v10 v12 v14 v16 v18 v20 v22 v24 v31 v32 v33 v39 v40 v41 v43 c f6 f7 f8 f9 f10 f11 k).l8, arg9.view.writes (Elt F) f9 (pcsAt (F := F) arg0 harg0 arg1 harg1 arg2 harg2 arg3 harg3 arg4 harg4 arg5 harg5 arg6 harg6 arg7 harg7 arg8 harg8 arg9 harg9 arg10 harg10 arg11 harg11 v10 v12 v14 v16 v18 v20 v22 v24 v31 v32 v33 v39 v40 v41 v43 c f6 f7 f8 f9 f10 f11 k).l9, arg10.view.writes (Elt F) f10 (pcsAt (F := F) arg0 harg0 arg1 harg1 arg2 harg2 arg3 harg3 arg4 harg4 arg5 harg5 arg6 harg6 arg7 harg7 arg8 harg8 arg9 harg9 arg10 harg10 arg11 harg11 v10 v12 v14 v16 v18 v20 v22 v24 v31 v32 v33 v39 v40 v41 v43 c f6 f7 f8 f9 f10 f11 k).l10, arg11.view.writes (Elt F) f11 (pcsAt (F := F) arg0 harg0 arg1 harg1 arg2 harg2 arg3 harg3 arg4 harg4 arg5 harg5 arg6 harg6 arg7 harg7 arg8 harg8 arg9 harg9 arg10 harg10 arg11 harg11 v10 v12 v14 v16 v18 v20 v22 v24 v31 v32 v33 v39 v40 v41 v43 c f6 f7 f8 f9 f10 f11 k).l11⟩ := by
  induction k with
  | zero => rfl
  | succ k ih =>
    rw [rawAt.eq_2, pcsAt.eq_2]
    by_cases h : k < k0_t1_loop.trips
    · rw [dif_pos h, dif_pos h, ih]
      unfold rawNext pcsNext
      simp only [View.writes_append]
    · rw [dif_neg h, dif_neg h, ih]

/-- The invariant before trip `k`: each of the six buffers holds its pieces over the entry's contents. -/
abbrev inv1 (c : Dev nD) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (k : ℕ) (_u : PUnit) : sProp 𝕄 :=
  iprop((∃ f, (arg6.view.loc (c : Thread nD τ) ↦[arg6.view.set]{fullShare} f) ∗ ⌜f = arg6.view.writes (Elt F) f6 (pcsAt (F := F) arg0 harg0 arg1 harg1 arg2 harg2 arg3 harg3 arg4 harg4 arg5 harg5 arg6 harg6 arg7 harg7 arg8 harg8 arg9 harg9 arg10 harg10 arg11 harg11 v10 v12 v14 v16 v18 v20 v22 v24 v31 v32 v33 v39 v40 v41 v43 c f6 f7 f8 f9 f10 f11 k).l6⌝)
    ∗ (∃ f, (arg7.view.loc (c : Thread nD τ) ↦[arg7.view.set]{fullShare} f) ∗ ⌜f = arg7.view.writes (Elt F) f7 (pcsAt (F := F) arg0 harg0 arg1 harg1 arg2 harg2 arg3 harg3 arg4 harg4 arg5 harg5 arg6 harg6 arg7 harg7 arg8 harg8 arg9 harg9 arg10 harg10 arg11 harg11 v10 v12 v14 v16 v18 v20 v22 v24 v31 v32 v33 v39 v40 v41 v43 c f6 f7 f8 f9 f10 f11 k).l7⌝)
    ∗ (∃ f, (arg8.view.loc (c : Thread nD τ) ↦[arg8.view.set]{fullShare} f) ∗ ⌜f = arg8.view.writes (Elt F) f8 (pcsAt (F := F) arg0 harg0 arg1 harg1 arg2 harg2 arg3 harg3 arg4 harg4 arg5 harg5 arg6 harg6 arg7 harg7 arg8 harg8 arg9 harg9 arg10 harg10 arg11 harg11 v10 v12 v14 v16 v18 v20 v22 v24 v31 v32 v33 v39 v40 v41 v43 c f6 f7 f8 f9 f10 f11 k).l8⌝)
    ∗ (∃ f, (arg9.view.loc (c : Thread nD τ) ↦[arg9.view.set]{fullShare} f) ∗ ⌜f = arg9.view.writes (Elt F) f9 (pcsAt (F := F) arg0 harg0 arg1 harg1 arg2 harg2 arg3 harg3 arg4 harg4 arg5 harg5 arg6 harg6 arg7 harg7 arg8 harg8 arg9 harg9 arg10 harg10 arg11 harg11 v10 v12 v14 v16 v18 v20 v22 v24 v31 v32 v33 v39 v40 v41 v43 c f6 f7 f8 f9 f10 f11 k).l9⌝)
    ∗ (∃ f, (arg10.view.loc (c : Thread nD τ) ↦[arg10.view.set]{fullShare} f) ∗ ⌜f = arg10.view.writes (Elt F) f10 (pcsAt (F := F) arg0 harg0 arg1 harg1 arg2 harg2 arg3 harg3 arg4 harg4 arg5 harg5 arg6 harg6 arg7 harg7 arg8 harg8 arg9 harg9 arg10 harg10 arg11 harg11 v10 v12 v14 v16 v18 v20 v22 v24 v31 v32 v33 v39 v40 v41 v43 c f6 f7 f8 f9 f10 f11 k).l10⌝)
    ∗ (∃ f, (arg11.view.loc (c : Thread nD τ) ↦[arg11.view.set]{fullShare} f) ∗ ⌜f = arg11.view.writes (Elt F) f11 (pcsAt (F := F) arg0 harg0 arg1 harg1 arg2 harg2 arg3 harg3 arg4 harg4 arg5 harg5 arg6 harg6 arg7 harg7 arg8 harg8 arg9 harg9 arg10 harg10 arg11 harg11 v10 v12 v14 v16 v18 v20 v22 v24 v31 v32 v33 v39 v40 v41 v43 c f6 f7 f8 f9 f10 f11 k).l11⌝))

set_option warn.classDefReducibility false in
/-- The selection loop by its invariant: after it each of the six buffers holds its pieces over the entry's contents. -/
@[sl_loop] def loopInv1 (c : Dev nD) (f6 : BufTy.Contents (Elt F) arg6.view.ty) (f7 : BufTy.Contents (Elt F) arg7.view.ty) (f8 : BufTy.Contents (Elt F) arg8.view.ty)
    (f9 : BufTy.Contents (Elt F) arg9.view.ty) (f10 : BufTy.Contents (Elt F) arg10.view.ty) (f11 : BufTy.Contents (Elt F) arg11.view.ty) :
    LoopInvTy_k0_t1 (F := F) Unit ℕ (UR sig nD τ) ℕ Variants.none c none Set.univ arg0 harg0 arg1 harg1 arg2 harg2 arg3 harg3 arg4 harg4 arg5 harg5 arg6 harg6 arg7 harg7 arg8 harg8 arg9 harg9 arg10 harg10 arg11 harg11 v10 v12 v14 v16 v18 v20 v22 v24 v31 v32 v33 v39 v40 v41 v43 where
  inv := inv1 (F := F) arg0 harg0 arg1 harg1 arg2 harg2 arg3 harg3 arg4 harg4 arg5 harg5 arg6 harg6 arg7 harg7 arg8 harg8 arg9 harg9 arg10 harg10 arg11 harg11 v10 v12 v14 v16 v18 v20 v22 v24 v31 v32 v33 v39 v40 v41 v43 c f6 f7 f8 f9 f10 f11
  step k acc := by
    iintro ⟨⟨%g6, H6, %h6⟩, ⟨%g7, H7, %h7⟩, ⟨%g8, H8, %h8⟩, ⟨%g9, H9, %h9⟩, ⟨%g10, H10, %h10⟩, ⟨%g11, H11, %h11⟩⟩
    subst h6 h7 h8 h9 h10 h11
    iapply (wp_wand_r Idealize.ShloMosaic.frame (wpE (defs₀ (F := F)) Variants.none (c : Thread nD τ) none) Set.univ)
    isplitl [H6 H7 H8 H9 H10 H11]
    · iapply (trip1 (F := F) arg0 harg0 arg1 harg1 arg2 harg2 arg3 harg3 arg4 harg4 arg5 harg5 arg6 harg6 arg7 harg7 arg8 harg8 arg9 harg9 arg10 harg10 arg11 harg11 v10 v12 v14 v16 v18 v20 v22 v24 v31 v32 v33 v39 v40 v41 v43 c k _ _ _ _ _ _).2.2.2.2.2.2
      isplitl [H6]; · iexact H6
      isplitl [H7]; · iexact H7
      isplitl [H8]; · iexact H8
      isplitl [H9]; · iexact H9
      isplitl [H10]; · iexact H10
      iexact H11
    · iintro %_ ⟨H6, H7, H8, H9, H10, H11⟩
      unfold inv1; rw [pcsAt_succ]
      isplitl [H6]
      · iexists _; isplitl [H6]; · iexact H6
        ipureintro; unfold pcsNext; rw [← View.writes_append]
      isplitl [H7]
      · iexists _; isplitl [H7]; · iexact H7
        ipureintro; unfold pcsNext; rw [← View.writes_append]
      isplitl [H8]
      · iexists _; isplitl [H8]; · iexact H8
        ipureintro; unfold pcsNext; rw [← View.writes_append]
      isplitl [H9]
      · iexists _; isplitl [H9]; · iexact H9
        ipureintro; unfold pcsNext; rw [← View.writes_append]
      isplitl [H10]
      · iexists _; isplitl [H10]; · iexact H10
        ipureintro; unfold pcsNext; rw [← View.writes_append]
      iexists _; isplitl [H11]; · iexact H11
      ipureintro; unfold pcsNext; rw [← View.writes_append]

end Cert.KernelIdeal.Hand

end
-- ==== Proof.Loop1Value.lean ====
/-
  The selection loop's contents in closed form. The masked scores before trip `k` are `msAt k`, a recursion in the
  masked scores alone; a candidate table before trip `k` holds, in each column `j < k`, the column that trip `j` made
  of `msAt j`, and in the others what it held at the loop's entry.
-/
module

public import proofs.«01_k».proof.Proof.Loop1
public import Idealize.ShloMosaic.Lib.PointwiseCore
public import Idealize.ShloMosaic.Lib.VecWindow
public import Idealize.ShloMosaic.Lib.WritesUnit
public import Idealize.ShloMosaic.Lib.WordCmp
public import Idealize.ShloMosaic.Lib.Pipeline.Value

@[expose] public section

set_option maxRecDepth 32768
set_option maxHeartbeats 400000

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-- A load of a whole score table is its contents. -/
theorem readAt_ms (M : Memref sig .tc .vmem S160x5120 .f32) (f : BufTy.Contents (Elt F) M.view.ty) (inb) :
    M.view.readAt (Elt F) (Rect.unit (s := S160x5120) ![0, 0] ![160, 5120] inb).toLoadRect f = M.view.read (Elt F) f :=
  View.readAt_full M.view f inb

/-- A load of a whole candidate table is its contents. -/
theorem readAt_tab (M : Memref sig .tc .vmem S160x300 .f32) (f : BufTy.Contents (Elt F) M.view.ty) (inb) :
    M.view.readAt (Elt F) (Rect.unit (s := S160x300) ![0, 0] ![160, 300] inb).toLoadRect f = M.view.read (Elt F) f :=
  View.readAt_full M.view f inb

section Steps

variable (v10 v12 v14 v16 v18 v20 v22 v24 v31 v32 v33 : FVec F S1x5120 .f32) (v39 : IVec S160x5120 32) (v41 v43 : Vec F S1x5120x12 .bf16)

/-- The masked scores a trip leaves in class rows 0 … 79 (batch element 0). -/
def msLo (ms : Vec F S160x5120 .f32) : FVec F S80x5120 .f32 :=
  k0_pay17 v31 ms (k0_pay12 v39 (k0_pay2 v41) ms) (k0_pay14 v39 (k0_pay2 v41) ms) (k0_pay15 v10 v12 v14 v16 v39 (k0_pay2 v41) ms) (k0_pay16 v39 (k0_pay2 v41) ms)

/-- The masked scores a trip leaves in class rows 80 … 159 (batch element 1). -/
def msHi (ms : Vec F S160x5120 .f32) : FVec F S80x5120 .f32 :=
  k0_pay25 (k0_pay1 v20 v24 v32 v33) ms (k0_pay20 (k0_pay3 v43) (k0_pay9 v39 ms)) (k0_pay22 (k0_pay3 v43) (k0_pay9 v39 ms))
    (k0_pay23 v18 v20 v22 v24 (k0_pay3 v43) (k0_pay9 v39 ms)) (k0_pay24 (k0_pay3 v43) (k0_pay9 v39 ms))

/-- The masked scores a trip leaves. -/
def msNext (ms : Vec F S160x5120 .f32) : Vec F S160x5120 .f32 := fun y =>
  if h : (y 0).val < 80 then msLo v10 v12 v14 v16 v31 v39 v41 ms (ix2 ⟨(y 0).val, h⟩ (y 1))
  else msHi v18 v20 v22 v24 v32 v33 v39 v43 ms (ix2 ⟨(y 0).val - 80, by have h2 : (y 0).val < 160 := (y 0).isLt; omega⟩ (y 1))

/-- The masked scores before trip `k`. -/
def msAt (ms : Vec F S160x5120 .f32) : ℕ → Vec F S160x5120 .f32
  | 0 => ms
  | k + 1 => msNext v10 v12 v14 v16 v18 v20 v22 v24 v31 v32 v33 v39 v41 v43 (msAt ms k)

/-- The first coordinates a trip records, class row by class row. -/
def colX1 (ms : Vec F S160x5120 .f32) : FVec F S160x1 .f32 := k0_pay31 (k0_pay11 v39 (k0_pay2 v41) ms) (k0_pay19 (k0_pay3 v43) (k0_pay9 v39 ms))
/-- The second coordinates. -/
def colY1 (ms : Vec F S160x5120 .f32) : FVec F S160x1 .f32 := k0_pay31 (k0_pay12 v39 (k0_pay2 v41) ms) (k0_pay20 (k0_pay3 v43) (k0_pay9 v39 ms))
/-- The third coordinates. -/
def colX2 (ms : Vec F S160x5120 .f32) : FVec F S160x1 .f32 := k0_pay31 (k0_pay13 v39 (k0_pay2 v41) ms) (k0_pay21 (k0_pay3 v43) (k0_pay9 v39 ms))
/-- The fourth coordinates. -/
def colY2 (ms : Vec F S160x5120 .f32) : FVec F S160x1 .f32 := k0_pay31 (k0_pay14 v39 (k0_pay2 v41) ms) (k0_pay22 (k0_pay3 v43) (k0_pay9 v39 ms))

end Steps

/-- A candidate table before trip `k`: column `j < k` is what trip `j` recorded, the others are as at the entry. -/
def tabAt (col : ℕ → FVec F S160x1 .f32) (init : Vec F S160x300 .f32) (k : ℕ) : Vec F S160x300 .f32 := fun y =>
  if (y 1).val < k then col (y 1).val (ix2 (y 0) 0) else init y

/-- Before the first trip a table is as at the entry. -/
theorem tabAt_zero (col : ℕ → FVec F S160x1 .f32) (init : Vec F S160x300 .f32) : tabAt col init 0 = init := by
  funext y; unfold tabAt; exact if_neg (Nat.not_lt_zero _)

/-- One column written under the mask "column number is the trip number". -/
theorem tabAt_succ (v40 : IVec S160x300 32) (hv40 : ∀ y, v40 y = BitVec.ofNat 32 (y 1).val) (col : ℕ → FVec F S160x1 .f32) (init : Vec F S160x300 .f32)
    (k : Fin k0_t1_loop.trips) (y : S160x300.Idx) :
    Scalar.select (k0_pay26 v40 (Scf.iv 0#32 1#32 k) y) (col k.val (ix2 (y 0) 0)) (tabAt col init k.val y) = tabAt col init (k.val + 1) y := by
  have hk : k.val < 300 := Nat.lt_of_lt_of_le k.isLt k0_t1_abs.2.1
  have hy : (y 1).val < 300 := (y 1).isLt
  have hm : k0_pay26 v40 (Scf.iv 0#32 1#32 k) y = if (y 1).val = k.val then 1#1 else 0#1 := by
    have e : Scf.iv 0#32 1#32 k.val = BitVec.ofNat 32 k.val := by simp [Scf.iv]
    show IntOp.cmpi .eq (v40 y) (Scf.iv 0#32 1#32 k.val) = _
    rw [hv40 y, e, WordCmp.cmpi_eq_ofNat (by omega) (by omega)]
    by_cases h : (y 1).val = k.val <;> simp [h]
  rw [hm]
  unfold tabAt
  by_cases h : (y 1).val = k.val
  · have h' : (y 1).val < k.val + 1 := h ▸ Nat.lt_succ_self _
    rw [if_pos h, if_pos h', h]; rfl
  · rw [if_neg h]
    by_cases h2 : (y 1).val < k.val
    · rw [if_pos h2, if_pos (Nat.lt_succ_of_lt h2)]; rfl
    · rw [if_neg h2, if_neg (fun h3 => (Nat.lt_or_eq_of_le (Nat.le_of_lt_succ h3)).elim h2 h)]; rfl

/-- The score column stored by one trip, entry by entry: the new score in the trip's own column, the old entry elsewhere. -/
theorem pay27_apply (v40 : IVec S160x300 32) (t : BitVec 32) (m : FVec F S160x1 .f32) (c : Vec F S160x300 .f32) (y : S160x300.Idx) :
    k0_pay27 v40 t m c y = Scalar.select (k0_pay26 v40 t y) (m (ix2 (y 0) 0)) (c y) := by
  pointwise [k0_pay27]

/-- The fourth coordinate's column stored by one trip, entry by entry. -/
theorem pay30_apply (v40 : IVec S160x300 32) (t : BitVec 32) (a b : FVec F S80x1 .f32) (c : Vec F S160x300 .f32) (y : S160x300.Idx) :
    k0_pay30 v40 t a b c y = Scalar.select (k0_pay26 v40 t y) (k0_pay31 a b (ix2 (y 0) 0)) (c y) := by
  pointwise [k0_pay30, k0_pay31]

/-- The first coordinate's column stored by one trip, entry by entry, for a mask already computed. -/
theorem pay4_apply (v : IVec S160x300 1) (m : FVec F S160x1 .f32) (c : Vec F S160x300 .f32) (y : S160x300.Idx) :
    k0_pay4 v c m y = Scalar.select (v y) (m (ix2 (y 0) 0)) (c y) := by
  pointwise [k0_pay4]

/-- A middle coordinate's column stored by one trip, entry by entry, the two batch elements' columns one above the other. -/
theorem pay5_apply (v : IVec S160x300 1) (a b : FVec F S80x1 .f32) (c : Vec F S160x300 .f32) (y : S160x300.Idx) :
    k0_pay5 v (k0_pay28 a b) c y = Scalar.select (v y) (k0_pay31 a b (ix2 (y 0) 0)) (c y) := by
  pointwise [k0_pay5, k0_pay28, k0_pay31]

/-- The other middle coordinate's column stored by one trip, entry by entry. -/
theorem pay6_apply (v : IVec S160x300 1) (a b : FVec F S80x1 .f32) (c : Vec F S160x300 .f32) (y : S160x300.Idx) :
    k0_pay6 v (k0_pay29 a b) c y = Scalar.select (v y) (k0_pay31 a b (ix2 (y 0) 0)) (c y) := by
  pointwise [k0_pay6, k0_pay29, k0_pay31]

section Reads

variable (arg0 : Memref sig .tc .vmem S8x5120 .f32) (harg0 : arg0.IsWhole) (arg1 : Memref sig .tc .vmem S2x5120x12 .bf16) (harg1 : arg1.IsWhole)
  (arg2 : Memref sig .tc .vmem S160x5120 .f32) (harg2 : arg2.IsWhole) (arg3 : Memref sig .tc .vmem S2x4x300 .f32) (harg3 : arg3.IsWhole)
  (arg4 : Memref sig .tc .vmem S2x1x300 .f32) (harg4 : arg4.IsWhole) (arg5 : Memref sig .tc .vmem S2x1x300 .i32) (harg5 : arg5.IsWhole)
  (arg6 : Memref sig .tc .vmem S160x5120 .f32) (harg6 : arg6.IsWhole) (arg7 : Memref sig .tc .vmem S160x300 .f32) (harg7 : arg7.IsWhole)
  (arg8 : Memref sig .tc .vmem S160x300 .f32) (harg8 : arg8.IsWhole) (arg9 : Memref sig .tc .vmem S160x300 .f32) (harg9 : arg9.IsWhole)
  (arg10 : Memref sig .tc .vmem S160x300 .f32) (harg10 : arg10.IsWhole) (arg11 : Memref sig .tc .vmem S160x300 .f32) (harg11 : arg11.IsWhole)
  (v10 v12 v14 v16 v18 v20 v22 v24 v31 v32 v33 : FVec F S1x5120 .f32) (v39 : IVec S160x5120 32) (v40 : IVec S160x300 32) (v41 v43 : Vec F S1x5120x12 .bf16)

/-- One trip's masked scores. -/
theorem read_next_ms (c : Dev nD) (k : Fin k0_t1_loop.trips) (r : Raw F arg6 arg7 arg8 arg9 arg10 arg11) :
    arg6.view.read (Elt F) (rawNext (F := F) arg0 harg0 arg1 harg1 arg2 harg2 arg3 harg3 arg4 harg4 arg5 harg5 arg6 harg6 arg7 harg7 arg8 harg8 arg9 harg9 arg10 harg10 arg11 harg11 v10 v12 v14 v16 v18 v20 v22 v24 v31 v32 v33 v39 v40 v41 v43 c k r).f6 = msNext v10 v12 v14 v16 v18 v20 v22 v24 v31 v32 v33 v39 v41 v43 (arg6.view.read (Elt F) r.f6) := by
  unfold rawNext trip1
  dsimp only
  sl_unfold_words
  simp only [readAt_ms, readAt_tab]
  funext y
  have hy : (y 0).val < 160 := (y 0).isLt
  unfold msNext
  by_cases h : (y 0).val < 80
  · rw [dif_pos h]
    rw [View.read_writes_cons_rows_of_not_mem (o := 80) (W := 80) _ _ _ _ _ _ rfl rfl (Or.inl h)]
    exact View.read_writes_cons_rows_of_mem (o := 0) _ _ _ _ _ _ (ix2 ⟨(y 0).val, h⟩ (y 1)) rfl (Nat.zero_add _).symm rfl
  · rw [dif_neg h]
    exact View.read_writes_cons_rows_of_mem (o := 80) _ _ _ _ _ _ (ix2 ⟨(y 0).val - 80, by omega⟩ (y 1)) rfl (by show (y 0).val = 80 + ((y 0).val - 80); omega) rfl

/-- One trip's column of the table `arg7`. -/
theorem read_next_cs (c : Dev nD) (k : Fin k0_t1_loop.trips) (r : Raw F arg6 arg7 arg8 arg9 arg10 arg11) :
    arg7.view.read (Elt F) (rawNext (F := F) arg0 harg0 arg1 harg1 arg2 harg2 arg3 harg3 arg4 harg4 arg5 harg5 arg6 harg6 arg7 harg7 arg8 harg8 arg9 harg9 arg10 harg10 arg11 harg11 v10 v12 v14 v16 v18 v20 v22 v24 v31 v32 v33 v39 v40 v41 v43 c k r).f7 = fun y => Scalar.select (k0_pay26 v40 (Scf.iv 0#32 1#32 k) y) ((fun r => k0_pay8 r) (arg6.view.read (Elt F) r.f6) (ix2 (y 0) 0)) (arg7.view.read (Elt F) r.f7 y) := by
  unfold rawNext trip1
  dsimp only
  sl_unfold_words
  simp only [readAt_ms, readAt_tab]
  rw [View.read_writes_full]
  funext y
  rw [pay27_apply]
  all_goals first | rfl | (unfold colX1; rfl) | (unfold colY1; rfl)

/-- One trip's column of the table `arg8`. -/
theorem read_next_x1 (c : Dev nD) (k : Fin k0_t1_loop.trips) (r : Raw F arg6 arg7 arg8 arg9 arg10 arg11) :
    arg8.view.read (Elt F) (rawNext (F := F) arg0 harg0 arg1 harg1 arg2 harg2 arg3 harg3 arg4 harg4 arg5 harg5 arg6 harg6 arg7 harg7 arg8 harg8 arg9 harg9 arg10 harg10 arg11 harg11 v10 v12 v14 v16 v18 v20 v22 v24 v31 v32 v33 v39 v40 v41 v43 c k r).f8 = fun y => Scalar.select (k0_pay26 v40 (Scf.iv 0#32 1#32 k) y) ((colX1 v39 v41 v43) (arg6.view.read (Elt F) r.f6) (ix2 (y 0) 0)) (arg8.view.read (Elt F) r.f8 y) := by
  unfold rawNext trip1
  dsimp only
  sl_unfold_words
  simp only [readAt_ms, readAt_tab]
  rw [View.read_writes_full]
  funext y
  rw [pay30_apply]
  all_goals first | rfl | (unfold colX1; rfl) | (unfold colY1; rfl)

/-- One trip's column of the table `arg9`. -/
theorem read_next_y1 (c : Dev nD) (k : Fin k0_t1_loop.trips) (r : Raw F arg6 arg7 arg8 arg9 arg10 arg11) :
    arg9.view.read (Elt F) (rawNext (F := F) arg0 harg0 arg1 harg1 arg2 harg2 arg3 harg3 arg4 harg4 arg5 harg5 arg6 harg6 arg7 harg7 arg8 harg8 arg9 harg9 arg10 harg10 arg11 harg11 v10 v12 v14 v16 v18 v20 v22 v24 v31 v32 v33 v39 v40 v41 v43 c k r).f9 = fun y => Scalar.select (k0_pay26 v40 (Scf.iv 0#32 1#32 k) y) ((colY1 v39 v41 v43) (arg6.view.read (Elt F) r.f6) (ix2 (y 0) 0)) (arg9.view.read (Elt F) r.f9 y) := by
  unfold rawNext trip1
  dsimp only
  sl_unfold_words
  simp only [readAt_ms, readAt_tab]
  rw [View.read_writes_full]
  funext y
  rw [pay4_apply]
  all_goals first | rfl | (unfold colX1; rfl) | (unfold colY1; rfl)

/-- One trip's column of the table `arg10`. -/
theorem read_next_x2 (c : Dev nD) (k : Fin k0_t1_loop.trips) (r : Raw F arg6 arg7 arg8 arg9 arg10 arg11) :
    arg10.view.read (Elt F) (rawNext (F := F) arg0 harg0 arg1 harg1 arg2 harg2 arg3 harg3 arg4 harg4 arg5 harg5 arg6 harg6 arg7 harg7 arg8 harg8 arg9 harg9 arg10 harg10 arg11 harg11 v10 v12 v14 v16 v18 v20 v22 v24 v31 v32 v33 v39 v40 v41 v43 c k r).f10 = fun y => Scalar.select (k0_pay26 v40 (Scf.iv 0#32 1#32 k) y) ((colX2 v39 v41 v43) (arg6.view.read (Elt F) r.f6) (ix2 (y 0) 0)) (arg10.view.read (Elt F) r.f10 y) := by
  unfold rawNext trip1
  dsimp only
  sl_unfold_words
  simp only [readAt_ms, readAt_tab]
  rw [View.read_writes_full]
  funext y
  rw [pay5_apply]
  all_goals first | rfl | (unfold colX1; rfl) | (unfold colY1; rfl)

/-- One trip's column of the table `arg11`. -/
theorem read_next_y2 (c : Dev nD) (k : Fin k0_t1_loop.trips) (r : Raw F arg6 arg7 arg8 arg9 arg10 arg11) :
    arg11.view.read (Elt F) (rawNext (F := F) arg0 harg0 arg1 harg1 arg2 harg2 arg3 harg3 arg4 harg4 arg5 harg5 arg6 harg6 arg7 harg7 arg8 harg8 arg9 harg9 arg10 harg10 arg11 harg11 v10 v12 v14 v16 v18 v20 v22 v24 v31 v32 v33 v39 v40 v41 v43 c k r).f11 = fun y => Scalar.select (k0_pay26 v40 (Scf.iv 0#32 1#32 k) y) ((colY2 v39 v41 v43) (arg6.view.read (Elt F) r.f6) (ix2 (y 0) 0)) (arg11.view.read (Elt F) r.f11 y) := by
  unfold rawNext trip1
  dsimp only
  sl_unfold_words
  simp only [readAt_ms, readAt_tab]
  rw [View.read_writes_full]
  funext y
  rw [pay6_apply]
  all_goals first | rfl | (unfold colX1; rfl) | (unfold colY1; rfl)

/-- The six contents before trip `k`, in closed form. -/
theorem reads (hv40 : ∀ y, v40 y = BitVec.ofNat 32 (y 1).val) (c : Dev nD) (f6 : BufTy.Contents (Elt F) arg6.view.ty) (f7 : BufTy.Contents (Elt F) arg7.view.ty) (f8 : BufTy.Contents (Elt F) arg8.view.ty)
    (f9 : BufTy.Contents (Elt F) arg9.view.ty) (f10 : BufTy.Contents (Elt F) arg10.view.ty) (f11 : BufTy.Contents (Elt F) arg11.view.ty) (k : ℕ) (hk : k ≤ k0_t1_loop.trips) :
    arg6.view.read (Elt F) (rawAt (F := F) arg0 harg0 arg1 harg1 arg2 harg2 arg3 harg3 arg4 harg4 arg5 harg5 arg6 harg6 arg7 harg7 arg8 harg8 arg9 harg9 arg10 harg10 arg11 harg11 v10 v12 v14 v16 v18 v20 v22 v24 v31 v32 v33 v39 v40 v41 v43 c f6 f7 f8 f9 f10 f11 k).f6 = msAt v10 v12 v14 v16 v18 v20 v22 v24 v31 v32 v33 v39 v41 v43 (arg6.view.read (Elt F) f6) k
    ∧ arg7.view.read (Elt F) (rawAt (F := F) arg0 harg0 arg1 harg1 arg2 harg2 arg3 harg3 arg4 harg4 arg5 harg5 arg6 harg6 arg7 harg7 arg8 harg8 arg9 harg9 arg10 harg10 arg11 harg11 v10 v12 v14 v16 v18 v20 v22 v24 v31 v32 v33 v39 v40 v41 v43 c f6 f7 f8 f9 f10 f11 k).f7 = tabAt (fun j => k0_pay8 (msAt v10 v12 v14 v16 v18 v20 v22 v24 v31 v32 v33 v39 v41 v43 (arg6.view.read (Elt F) f6) j)) (arg7.view.read (Elt F) f7) k
    ∧ arg8.view.read (Elt F) (rawAt (F := F) arg0 harg0 arg1 harg1 arg2 harg2 arg3 harg3 arg4 harg4 arg5 harg5 arg6 harg6 arg7 harg7 arg8 harg8 arg9 harg9 arg10 harg10 arg11 harg11 v10 v12 v14 v16 v18 v20 v22 v24 v31 v32 v33 v39 v40 v41 v43 c f6 f7 f8 f9 f10 f11 k).f8 = tabAt (fun j => colX1 v39 v41 v43 (msAt v10 v12 v14 v16 v18 v20 v22 v24 v31 v32 v33 v39 v41 v43 (arg6.view.read (Elt F) f6) j)) (arg8.view.read (Elt F) f8) k
    ∧ arg9.view.read (Elt F) (rawAt (F := F) arg0 harg0 arg1 harg1 arg2 harg2 arg3 harg3 arg4 harg4 arg5 harg5 arg6 harg6 arg7 harg7 arg8 harg8 arg9 harg9 arg10 harg10 arg11 harg11 v10 v12 v14 v16 v18 v20 v22 v24 v31 v32 v33 v39 v40 v41 v43 c f6 f7 f8 f9 f10 f11 k).f9 = tabAt (fun j => colY1 v39 v41 v43 (msAt v10 v12 v14 v16 v18 v20 v22 v24 v31 v32 v33 v39 v41 v43 (arg6.view.read (Elt F) f6) j)) (arg9.view.read (Elt F) f9) k
    ∧ arg10.view.read (Elt F) (rawAt (F := F) arg0 harg0 arg1 harg1 arg2 harg2 arg3 harg3 arg4 harg4 arg5 harg5 arg6 harg6 arg7 harg7 arg8 harg8 arg9 harg9 arg10 harg10 arg11 harg11 v10 v12 v14 v16 v18 v20 v22 v24 v31 v32 v33 v39 v40 v41 v43 c f6 f7 f8 f9 f10 f11 k).f10 = tabAt (fun j => colX2 v39 v41 v43 (msAt v10 v12 v14 v16 v18 v20 v22 v24 v31 v32 v33 v39 v41 v43 (arg6.view.read (Elt F) f6) j)) (arg10.view.read (Elt F) f10) k
    ∧ arg11.view.read (Elt F) (rawAt (F := F) arg0 harg0 arg1 harg1 arg2 harg2 arg3 harg3 arg4 harg4 arg5 harg5 arg6 harg6 arg7 harg7 arg8 harg8 arg9 harg9 arg10 harg10 arg11 harg11 v10 v12 v14 v16 v18 v20 v22 v24 v31 v32 v33 v39 v40 v41 v43 c f6 f7 f8 f9 f10 f11 k).f11 = tabAt (fun j => colY2 v39 v41 v43 (msAt v10 v12 v14 v16 v18 v20 v22 v24 v31 v32 v33 v39 v41 v43 (arg6.view.read (Elt F) f6) j)) (arg11.view.read (Elt F) f11) k := by
  induction k with
  | zero => exact ⟨rfl, (tabAt_zero _ _).symm, (tabAt_zero _ _).symm, (tabAt_zero _ _).symm, (tabAt_zero _ _).symm, (tabAt_zero _ _).symm⟩
  | succ k ih =>
    obtain ⟨h6, h7, h8, h9, h10, h11⟩ := ih (Nat.le_of_succ_le hk)
    have e := rawAt_succ (F := F) arg0 harg0 arg1 harg1 arg2 harg2 arg3 harg3 arg4 harg4 arg5 harg5 arg6 harg6 arg7 harg7 arg8 harg8 arg9 harg9 arg10 harg10 arg11 harg11 v10 v12 v14 v16 v18 v20 v22 v24 v31 v32 v33 v39 v40 v41 v43 c f6 f7 f8 f9 f10 f11 ⟨k, hk⟩
    dsimp only at e
    rw [e]
    refine ⟨?_, ?_, ?_, ?_, ?_, ?_⟩
    · rw [read_next_ms, h6]; rfl
    · rw [read_next_cs, h6, h7]; funext y; exact tabAt_succ v40 hv40 (fun j => k0_pay8 (msAt v10 v12 v14 v16 v18 v20 v22 v24 v31 v32 v33 v39 v41 v43 (arg6.view.read (Elt F) f6) j)) _ ⟨k, hk⟩ y
    · rw [read_next_x1, h6, h8]; funext y; exact tabAt_succ v40 hv40 _ _ ⟨k, hk⟩ y
    · rw [read_next_y1, h6, h9]; funext y; exact tabAt_succ v40 hv40 _ _ ⟨k, hk⟩ y
    · rw [read_next_x2, h6, h10]; funext y; exact tabAt_succ v40 hv40 _ _ ⟨k, hk⟩ y
    · rw [read_next_y2, h6, h11]; funext y; exact tabAt_succ v40 hv40 _ _ ⟨k, hk⟩ y

end Reads

end Cert.KernelIdeal.Hand

end
-- ==== Proof.Loop2Value.lean ====
/-
  The merging loop's contents in closed form. The two halves of the candidate scores (one per batch element) are
  iterated by one function each, "strike out the best candidate"; an output's column `j < k` before trip `k` is what
  trip `j` recorded of the halves before it, and the other columns are as at the loop's entry.
-/
module

public import proofs.«01_k».proof.Proof.Loop1Value

@[expose] public section

set_option maxRecDepth 32768
set_option maxHeartbeats 400000

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-- Batch element 0's rows of a candidate table. -/
def lowRows (C : Vec F S160x300 .f32) : Vec F S80x300 .f32 := fun y => C (ix2 ⟨(y 0).val, Nat.lt_of_lt_of_le (y 0).isLt (by decide : 80 ≤ 160)⟩ (y 1))
/-- Batch element 1's rows of a candidate table. -/
def highRows (C : Vec F S160x300 .f32) : Vec F S80x300 .f32 := fun y => C (ix2 ⟨80 + (y 0).val, Nat.add_lt_add_left (y 0).isLt 80⟩ (y 1))
/-- Batch element `b`'s rows of a candidate table. -/
def rowsOf (b : ℕ) (C : Vec F S160x300 .f32) : Vec F S80x300 .f32 := if b = 0 then lowRows C else highRows C

/-- Reading the first 80 rows of a table gives the first batch element's rows. -/
theorem readAt_low (M : Memref sig .tc .vmem S160x300 .f32) (f : BufTy.Contents (Elt F) M.view.ty) (inb) :
    M.view.readAt (Elt F) (Rect.unit (s := S160x300) ![0, 0] ![80, 300] inb).toLoadRect f = lowRows (M.view.read (Elt F) f) := by
  funext y
  show M.view.read (Elt F) f _ = M.view.read (Elt F) f _
  refine congrArg _ (funext fun a => Fin.ext ?_)
  match a with
  | ⟨0, _⟩ => show 0 + 1 * (y 0).val = (y 0).val; omega
  | ⟨1, _⟩ => show 0 + 1 * (y 1).val = (y 1).val; omega

/-- Reading the last 80 rows of a table gives the second batch element's rows. -/
theorem readAt_high (M : Memref sig .tc .vmem S160x300 .f32) (f : BufTy.Contents (Elt F) M.view.ty) (inb) :
    M.view.readAt (Elt F) (Rect.unit (s := S160x300) ![80, 0] ![80, 300] inb).toLoadRect f = highRows (M.view.read (Elt F) f) := by
  funext y
  show M.view.read (Elt F) f _ = M.view.read (Elt F) f _
  refine congrArg _ (funext fun a => Fin.ext ?_)
  match a with
  | ⟨0, _⟩ => show 80 + 1 * (y 0).val = 80 + (y 0).val; omega
  | ⟨1, _⟩ => show 0 + 1 * (y 1).val = (y 1).val; omega

/-- A load of a rectangle at an index of it is the contents at the index moved by the rectangle's offset. -/
theorem readAt_moved {s : Shape} {e : EltTy} (M : Memref sig .tc .vmem s e) (f : BufTy.Contents (Elt F) M.view.ty) {off size : Fin s.rank → ℕ} (inb)
    (x : (Rect.unit (s := s) off size inb).shape.Idx) (y : s.Idx) (h : ∀ a, (y a).val = off a + (x a).val) :
    M.view.readAt (Elt F) (Rect.unit (s := s) off size inb).toLoadRect f x = M.view.read (Elt F) f y := by
  show M.view.read (Elt F) f _ = M.view.read (Elt F) f _
  refine congrArg _ (funext fun a => Fin.ext ?_)
  show off a + 1 * (x a).val = (y a).val
  rw [h a, Nat.one_mul]

/-! ## What one trip records of one batch element's candidate scores -/

/-- The candidate scores with the best one struck out. -/
def strike (h : Vec F S80x300 .f32) : Vec F S80x300 .f32 := k0_pay37 k0_pay7 h

/-- The score recorded. -/
def recScore (h : Vec F S80x300 .f32) : F .f32 :=
  Scalar.select (k0_pay35 h (ix2 0 0)) (k0_pay34 h (ix2 0 0)) (Scalar.ofBits .f32 0xBF800000#32)

/-- The class label recorded. -/
def recLabel (v46 : IVec S80x300 32) (h : Vec F S80x300 .f32) : BitVec 32 :=
  Scalar.select (k0_pay35 h (ix2 0 0)) (k0_pay38 v46 k0_pay7 h (ix2 0 0)) 4294967295#32

/-- The four recorded coordinates, of the four candidate tables. -/
def recBox (h x1 y1 x2 y2 : Vec F S80x300 .f32) (j : Fin 4) : F .f32 :=
  Scalar.select (k0_pay35 h (ix2 0 0))
    (![k0_pay40 (k0_pay36 k0_pay7 h) x1 (ix2 0 0), k0_pay40 (k0_pay36 k0_pay7 h) y1 (ix2 0 0), k0_pay40 (k0_pay36 k0_pay7 h) x2 (ix2 0 0),
      k0_pay40 (k0_pay36 k0_pay7 h) y2 (ix2 0 0)] j) (Scalar.ofBits .f32 0xBF800000#32)

/-- Batch element `b`'s candidate scores before trip `k`. -/
def candAt (b : ℕ) (C : Vec F S160x300 .f32) : ℕ → Vec F S80x300 .f32
  | 0 => rowsOf b C
  | k + 1 => strike (candAt b C k)

/-- The score row stored by one merge trip, entry by entry: the winner's score or -1 in the trip's own column, the old entry elsewhere. -/
theorem pay43_apply (v55 : IVec S1x300 1) (v63 : FVec F S1x1 .f32) (v65 : IVec S1x1 1) (v123 : Vec F S1x1x300 .f32) (y : S1x1x300.Idx) :
    k0_pay43 v55 v63 v65 v123 y
      = Scalar.select (v55 (ix2 0 (y 2))) (Scalar.select (v65 (ix2 0 0)) (v63 (ix2 0 0)) (Scalar.ofBits .f32 0xBF800000#32)) (v123 y) := by
  pointwise [k0_pay43]

/-- The label row stored by one merge trip, entry by entry: the winner's class or -1 in the trip's own column. -/
theorem pay45_apply (v55 : IVec S1x300 1) (v65 : IVec S1x1 1) (v88 : IVec S1x1 32) (v133 : Vec F S1x1x300 .i32) (y : S1x1x300.Idx) :
    k0_pay45 v55 (k0_pay44 v65 v88) v133 y
      = Scalar.select (v55 (ix2 0 (y 2))) (Scalar.select (v65 (ix2 0 0)) (v88 (ix2 0 0)) 4294967295#32) (v133 y) := by
  pointwise [k0_pay45, k0_pay44]

/-- The four coordinate rows stored by one merge trip, entry by entry: the winner's coordinates or -1 in the trip's own column. -/
theorem pay46_apply (v57 : IVec S4x300 1) (v65 : IVec S1x1 1) (a b c d : FVec F S1x1 .f32) (v : Vec F S1x4x300 .f32) (y : S1x4x300.Idx) :
    k0_pay46 v57 v65 a b c d v y
      = Scalar.select (v57 (ix2 (y 1) (y 2))) (Scalar.select (v65 (ix2 0 0)) ((![a (ix2 0 0), b (ix2 0 0), c (ix2 0 0), d (ix2 0 0)] : Fin 4 → F .f32) (y 1)) (Scalar.ofBits .f32 0xBF800000#32)) (v y) := by
  pointwise [k0_pay46]
  generalize y 1 = j
  fin_cases j <;> rfl

/-! ## One trip's outputs -/

/-- An output before trip `k`: column `j < k` is what trip `j` recorded, the others are as at the entry. -/
def outAt {n : ℕ} {α : Type} (col : ℕ → ℕ → Fin n → α) (init : (⟨3, ![2, n, 300]⟩ : Shape).Idx → α) (k : ℕ) : (⟨3, ![2, n, 300]⟩ : Shape).Idx → α := fun y =>
  if (y 2).val < k then col (y 2).val (y 0).val (y 1) else init y

/-- Before the first trip an output is as at the entry. -/
theorem outAt_zero {n : ℕ} {α : Type} (col : ℕ → ℕ → Fin n → α) (init : (⟨3, ![2, n, 300]⟩ : Shape).Idx → α) : outAt col init 0 = init := by
  funext y; unfold outAt; exact if_neg (Nat.not_lt_zero _)

/-- One column of an output written under a mask that is 1 at the trip's own column only. -/
theorem outAt_succ {n : ℕ} {α : Type} (col : ℕ → ℕ → Fin n → α) (init : (⟨3, ![2, n, 300]⟩ : Shape).Idx → α) (k : ℕ) (y : (⟨3, ![2, n, 300]⟩ : Shape).Idx)
    (c : BitVec 1) (hc : c = if (y 2).val = k then 1#1 else 0#1) :
    Scalar.select c (col k (y 0).val (y 1)) (outAt col init k y) = outAt col init (k + 1) y := by
  rw [hc]
  unfold outAt
  by_cases h : (y 2).val = k
  · have h' : (y 2).val < k + 1 := h ▸ Nat.lt_succ_self _
    rw [if_pos h, if_pos h', h]; rfl
  · rw [if_neg h]
    by_cases h2 : (y 2).val < k
    · rw [if_pos h2, if_pos (Nat.lt_succ_of_lt h2)]; rfl
    · rw [if_neg h2, if_neg (fun h3 => (Nat.lt_or_eq_of_le (Nat.le_of_lt_succ h3)).elim h2 h)]; rfl

/-- The mask of a single row is 1 at the trip's own column only. -/
theorem mask32 (v51 : IVec S1x300 32) (h : ∀ y, v51 y = BitVec.ofNat 32 (y 1).val) (k : Fin k0_t2_loop.trips) (j : Fin 300) :
    k0_pay32 v51 0#32 1#32 k (ix2 0 j) = if j.val = k.val then 1#1 else 0#1 := by
  have hk : k.val < 300 := Nat.lt_of_lt_of_le k.isLt k0_t2_abs.2.1
  have hj : j.val < 300 := j.isLt
  have e : Scf.iv 0#32 1#32 k.val = BitVec.ofNat 32 k.val := by simp [Scf.iv]
  show IntOp.cmpi .eq (v51 (ix2 0 j)) (Scf.iv 0#32 1#32 k.val) = _
  rw [h, e, WordCmp.cmpi_eq_ofNat (by show j.val < _; omega) (by omega)]
  show BitVec.ofBool (decide (j.val = k.val)) = _
  by_cases h : j.val = k.val <;> simp [h]

/-- The mask of the four coordinate rows is 1 at the trip's own column only. -/
theorem mask33 (v52 : IVec S4x300 32) (h : ∀ y, v52 y = BitVec.ofNat 32 (y 1).val) (k : Fin k0_t2_loop.trips) (i : Fin 4) (j : Fin 300) :
    k0_pay33 v52 0#32 1#32 k (ix2 i j) = if j.val = k.val then 1#1 else 0#1 := by
  have hk : k.val < 300 := Nat.lt_of_lt_of_le k.isLt k0_t2_abs.2.1
  have hj : j.val < 300 := j.isLt
  have e : Scf.iv 0#32 1#32 k.val = BitVec.ofNat 32 k.val := by simp [Scf.iv]
  show IntOp.cmpi .eq (v52 (ix2 i j)) (Scf.iv 0#32 1#32 k.val) = _
  rw [h, e, WordCmp.cmpi_eq_ofNat (by show j.val < _; omega) (by omega)]
  show BitVec.ofBool (decide (j.val = k.val)) = _
  by_cases h : j.val = k.val <;> simp [h]

section Reads

variable (arg0 : Memref sig .tc .vmem S8x5120 .f32) (harg0 : arg0.IsWhole) (arg1 : Memref sig .tc .vmem S2x5120x12 .bf16) (harg1 : arg1.IsWhole)
  (arg2 : Memref sig .tc .vmem S160x5120 .f32) (harg2 : arg2.IsWhole) (arg3 : Memref sig .tc .vmem S2x4x300 .f32) (harg3 : arg3.IsWhole)
  (arg4 : Memref sig .tc .vmem S2x1x300 .f32) (harg4 : arg4.IsWhole) (arg5 : Memref sig .tc .vmem S2x1x300 .i32) (harg5 : arg5.IsWhole)
  (arg6 : Memref sig .tc .vmem S160x5120 .f32) (harg6 : arg6.IsWhole) (arg7 : Memref sig .tc .vmem S160x300 .f32) (harg7 : arg7.IsWhole)
  (arg8 : Memref sig .tc .vmem S160x300 .f32) (harg8 : arg8.IsWhole) (arg9 : Memref sig .tc .vmem S160x300 .f32) (harg9 : arg9.IsWhole)
  (arg10 : Memref sig .tc .vmem S160x300 .f32) (harg10 : arg10.IsWhole) (arg11 : Memref sig .tc .vmem S160x300 .f32) (harg11 : arg11.IsWhole)
  (v46 : IVec S80x300 32) (v51 : IVec S1x300 32) (v52 : IVec S4x300 32)
  (X8 : BufTy.Contents (Elt F) arg8.view.ty) (X9 : BufTy.Contents (Elt F) arg9.view.ty) (X10 : BufTy.Contents (Elt F) arg10.view.ty) (X11 : BufTy.Contents (Elt F) arg11.view.ty)

/-- One trip's candidate scores, batch element 0. -/
theorem step_low (𝒱 : Variants) (c : Dev nD) (bd : Option 𝒱.V) (k : Fin k0_t2_loop.trips) (f3 : BufTy.Contents (Elt F) arg3.view.ty) (f4 : BufTy.Contents (Elt F) arg4.view.ty) (f5 : BufTy.Contents (Elt F) arg5.view.ty) (f7 : BufTy.Contents (Elt F) arg7.view.ty) :
    lowRows (arg7.view.read (Elt F) (arg7.view.writes (Elt F) f7 ((trip_k0_t2 (F := F) 𝒱 c bd arg0 harg0 arg1 harg1 arg2 harg2 arg3 harg3 arg4 harg4 arg5 harg5 arg6 harg6 arg7 harg7 arg8 harg8 arg9 harg9 arg10 harg10 arg11 harg11 v46 v51 v52 X8 X9 X10 X11 k).2.2.2.1 f3 f4 f5 f7))) = strike (lowRows (arg7.view.read (Elt F) f7)) := by
  unfold trip_k0_t2
  dsimp only
  sl_unfold_words
  simp only [readAt_low, readAt_high]
  funext y
  have hy : (y 0).val < 80 := (y 0).isLt
  unfold lowRows
  generalize hY : (ix2 (⟨(y 0).val, Nat.lt_of_lt_of_le (y 0).isLt (by decide : 80 ≤ 160)⟩ : Fin 160) (y 1 : Fin 300) : S160x300.Idx) = Y
  have h0 : (Y 0).val = (y 0).val := by rw [← hY]; rfl
  have h1 : (Y 1).val = (y 1).val := by rw [← hY]; rfl
  rw [View.read_writes_cons_rows_of_not_mem (o := 80) (W := 80) _ _ _ _ _ _ rfl rfl (Or.inl (h0 ▸ hy))]
  exact View.read_writes_cons_rows_of_mem (o := 0) _ _ _ _ _ _ y rfl (by rw [h0]; exact (Nat.zero_add _).symm) h1

/-- One trip's candidate scores, batch element 1. -/
theorem step_high (𝒱 : Variants) (c : Dev nD) (bd : Option 𝒱.V) (k : Fin k0_t2_loop.trips) (f3 : BufTy.Contents (Elt F) arg3.view.ty) (f4 : BufTy.Contents (Elt F) arg4.view.ty) (f5 : BufTy.Contents (Elt F) arg5.view.ty) (f7 : BufTy.Contents (Elt F) arg7.view.ty) :
    highRows (arg7.view.read (Elt F) (arg7.view.writes (Elt F) f7 ((trip_k0_t2 (F := F) 𝒱 c bd arg0 harg0 arg1 harg1 arg2 harg2 arg3 harg3 arg4 harg4 arg5 harg5 arg6 harg6 arg7 harg7 arg8 harg8 arg9 harg9 arg10 harg10 arg11 harg11 v46 v51 v52 X8 X9 X10 X11 k).2.2.2.1 f3 f4 f5 f7))) = strike (highRows (arg7.view.read (Elt F) f7)) := by
  unfold trip_k0_t2
  dsimp only
  sl_unfold_words
  simp only [readAt_low, readAt_high]
  funext y
  show arg7.view.read (Elt F) _ _ = _
  exact View.read_writes_cons_rows_of_mem (o := 80) _ _ _ _ _ _ y rfl rfl rfl

/-- One trip's scores. -/
theorem step_score (𝒱 : Variants) (c : Dev nD) (bd : Option 𝒱.V) (k : Fin k0_t2_loop.trips) (f3 : BufTy.Contents (Elt F) arg3.view.ty) (f4 : BufTy.Contents (Elt F) arg4.view.ty) (f5 : BufTy.Contents (Elt F) arg5.view.ty) (f7 : BufTy.Contents (Elt F) arg7.view.ty) (y : S2x1x300.Idx) :
    arg4.view.read (Elt F) (arg4.view.writes (Elt F) f4 ((trip_k0_t2 (F := F) 𝒱 c bd arg0 harg0 arg1 harg1 arg2 harg2 arg3 harg3 arg4 harg4 arg5 harg5 arg6 harg6 arg7 harg7 arg8 harg8 arg9 harg9 arg10 harg10 arg11 harg11 v46 v51 v52 X8 X9 X10 X11 k).2.1 f3 f4 f5 f7)) y
      = Scalar.select (k0_pay32 v51 0#32 1#32 k (ix2 0 (y 2))) (recScore (rowsOf (y 0).val (arg7.view.read (Elt F) f7))) (arg4.view.read (Elt F) f4 y) := by
  unfold trip_k0_t2
  dsimp only
  sl_unfold_words
  simp only [readAt_low, readAt_high]
  have hy : (y 0).val < 2 := (y 0).isLt
  by_cases h : (y 0).val = 0
  · have hx : ∀ a, (y a).val = (![0, 0, 0] : Fin 3 → ℕ) a + ((ix3 0 (y 1) (y 2) : S1x1x300.Idx) a).val :=
      Fin.forall_fin_succ.mpr ⟨by simpa using h, Fin.forall_fin_two.mpr ⟨(Nat.zero_add _).symm, (Nat.zero_add _).symm⟩⟩
    refine (View.read_writes_cons_unit_of_not_mem _ _ _ _ _ y rfl (0 : Fin 3) (Or.inl (by show (y 0).val < 1; omega))).trans ?_
    refine (View.read_writes_cons_unit_of_mem _ _ _ _ _ y (ix3 0 (y 1) (y 2)) rfl hx).trans ?_
    rw [rowsOf, if_pos h]
    refine (pay43_apply _ _ _ _ _).trans ?_
    refine (congrArg (Scalar.select _ _) (readAt_moved arg4 f4 _ _ y hx)).trans ?_
    rfl
  · have hx : ∀ a, (y a).val = (![1, 0, 0] : Fin 3 → ℕ) a + ((ix3 0 (y 1) (y 2) : S1x1x300.Idx) a).val :=
      Fin.forall_fin_succ.mpr ⟨by show (y 0).val = 1 + 0; omega, Fin.forall_fin_two.mpr ⟨(Nat.zero_add _).symm, (Nat.zero_add _).symm⟩⟩
    refine (View.read_writes_cons_unit_of_mem _ _ _ _ _ y (ix3 0 (y 1) (y 2)) rfl hx).trans ?_
    rw [rowsOf, if_neg h]
    refine (pay43_apply _ _ _ _ _).trans ?_
    refine (congrArg (Scalar.select _ _) (readAt_moved arg4 f4 _ _ y hx)).trans ?_
    rfl

/-- One trip's labels. -/
theorem step_label (𝒱 : Variants) (c : Dev nD) (bd : Option 𝒱.V) (k : Fin k0_t2_loop.trips) (f3 : BufTy.Contents (Elt F) arg3.view.ty) (f4 : BufTy.Contents (Elt F) arg4.view.ty) (f5 : BufTy.Contents (Elt F) arg5.view.ty) (f7 : BufTy.Contents (Elt F) arg7.view.ty) (y : S2x1x300.Idx) :
    arg5.view.read (Elt F) (arg5.view.writes (Elt F) f5 ((trip_k0_t2 (F := F) 𝒱 c bd arg0 harg0 arg1 harg1 arg2 harg2 arg3 harg3 arg4 harg4 arg5 harg5 arg6 harg6 arg7 harg7 arg8 harg8 arg9 harg9 arg10 harg10 arg11 harg11 v46 v51 v52 X8 X9 X10 X11 k).2.2.1 f3 f4 f5 f7)) y
      = Scalar.select (k0_pay32 v51 0#32 1#32 k (ix2 0 (y 2))) (recLabel v46 (rowsOf (y 0).val (arg7.view.read (Elt F) f7))) (arg5.view.read (Elt F) f5 y) := by
  unfold trip_k0_t2
  dsimp only
  sl_unfold_words
  simp only [readAt_low, readAt_high]
  have hy : (y 0).val < 2 := (y 0).isLt
  by_cases h : (y 0).val = 0
  · have hx : ∀ a, (y a).val = (![0, 0, 0] : Fin 3 → ℕ) a + ((ix3 0 (y 1) (y 2) : S1x1x300.Idx) a).val :=
      Fin.forall_fin_succ.mpr ⟨by simpa using h, Fin.forall_fin_two.mpr ⟨(Nat.zero_add _).symm, (Nat.zero_add _).symm⟩⟩
    refine (View.read_writes_cons_unit_of_not_mem _ _ _ _ _ y rfl (0 : Fin 3) (Or.inl (by show (y 0).val < 1; omega))).trans ?_
    refine (View.read_writes_cons_unit_of_mem _ _ _ _ _ y (ix3 0 (y 1) (y 2)) rfl hx).trans ?_
    rw [rowsOf, if_pos h]
    refine (pay45_apply _ _ _ _ _).trans ?_
    refine (congrArg (Scalar.select _ _) (readAt_moved arg5 f5 _ _ y hx)).trans ?_
    rfl
  · have hx : ∀ a, (y a).val = (![1, 0, 0] : Fin 3 → ℕ) a + ((ix3 0 (y 1) (y 2) : S1x1x300.Idx) a).val :=
      Fin.forall_fin_succ.mpr ⟨by show (y 0).val = 1 + 0; omega, Fin.forall_fin_two.mpr ⟨(Nat.zero_add _).symm, (Nat.zero_add _).symm⟩⟩
    refine (View.read_writes_cons_unit_of_mem _ _ _ _ _ y (ix3 0 (y 1) (y 2)) rfl hx).trans ?_
    rw [rowsOf, if_neg h]
    refine (pay45_apply _ _ _ _ _).trans ?_
    refine (congrArg (Scalar.select _ _) (readAt_moved arg5 f5 _ _ y hx)).trans ?_
    rfl

/-- One trip's coordinates. -/
theorem step_box (𝒱 : Variants) (c : Dev nD) (bd : Option 𝒱.V) (k : Fin k0_t2_loop.trips) (f3 : BufTy.Contents (Elt F) arg3.view.ty) (f4 : BufTy.Contents (Elt F) arg4.view.ty) (f5 : BufTy.Contents (Elt F) arg5.view.ty) (f7 : BufTy.Contents (Elt F) arg7.view.ty) (y : S2x4x300.Idx) :
    arg3.view.read (Elt F) (arg3.view.writes (Elt F) f3 ((trip_k0_t2 (F := F) 𝒱 c bd arg0 harg0 arg1 harg1 arg2 harg2 arg3 harg3 arg4 harg4 arg5 harg5 arg6 harg6 arg7 harg7 arg8 harg8 arg9 harg9 arg10 harg10 arg11 harg11 v46 v51 v52 X8 X9 X10 X11 k).1 f3 f4 f5 f7)) y
      = Scalar.select (k0_pay33 v52 0#32 1#32 k (ix2 (y 1) (y 2)))
          (recBox (rowsOf (y 0).val (arg7.view.read (Elt F) f7)) (rowsOf (y 0).val (arg8.view.read (Elt F) X8)) (rowsOf (y 0).val (arg9.view.read (Elt F) X9))
            (rowsOf (y 0).val (arg10.view.read (Elt F) X10)) (rowsOf (y 0).val (arg11.view.read (Elt F) X11)) (y 1)) (arg3.view.read (Elt F) f3 y) := by
  unfold trip_k0_t2
  dsimp only
  sl_unfold_words
  simp only [readAt_low, readAt_high]
  have hy : (y 0).val < 2 := (y 0).isLt
  by_cases h : (y 0).val = 0
  · have hx : ∀ a, (y a).val = (![0, 0, 0] : Fin 3 → ℕ) a + ((ix3 0 (y 1) (y 2) : S1x4x300.Idx) a).val :=
      Fin.forall_fin_succ.mpr ⟨by simpa using h, Fin.forall_fin_two.mpr ⟨(Nat.zero_add _).symm, (Nat.zero_add _).symm⟩⟩
    refine (View.read_writes_cons_unit_of_not_mem _ _ _ _ _ y rfl (0 : Fin 3) (Or.inl (by show (y 0).val < 1; omega))).trans ?_
    refine (View.read_writes_cons_unit_of_mem _ _ _ _ _ y (ix3 0 (y 1) (y 2)) rfl hx).trans ?_
    simp only [rowsOf, if_pos h]
    refine (pay46_apply _ _ _ _ _ _ _ _).trans ?_
    refine (congrArg (Scalar.select _ _) (readAt_moved arg3 f3 _ _ y hx)).trans ?_
    rfl
  · have hx : ∀ a, (y a).val = (![1, 0, 0] : Fin 3 → ℕ) a + ((ix3 0 (y 1) (y 2) : S1x4x300.Idx) a).val :=
      Fin.forall_fin_succ.mpr ⟨by show (y 0).val = 1 + 0; omega, Fin.forall_fin_two.mpr ⟨(Nat.zero_add _).symm, (Nat.zero_add _).symm⟩⟩
    refine (View.read_writes_cons_unit_of_mem _ _ _ _ _ y (ix3 0 (y 1) (y 2)) rfl hx).trans ?_
    simp only [rowsOf, if_neg h]
    refine (pay46_apply _ _ _ _ _ _ _ _).trans ?_
    refine (congrArg (Scalar.select _ _) (readAt_moved arg3 f3 _ _ y hx)).trans ?_
    rfl

/-- The three outputs and the candidate scores before trip `k`, in closed form. -/
theorem reads2 (hv51 : ∀ y, v51 y = BitVec.ofNat 32 (y 1).val) (hv52 : ∀ y, v52 y = BitVec.ofNat 32 (y 1).val) (𝒱 : Variants) (c : Dev nD) (bd : Option 𝒱.V)
    (f3 : BufTy.Contents (Elt F) arg3.view.ty) (f4 : BufTy.Contents (Elt F) arg4.view.ty) (f5 : BufTy.Contents (Elt F) arg5.view.ty) (f7 : BufTy.Contents (Elt F) arg7.view.ty)
    (k : ℕ) (hk : k ≤ k0_t2_loop.trips) :
    (∀ b, rowsOf b (arg7.view.read (Elt F) (arg7.view.writes (Elt F) f7 (pb_k0_t2 (F := F) 𝒱 c bd arg0 harg0 arg1 harg1 arg2 harg2 arg3 harg3 arg4 harg4 arg5 harg5 arg6 harg6 arg7 harg7 arg8 harg8 arg9 harg9 arg10 harg10 arg11 harg11 v46 v51 v52 X8 X9 X10 X11 f3 f4 f5 f7 k).2.2.2)) = candAt b (arg7.view.read (Elt F) f7) k)
    ∧ arg3.view.read (Elt F) (arg3.view.writes (Elt F) f3 (pb_k0_t2 (F := F) 𝒱 c bd arg0 harg0 arg1 harg1 arg2 harg2 arg3 harg3 arg4 harg4 arg5 harg5 arg6 harg6 arg7 harg7 arg8 harg8 arg9 harg9 arg10 harg10 arg11 harg11 v46 v51 v52 X8 X9 X10 X11 f3 f4 f5 f7 k).1) = outAt (n := 4) (fun j b => recBox (candAt b (arg7.view.read (Elt F) f7) j) (rowsOf b (arg8.view.read (Elt F) X8)) (rowsOf b (arg9.view.read (Elt F) X9))
            (rowsOf b (arg10.view.read (Elt F) X10)) (rowsOf b (arg11.view.read (Elt F) X11))) (arg3.view.read (Elt F) f3) k
    ∧ arg4.view.read (Elt F) (arg4.view.writes (Elt F) f4 (pb_k0_t2 (F := F) 𝒱 c bd arg0 harg0 arg1 harg1 arg2 harg2 arg3 harg3 arg4 harg4 arg5 harg5 arg6 harg6 arg7 harg7 arg8 harg8 arg9 harg9 arg10 harg10 arg11 harg11 v46 v51 v52 X8 X9 X10 X11 f3 f4 f5 f7 k).2.1) = outAt (n := 1) (fun j b _ => recScore (candAt b (arg7.view.read (Elt F) f7) j)) (arg4.view.read (Elt F) f4) k
    ∧ arg5.view.read (Elt F) (arg5.view.writes (Elt F) f5 (pb_k0_t2 (F := F) 𝒱 c bd arg0 harg0 arg1 harg1 arg2 harg2 arg3 harg3 arg4 harg4 arg5 harg5 arg6 harg6 arg7 harg7 arg8 harg8 arg9 harg9 arg10 harg10 arg11 harg11 v46 v51 v52 X8 X9 X10 X11 f3 f4 f5 f7 k).2.2.1) = outAt (n := 1) (fun j b _ => recLabel v46 (candAt b (arg7.view.read (Elt F) f7) j)) (arg5.view.read (Elt F) f5) k := by
  induction k with
  | zero => exact ⟨fun b => rfl, (outAt_zero _ _).symm, (outAt_zero _ _).symm, (outAt_zero _ _).symm⟩
  | succ k ih =>
    obtain ⟨h7, h3, h4, h5⟩ := ih (Nat.le_of_succ_le hk)
    have e := pb_k0_t2_succ (F := F) 𝒱 c bd arg0 harg0 arg1 harg1 arg2 harg2 arg3 harg3 arg4 harg4 arg5 harg5 arg6 harg6 arg7 harg7 arg8 harg8 arg9 harg9 arg10 harg10 arg11 harg11 v46 v51 v52 X8 X9 X10 X11 f3 f4 f5 f7 ⟨k, hk⟩
    dsimp only at e
    rw [e]
    dsimp only
    simp only [View.writes_append]
    refine ⟨fun b => ?_, ?_, ?_, ?_⟩
    · show _ = strike (candAt b (arg7.view.read (Elt F) f7) k)
      rw [← h7 b]
      unfold rowsOf
      by_cases hb : b = 0
      · simp only [if_pos hb]; exact step_low ..
      · simp only [if_neg hb]; exact step_high ..
    · funext y
      refine (step_box ..).trans ?_
      rw [h7, h3]
      exact outAt_succ _ _ _ _ _ (mask33 v52 hv52 ⟨k, hk⟩ (y 1) (y 2))
    · funext y
      refine (step_score ..).trans ?_
      rw [h7, h4]
      exact outAt_succ (fun j b _ => recScore (candAt b (arg7.view.read (Elt F) f7) j)) _ _ _ _ (mask32 v51 hv51 ⟨k, hk⟩ (y 2))
    · funext y
      refine (step_label ..).trans ?_
      rw [h7, h5]
      exact outAt_succ (fun j b _ => recLabel v46 (candAt b (arg7.view.read (Elt F) f7) j)) _ _ _ _ (mask32 v51 hv51 ⟨k, hk⟩ (y 2))

end Reads

end Cert.KernelIdeal.Hand

end
-- ==== Proof.Outputs.lean ====
/-
  What the kernel leaves in its three outputs, as a function of the three operands it reads. The candidate tables of the
  selection loop and the records of the merge loop are put together here (`outputs`), and the operands' rows and pages are
  named (`coordRow`, `page`), so that the outputs are the closed forms `boxOut`, `scoreOut` and `labelOut`.
-/
module

public import proofs.«01_k».proof.Proof.Loop2Value
public import proofs.«01_k».proof.Proof.Gen.KernelIdeal.Frame
public import Idealize.ShloMosaic.Lib.Pipeline.Frame
public import Idealize.ShloMosaic.Lib.Tactic

@[expose] public section

set_option maxRecDepth 32768
set_option maxHeartbeats 400000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- A candidate table with all its columns recorded. -/
def tabFull (col : ℕ → FVec F S160x1 .f32) : Vec F S160x300 .f32 := fun y => col (y 1).val (ix2 (y 0) 0)

/-- After 300 trips a table no longer shows its entry. -/
theorem tabAt_full (col : ℕ → FVec F S160x1 .f32) (init : Vec F S160x300 .f32) (T : ℕ) (hT : T = 300) : tabAt col init T = tabFull col := by
  subst hT; funext y; exact if_pos (y 1).isLt

/-- After 300 trips an output no longer shows its entry. -/
theorem outAt_full {n : ℕ} {α : Type} (col : ℕ → ℕ → Fin n → α) (init : (⟨3, ![2, n, 300]⟩ : Shape).Idx → α) (T : ℕ) (hT : T = 300) :
    outAt col init T = fun y => col (y 2).val (y 0).val (y 1) := by
  subst hT; funext y; exact if_pos (y 2).isLt

section Outputs

variable (v10 v12 v14 v16 v18 v20 v22 v24 v31 v32 v33 : FVec F S1x5120 .f32) (v39 : IVec S160x5120 32) (v41 v43 : Vec F S1x5120x12 .bf16) (v46 : IVec S80x300 32) (ms : Vec F S160x5120 .f32)

/-- The candidates' scores after the selection loop. -/
def csTab : Vec F S160x300 .f32 := tabFull (fun j => k0_pay8 (msAt v10 v12 v14 v16 v18 v20 v22 v24 v31 v32 v33 v39 v41 v43 ms j))
/-- The candidates' first coordinates. -/
def x1Tab : Vec F S160x300 .f32 := tabFull (fun j => colX1 v39 v41 v43 (msAt v10 v12 v14 v16 v18 v20 v22 v24 v31 v32 v33 v39 v41 v43 ms j))
/-- The candidates' second coordinates. -/
def y1Tab : Vec F S160x300 .f32 := tabFull (fun j => colY1 v39 v41 v43 (msAt v10 v12 v14 v16 v18 v20 v22 v24 v31 v32 v33 v39 v41 v43 ms j))
/-- The candidates' third coordinates. -/
def x2Tab : Vec F S160x300 .f32 := tabFull (fun j => colX2 v39 v41 v43 (msAt v10 v12 v14 v16 v18 v20 v22 v24 v31 v32 v33 v39 v41 v43 ms j))
/-- The candidates' fourth coordinates. -/
def y2Tab : Vec F S160x300 .f32 := tabFull (fun j => colY2 v39 v41 v43 (msAt v10 v12 v14 v16 v18 v20 v22 v24 v31 v32 v33 v39 v41 v43 ms j))
/-- The coordinates the kernel stores. -/
def boxOf : Vec F S2x4x300 .f32 := fun y =>
  recBox (candAt (y 0).val (csTab v10 v12 v14 v16 v18 v20 v22 v24 v31 v32 v33 v39 v41 v43 ms) (y 2).val) (rowsOf (y 0).val (x1Tab v10 v12 v14 v16 v18 v20 v22 v24 v31 v32 v33 v39 v41 v43 ms)) (rowsOf (y 0).val (y1Tab v10 v12 v14 v16 v18 v20 v22 v24 v31 v32 v33 v39 v41 v43 ms)) (rowsOf (y 0).val (x2Tab v10 v12 v14 v16 v18 v20 v22 v24 v31 v32 v33 v39 v41 v43 ms)) (rowsOf (y 0).val (y2Tab v10 v12 v14 v16 v18 v20 v22 v24 v31 v32 v33 v39 v41 v43 ms)) (y 1)
/-- The scores the kernel stores. -/
def scoreOf : Vec F S2x1x300 .f32 := fun y => recScore (candAt (y 0).val (csTab v10 v12 v14 v16 v18 v20 v22 v24 v31 v32 v33 v39 v41 v43 ms) (y 2).val)
/-- The class labels the kernel stores. -/
def labelOf : Vec F S2x1x300 .i32 := fun y => recLabel v46 (candAt (y 0).val (csTab v10 v12 v14 v16 v18 v20 v22 v24 v31 v32 v33 v39 v41 v43 ms) (y 2).val)

/-- The selection loop has 300 trips. -/
theorem trips1 : Scf.trips k0_t1_loop.lb k0_t1_loop.ub k0_t1_loop.st = 300 := by decide +kernel
/-- The merge loop has 300 trips. -/
theorem trips2 : Scf.trips k0_t2_loop.lb k0_t2_loop.ub k0_t2_loop.st = 300 := by decide +kernel

/-- After both loops the three outputs hold the closed forms, whatever the outputs and the candidate tables held before. -/
theorem outputs (arg0 : Memref sig .tc .vmem S8x5120 .f32) (harg0 : arg0.IsWhole) (arg1 : Memref sig .tc .vmem S2x5120x12 .bf16) (harg1 : arg1.IsWhole) (arg2 : Memref sig .tc .vmem S160x5120 .f32) (harg2 : arg2.IsWhole) (arg3 : Memref sig .tc .vmem S2x4x300 .f32) (harg3 : arg3.IsWhole) (arg4 : Memref sig .tc .vmem S2x1x300 .f32) (harg4 : arg4.IsWhole) (arg5 : Memref sig .tc .vmem S2x1x300 .i32) (harg5 : arg5.IsWhole) (arg6 : Memref sig .tc .vmem S160x5120 .f32) (harg6 : arg6.IsWhole) (arg7 : Memref sig .tc .vmem S160x300 .f32) (harg7 : arg7.IsWhole) (arg8 : Memref sig .tc .vmem S160x300 .f32) (harg8 : arg8.IsWhole) (arg9 : Memref sig .tc .vmem S160x300 .f32) (harg9 : arg9.IsWhole) (arg10 : Memref sig .tc .vmem S160x300 .f32) (harg10 : arg10.IsWhole) (arg11 : Memref sig .tc .vmem S160x300 .f32) (harg11 : arg11.IsWhole) (v40 : IVec S160x300 32) (v51 : IVec S1x300 32) (v52 : IVec S4x300 32)
    (hv40 : ∀ y, v40 y = BitVec.ofNat 32 (y 1).val) (hv51 : ∀ y, v51 y = BitVec.ofNat 32 (y 1).val) (hv52 : ∀ y, v52 y = BitVec.ofNat 32 (y 1).val)
    (c : Dev nD) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty)
    (h6 : arg6.view.read (Elt F) f6 = ms) :
    arg3.view.read (Elt F) (arg3.view.writes (Elt F) f3 (pb_k0_t2 (F := F) Variants.none c none arg0 harg0 arg1 harg1 arg2 harg2 arg3 harg3 arg4 harg4 arg5 harg5 arg6 harg6 arg7 harg7 arg8 harg8 arg9 harg9 arg10 harg10 arg11 harg11 v46 v51 v52 (arg8.view.writes (Elt F) f8 (pcsAt (F := F) arg0 harg0 arg1 harg1 arg2 harg2 arg3 harg3 arg4 harg4 arg5 harg5 arg6 harg6 arg7 harg7 arg8 harg8 arg9 harg9 arg10 harg10 arg11 harg11 v10 v12 v14 v16 v18 v20 v22 v24 v31 v32 v33 v39 v40 v41 v43 c f6 f7 f8 f9 f10 f11 (Scf.trips k0_t1_loop.lb k0_t1_loop.ub k0_t1_loop.st)).l8) (arg9.view.writes (Elt F) f9 (pcsAt (F := F) arg0 harg0 arg1 harg1 arg2 harg2 arg3 harg3 arg4 harg4 arg5 harg5 arg6 harg6 arg7 harg7 arg8 harg8 arg9 harg9 arg10 harg10 arg11 harg11 v10 v12 v14 v16 v18 v20 v22 v24 v31 v32 v33 v39 v40 v41 v43 c f6 f7 f8 f9 f10 f11 (Scf.trips k0_t1_loop.lb k0_t1_loop.ub k0_t1_loop.st)).l9) (arg10.view.writes (Elt F) f10 (pcsAt (F := F) arg0 harg0 arg1 harg1 arg2 harg2 arg3 harg3 arg4 harg4 arg5 harg5 arg6 harg6 arg7 harg7 arg8 harg8 arg9 harg9 arg10 harg10 arg11 harg11 v10 v12 v14 v16 v18 v20 v22 v24 v31 v32 v33 v39 v40 v41 v43 c f6 f7 f8 f9 f10 f11 (Scf.trips k0_t1_loop.lb k0_t1_loop.ub k0_t1_loop.st)).l10) (arg11.view.writes (Elt F) f11 (pcsAt (F := F) arg0 harg0 arg1 harg1 arg2 harg2 arg3 harg3 arg4 harg4 arg5 harg5 arg6 harg6 arg7 harg7 arg8 harg8 arg9 harg9 arg10 harg10 arg11 harg11 v10 v12 v14 v16 v18 v20 v22 v24 v31 v32 v33 v39 v40 v41 v43 c f6 f7 f8 f9 f10 f11 (Scf.trips k0_t1_loop.lb k0_t1_loop.ub k0_t1_loop.st)).l11) f3 f4 f5 (arg7.view.writes (Elt F) f7 (pcsAt (F := F) arg0 harg0 arg1 harg1 arg2 harg2 arg3 harg3 arg4 harg4 arg5 harg5 arg6 harg6 arg7 harg7 arg8 harg8 arg9 harg9 arg10 harg10 arg11 harg11 v10 v12 v14 v16 v18 v20 v22 v24 v31 v32 v33 v39 v40 v41 v43 c f6 f7 f8 f9 f10 f11 (Scf.trips k0_t1_loop.lb k0_t1_loop.ub k0_t1_loop.st)).l7) (Scf.trips k0_t2_loop.lb k0_t2_loop.ub k0_t2_loop.st)).1) = boxOf v10 v12 v14 v16 v18 v20 v22 v24 v31 v32 v33 v39 v41 v43 ms
    ∧ arg4.view.read (Elt F) (arg4.view.writes (Elt F) f4 (pb_k0_t2 (F := F) Variants.none c none arg0 harg0 arg1 harg1 arg2 harg2 arg3 harg3 arg4 harg4 arg5 harg5 arg6 harg6 arg7 harg7 arg8 harg8 arg9 harg9 arg10 harg10 arg11 harg11 v46 v51 v52 (arg8.view.writes (Elt F) f8 (pcsAt (F := F) arg0 harg0 arg1 harg1 arg2 harg2 arg3 harg3 arg4 harg4 arg5 harg5 arg6 harg6 arg7 harg7 arg8 harg8 arg9 harg9 arg10 harg10 arg11 harg11 v10 v12 v14 v16 v18 v20 v22 v24 v31 v32 v33 v39 v40 v41 v43 c f6 f7 f8 f9 f10 f11 (Scf.trips k0_t1_loop.lb k0_t1_loop.ub k0_t1_loop.st)).l8) (arg9.view.writes (Elt F) f9 (pcsAt (F := F) arg0 harg0 arg1 harg1 arg2 harg2 arg3 harg3 arg4 harg4 arg5 harg5 arg6 harg6 arg7 harg7 arg8 harg8 arg9 harg9 arg10 harg10 arg11 harg11 v10 v12 v14 v16 v18 v20 v22 v24 v31 v32 v33 v39 v40 v41 v43 c f6 f7 f8 f9 f10 f11 (Scf.trips k0_t1_loop.lb k0_t1_loop.ub k0_t1_loop.st)).l9) (arg10.view.writes (Elt F) f10 (pcsAt (F := F) arg0 harg0 arg1 harg1 arg2 harg2 arg3 harg3 arg4 harg4 arg5 harg5 arg6 harg6 arg7 harg7 arg8 harg8 arg9 harg9 arg10 harg10 arg11 harg11 v10 v12 v14 v16 v18 v20 v22 v24 v31 v32 v33 v39 v40 v41 v43 c f6 f7 f8 f9 f10 f11 (Scf.trips k0_t1_loop.lb k0_t1_loop.ub k0_t1_loop.st)).l10) (arg11.view.writes (Elt F) f11 (pcsAt (F := F) arg0 harg0 arg1 harg1 arg2 harg2 arg3 harg3 arg4 harg4 arg5 harg5 arg6 harg6 arg7 harg7 arg8 harg8 arg9 harg9 arg10 harg10 arg11 harg11 v10 v12 v14 v16 v18 v20 v22 v24 v31 v32 v33 v39 v40 v41 v43 c f6 f7 f8 f9 f10 f11 (Scf.trips k0_t1_loop.lb k0_t1_loop.ub k0_t1_loop.st)).l11) f3 f4 f5 (arg7.view.writes (Elt F) f7 (pcsAt (F := F) arg0 harg0 arg1 harg1 arg2 harg2 arg3 harg3 arg4 harg4 arg5 harg5 arg6 harg6 arg7 harg7 arg8 harg8 arg9 harg9 arg10 harg10 arg11 harg11 v10 v12 v14 v16 v18 v20 v22 v24 v31 v32 v33 v39 v40 v41 v43 c f6 f7 f8 f9 f10 f11 (Scf.trips k0_t1_loop.lb k0_t1_loop.ub k0_t1_loop.st)).l7) (Scf.trips k0_t2_loop.lb k0_t2_loop.ub k0_t2_loop.st)).2.1) = scoreOf v10 v12 v14 v16 v18 v20 v22 v24 v31 v32 v33 v39 v41 v43 ms
    ∧ arg5.view.read (Elt F) (arg5.view.writes (Elt F) f5 (pb_k0_t2 (F := F) Variants.none c none arg0 harg0 arg1 harg1 arg2 harg2 arg3 harg3 arg4 harg4 arg5 harg5 arg6 harg6 arg7 harg7 arg8 harg8 arg9 harg9 arg10 harg10 arg11 harg11 v46 v51 v52 (arg8.view.writes (Elt F) f8 (pcsAt (F := F) arg0 harg0 arg1 harg1 arg2 harg2 arg3 harg3 arg4 harg4 arg5 harg5 arg6 harg6 arg7 harg7 arg8 harg8 arg9 harg9 arg10 harg10 arg11 harg11 v10 v12 v14 v16 v18 v20 v22 v24 v31 v32 v33 v39 v40 v41 v43 c f6 f7 f8 f9 f10 f11 (Scf.trips k0_t1_loop.lb k0_t1_loop.ub k0_t1_loop.st)).l8) (arg9.view.writes (Elt F) f9 (pcsAt (F := F) arg0 harg0 arg1 harg1 arg2 harg2 arg3 harg3 arg4 harg4 arg5 harg5 arg6 harg6 arg7 harg7 arg8 harg8 arg9 harg9 arg10 harg10 arg11 harg11 v10 v12 v14 v16 v18 v20 v22 v24 v31 v32 v33 v39 v40 v41 v43 c f6 f7 f8 f9 f10 f11 (Scf.trips k0_t1_loop.lb k0_t1_loop.ub k0_t1_loop.st)).l9) (arg10.view.writes (Elt F) f10 (pcsAt (F := F) arg0 harg0 arg1 harg1 arg2 harg2 arg3 harg3 arg4 harg4 arg5 harg5 arg6 harg6 arg7 harg7 arg8 harg8 arg9 harg9 arg10 harg10 arg11 harg11 v10 v12 v14 v16 v18 v20 v22 v24 v31 v32 v33 v39 v40 v41 v43 c f6 f7 f8 f9 f10 f11 (Scf.trips k0_t1_loop.lb k0_t1_loop.ub k0_t1_loop.st)).l10) (arg11.view.writes (Elt F) f11 (pcsAt (F := F) arg0 harg0 arg1 harg1 arg2 harg2 arg3 harg3 arg4 harg4 arg5 harg5 arg6 harg6 arg7 harg7 arg8 harg8 arg9 harg9 arg10 harg10 arg11 harg11 v10 v12 v14 v16 v18 v20 v22 v24 v31 v32 v33 v39 v40 v41 v43 c f6 f7 f8 f9 f10 f11 (Scf.trips k0_t1_loop.lb k0_t1_loop.ub k0_t1_loop.st)).l11) f3 f4 f5 (arg7.view.writes (Elt F) f7 (pcsAt (F := F) arg0 harg0 arg1 harg1 arg2 harg2 arg3 harg3 arg4 harg4 arg5 harg5 arg6 harg6 arg7 harg7 arg8 harg8 arg9 harg9 arg10 harg10 arg11 harg11 v10 v12 v14 v16 v18 v20 v22 v24 v31 v32 v33 v39 v40 v41 v43 c f6 f7 f8 f9 f10 f11 (Scf.trips k0_t1_loop.lb k0_t1_loop.ub k0_t1_loop.st)).l7) (Scf.trips k0_t2_loop.lb k0_t2_loop.ub k0_t2_loop.st)).2.2.1) = labelOf v10 v12 v14 v16 v18 v20 v22 v24 v31 v32 v33 v39 v41 v43 v46 ms := by
  have R := reads (F := F) arg0 harg0 arg1 harg1 arg2 harg2 arg3 harg3 arg4 harg4 arg5 harg5 arg6 harg6 arg7 harg7 arg8 harg8 arg9 harg9 arg10 harg10 arg11 harg11 v10 v12 v14 v16 v18 v20 v22 v24 v31 v32 v33 v39 v40 v41 v43 hv40 c f6 f7 f8 f9 f10 f11 (Scf.trips k0_t1_loop.lb k0_t1_loop.ub k0_t1_loop.st) (le_of_eq rfl)
  rw [rawAt_eq_writes, h6] at R
  dsimp only at R
  obtain ⟨-, r7, r8, r9, r10, r11⟩ := R
  rw [tabAt_full _ _ _ trips1] at r7 r8 r9 r10 r11
  obtain ⟨-, r3, r4, r5⟩ := reads2 (F := F) arg0 harg0 arg1 harg1 arg2 harg2 arg3 harg3 arg4 harg4 arg5 harg5 arg6 harg6 arg7 harg7 arg8 harg8 arg9 harg9 arg10 harg10 arg11 harg11 v46 v51 v52 (arg8.view.writes (Elt F) f8 (pcsAt (F := F) arg0 harg0 arg1 harg1 arg2 harg2 arg3 harg3 arg4 harg4 arg5 harg5 arg6 harg6 arg7 harg7 arg8 harg8 arg9 harg9 arg10 harg10 arg11 harg11 v10 v12 v14 v16 v18 v20 v22 v24 v31 v32 v33 v39 v40 v41 v43 c f6 f7 f8 f9 f10 f11 (Scf.trips k0_t1_loop.lb k0_t1_loop.ub k0_t1_loop.st)).l8) (arg9.view.writes (Elt F) f9 (pcsAt (F := F) arg0 harg0 arg1 harg1 arg2 harg2 arg3 harg3 arg4 harg4 arg5 harg5 arg6 harg6 arg7 harg7 arg8 harg8 arg9 harg9 arg10 harg10 arg11 harg11 v10 v12 v14 v16 v18 v20 v22 v24 v31 v32 v33 v39 v40 v41 v43 c f6 f7 f8 f9 f10 f11 (Scf.trips k0_t1_loop.lb k0_t1_loop.ub k0_t1_loop.st)).l9) (arg10.view.writes (Elt F) f10 (pcsAt (F := F) arg0 harg0 arg1 harg1 arg2 harg2 arg3 harg3 arg4 harg4 arg5 harg5 arg6 harg6 arg7 harg7 arg8 harg8 arg9 harg9 arg10 harg10 arg11 harg11 v10 v12 v14 v16 v18 v20 v22 v24 v31 v32 v33 v39 v40 v41 v43 c f6 f7 f8 f9 f10 f11 (Scf.trips k0_t1_loop.lb k0_t1_loop.ub k0_t1_loop.st)).l10) (arg11.view.writes (Elt F) f11 (pcsAt (F := F) arg0 harg0 arg1 harg1 arg2 harg2 arg3 harg3 arg4 harg4 arg5 harg5 arg6 harg6 arg7 harg7 arg8 harg8 arg9 harg9 arg10 harg10 arg11 harg11 v10 v12 v14 v16 v18 v20 v22 v24 v31 v32 v33 v39 v40 v41 v43 c f6 f7 f8 f9 f10 f11 (Scf.trips k0_t1_loop.lb k0_t1_loop.ub k0_t1_loop.st)).l11) hv51 hv52 Variants.none c none f3 f4 f5 (arg7.view.writes (Elt F) f7 (pcsAt (F := F) arg0 harg0 arg1 harg1 arg2 harg2 arg3 harg3 arg4 harg4 arg5 harg5 arg6 harg6 arg7 harg7 arg8 harg8 arg9 harg9 arg10 harg10 arg11 harg11 v10 v12 v14 v16 v18 v20 v22 v24 v31 v32 v33 v39 v40 v41 v43 c f6 f7 f8 f9 f10 f11 (Scf.trips k0_t1_loop.lb k0_t1_loop.ub k0_t1_loop.st)).l7) (Scf.trips k0_t2_loop.lb k0_t2_loop.ub k0_t2_loop.st) (le_of_eq rfl)
  refine ⟨?_, ?_, ?_⟩
  · rw [r3, outAt_full _ _ _ trips2, r7, r8, r9, r10, r11]; rfl
  · rw [r4, outAt_full _ _ _ trips2, r7]; rfl
  · rw [r5, outAt_full _ _ _ trips2, r7]; rfl

end Outputs

/-- Row `i` of the eight coordinate rows. -/
def coordRow (i : Fin 8) (x0 : Vec F S8x5120 .f32) : Vec F S1x5120 .f32 := fun y => x0 (ix2 i (y 1))
/-- Page `b` of the split coordinates. -/
def page (b : Fin 2) (x1 : Vec F S2x5120x12 .bf16) : Vec F S1x5120x12 .bf16 := fun y => x1 (ix3 b (y 1) (y 2))

/-- Reading one row of the eight coordinate rows. -/
theorem readAt_row (M : Memref sig .tc .vmem S8x5120 .f32) (f : BufTy.Contents (Elt F) M.view.ty) (n : ℕ) (hn : n < 8) (inb) :
    M.view.readAt (Elt F) (Rect.unit (s := S8x5120) ![n, 0] ![1, 5120] inb).toLoadRect f = coordRow ⟨n, hn⟩ (M.view.read (Elt F) f) := by
  funext y
  refine readAt_moved M f inb y _ fun a => ?_
  match a with
  | ⟨0, _⟩ => show n = n + (y 0).val; have := (y 0).isLt; change (y 0).val < 1 at this; omega
  | ⟨1, _⟩ => show (y 1).val = 0 + (y 1).val; omega

/-- Reading one page of the two pages of split coordinates. -/
theorem readAt_page (M : Memref sig .tc .vmem S2x5120x12 .bf16) (f : BufTy.Contents (Elt F) M.view.ty) (n : ℕ) (hn : n < 2) (inb) :
    M.view.readAt (Elt F) (Rect.unit (s := S2x5120x12) ![n, 0, 0] ![1, 5120, 12] inb).toLoadRect f = page ⟨n, hn⟩ (M.view.read (Elt F) f) := by
  funext y
  refine readAt_moved M f inb y _ fun a => ?_
  match a with
  | ⟨0, _⟩ => show n = n + (y 0).val; have := (y 0).isLt; change (y 0).val < 1 at this; omega
  | ⟨1, _⟩ => show (y 1).val = 0 + (y 1).val; omega
  | ⟨2, _⟩ => show (y 2).val = 0 + (y 2).val; omega

section Closed

variable (x0 : Vec F S8x5120 .f32) (x1 : Vec F S2x5120x12 .bf16) (x2 : Vec F S160x5120 .f32)

/-- The coordinates the kernel stores, from its operands. -/
def boxOut : Vec F S2x4x300 .f32 := boxOf (k0_pay61 (coordRow 0 x0)) (k0_pay62 (coordRow 1 x0)) (k0_pay63 (coordRow 2 x0)) (k0_pay64 (coordRow 3 x0)) (k0_pay65 (coordRow 4 x0)) (k0_pay66 (coordRow 5 x0)) (k0_pay67 (coordRow 6 x0)) (k0_pay68 (coordRow 7 x0)) (k0_pay69 (coordRow 0 x0) (coordRow 1 x0) (coordRow 2 x0) (coordRow 3 x0)) (k0_pay70 (coordRow 4 x0) (coordRow 6 x0)) k0_pay71 (iota Kind.tc S160x5120 32 [1] iota_S160x5120_d1_w32) (page 0 x1) (page 1 x1) (k0_pay60 x2)
/-- The scores the kernel stores, from its operands. -/
def scoreOut : Vec F S2x1x300 .f32 := scoreOf (k0_pay61 (coordRow 0 x0)) (k0_pay62 (coordRow 1 x0)) (k0_pay63 (coordRow 2 x0)) (k0_pay64 (coordRow 3 x0)) (k0_pay65 (coordRow 4 x0)) (k0_pay66 (coordRow 5 x0)) (k0_pay67 (coordRow 6 x0)) (k0_pay68 (coordRow 7 x0)) (k0_pay69 (coordRow 0 x0) (coordRow 1 x0) (coordRow 2 x0) (coordRow 3 x0)) (k0_pay70 (coordRow 4 x0) (coordRow 6 x0)) k0_pay71 (iota Kind.tc S160x5120 32 [1] iota_S160x5120_d1_w32) (page 0 x1) (page 1 x1) (k0_pay60 x2)
/-- The class labels the kernel stores, from its operands. -/
def labelOut : Vec F S2x1x300 .i32 := labelOf (k0_pay61 (coordRow 0 x0)) (k0_pay62 (coordRow 1 x0)) (k0_pay63 (coordRow 2 x0)) (k0_pay64 (coordRow 3 x0)) (k0_pay65 (coordRow 4 x0)) (k0_pay66 (coordRow 5 x0)) (k0_pay67 (coordRow 6 x0)) (k0_pay68 (coordRow 7 x0)) (k0_pay69 (coordRow 0 x0) (coordRow 1 x0) (coordRow 2 x0) (coordRow 3 x0)) (k0_pay70 (coordRow 4 x0) (coordRow 6 x0)) k0_pay71 (iota Kind.tc S160x5120 32 [1] iota_S160x5120_d1_w32) (page 0 x1) (page 1 x1) (iota Kind.tc S80x300 32 [0] iota_S80x300_d0_w32) (k0_pay60 x2)

end Closed

end Cert.KernelIdeal.Hand

end
-- ==== Proof.Body.lean ====
/-
  The kernel's body run once, and the launch: the three outputs end at their closed forms (`Outputs`), the operands as they were.
-/
module

public import proofs.«01_k».proof.Proof.Outputs
public import proofs.«01_k».proof.Proof.Gen.KernelIdeal.Frame
public import Idealize.ShloMosaic.Lib.Pipeline.Frame
public import Idealize.ShloMosaic.Lib.Tactic

@[expose] public section

set_option maxRecDepth 32768
set_option maxHeartbeats 400000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- The kernel's body, from its operands at given values and everything else at any contents: it returns with the operands as they were, the outputs at their closed forms and the scratch at some contents. -/
theorem kernelRun (c : Dev nD) (arg0 : Memref sig .tc .vmem S8x5120 .f32) (harg0 : arg0.IsWhole) (arg1 : Memref sig .tc .vmem S2x5120x12 .bf16) (harg1 : arg1.IsWhole) (arg2 : Memref sig .tc .vmem S160x5120 .f32) (harg2 : arg2.IsWhole) (arg3 : Memref sig .tc .vmem S2x4x300 .f32) (harg3 : arg3.IsWhole) (arg4 : Memref sig .tc .vmem S2x1x300 .f32) (harg4 : arg4.IsWhole) (arg5 : Memref sig .tc .vmem S2x1x300 .i32) (harg5 : arg5.IsWhole) (arg6 : Memref sig .tc .vmem S160x5120 .f32) (harg6 : arg6.IsWhole) (arg7 : Memref sig .tc .vmem S160x300 .f32) (harg7 : arg7.IsWhole) (arg8 : Memref sig .tc .vmem S160x300 .f32) (harg8 : arg8.IsWhole) (arg9 : Memref sig .tc .vmem S160x300 .f32) (harg9 : arg9.IsWhole) (arg10 : Memref sig .tc .vmem S160x300 .f32) (harg10 : arg10.IsWhole) (arg11 : Memref sig .tc .vmem S160x300 .f32) (harg11 : arg11.IsWhole)
    (x0 : Vec F S8x5120 .f32) (x1 : Vec F S2x5120x12 .bf16) (x2 : Vec F S160x5120 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d) ∗ (∃ d, owns (c : Thread nD τ) arg4 fullShare d) ∗ (∃ d, owns (c : Thread nD τ) arg5 fullShare d)
        ∗ (∃ d, owns (c : Thread nD τ) arg6 fullShare d) ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (boxOut x0 x1 x2) ∗ owns (c : Thread nD τ) arg4 fullShare (scoreOut x0 x1 x2) ∗ owns (c : Thread nD τ) arg5 fullShare (labelOut x0 x1 x2)
            ∗ (∃ d, owns (c : Thread nD τ) arg6 fullShare d) ∗ (∃ d, owns (c : Thread nD τ) arg7 fullShare d) ∗ (∃ d, owns (c : Thread nD τ) arg8 fullShare d)
            ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) Set.univ (cc0__filter_kernel (F := F) arg0 harg0 arg1 harg1 arg2 harg2 arg3 harg3 arg4 harg4 arg5 harg5 arg6 harg6 arg7 harg7 arg8 harg8 arg9 harg9 arg10 harg10 arg11 harg11) K := by
  simp only [cc0__filter_kernel_eq_skeleton]; unfold cc0__filter_kernel_skel
  unfold owns
  iintro ⟨⟨%f0, %h0, H0⟩, ⟨%f1, %h1, H1⟩, ⟨%f2, %h2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
  sl_exec
  sl_step
  iapply Hk
  isplitl [H0]
  · iexists _; isplitr; swap; · iexact H0
    ipureintro; exact h0
  isplitl [H1]
  · iexists _; isplitr; swap; · iexact H1
    ipureintro; exact h1
  isplitl [H2]
  · iexists _; isplitr; swap; · iexact H2
    ipureintro; exact h2
  isplitl [H3]
  · iexists _; isplitr; swap; · iexact H3
    ipureintro
    refine (outputs (F := F) (hv40 := fun y => ?_) (hv51 := fun y => ?_) (hv52 := fun y => ?_) (h6 := rfl) ..).1.trans ?_
    · sl_unfold_words; exact iota_single_apply ..
    · sl_unfold_words; exact iota_single_apply ..
    · sl_unfold_words; exact iota_single_apply ..
    sl_unfold_words
    clear * - h0 h1 h2
    rw [readAt_row arg0 f0 0 (by decide), readAt_row arg0 f0 1 (by decide), readAt_row arg0 f0 2 (by decide), readAt_row arg0 f0 3 (by decide), readAt_row arg0 f0 4 (by decide), readAt_row arg0 f0 5 (by decide), readAt_row arg0 f0 6 (by decide), readAt_row arg0 f0 7 (by decide), readAt_page arg1 f1 0 (by decide), readAt_page arg1 f1 1 (by decide), readAt_ms arg2, View.read_writes_full arg6.view, h0, h1, h2]
    rfl
  isplitl [H4]
  · iexists _; isplitr; swap; · iexact H4
    ipureintro
    refine (outputs (F := F) (hv40 := fun y => ?_) (hv51 := fun y => ?_) (hv52 := fun y => ?_) (h6 := rfl) ..).2.1.trans ?_
    · sl_unfold_words; exact iota_single_apply ..
    · sl_unfold_words; exact iota_single_apply ..
    · sl_unfold_words; exact iota_single_apply ..
    sl_unfold_words
    clear * - h0 h1 h2
    rw [readAt_row arg0 f0 0 (by decide), readAt_row arg0 f0 1 (by decide), readAt_row arg0 f0 2 (by decide), readAt_row arg0 f0 3 (by decide), readAt_row arg0 f0 4 (by decide), readAt_row arg0 f0 5 (by decide), readAt_row arg0 f0 6 (by decide), readAt_row arg0 f0 7 (by decide), readAt_page arg1 f1 0 (by decide), readAt_page arg1 f1 1 (by decide), readAt_ms arg2, View.read_writes_full arg6.view, h0, h1, h2]
    rfl
  isplitl [H5]
  · iexists _; isplitr; swap; · iexact H5
    ipureintro
    refine (outputs (F := F) (hv40 := fun y => ?_) (hv51 := fun y => ?_) (hv52 := fun y => ?_) (h6 := rfl) ..).2.2.trans ?_
    · sl_unfold_words; exact iota_single_apply ..
    · sl_unfold_words; exact iota_single_apply ..
    · sl_unfold_words; exact iota_single_apply ..
    sl_unfold_words
    clear * - h0 h1 h2
    rw [readAt_row arg0 f0 0 (by decide), readAt_row arg0 f0 1 (by decide), readAt_row arg0 f0 2 (by decide), readAt_row arg0 f0 3 (by decide), readAt_row arg0 f0 4 (by decide), readAt_row arg0 f0 5 (by decide), readAt_row arg0 f0 6 (by decide), readAt_row arg0 f0 7 (by decide), readAt_page arg1 f1 0 (by decide), readAt_page arg1 f1 1 (by decide), readAt_ms arg2, View.read_writes_full arg6.view, h0, h1, h2]
    rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  iexists _, _; isplitr; swap; · iexact H11
  ipureintro; rfl

/-! ## The proof data and the body obligation -/

/-- The scratch and the generator register between the point's ends, conjunct by conjunct. -/
theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d) ∗ (∃ d, owns (c : Thread nD τ) (Memref.whole cc0_scratch3) fullShare d)
          ∗ (∃ d, owns (c : Thread nD τ) (Memref.whole cc0_scratch4) fullShare d) ∗ (∃ d, owns (c : Thread nD τ) (Memref.whole cc0_scratch5) fullShare d)) ∗ (∃ r, prngReg c r)) := by
  unfold Pipeline.ΦA; rw [scopedRest0_eq]; simp only [owns_whole]; try rfl

variable (m : (ℓ : Loc nD τ sig) → Buf (Elt F) ℓ) (ρ : Dev nD → PrngReg)

/-- The block of the eight coordinate rows the kernel reads. -/
abbrev in0 (c : Dev nD) (t : Fin cfg0.N) : Vec F S8x5120 .f32 := iblk m c 0 t
/-- The block of split coordinates the kernel reads. -/
abbrev in1 (c : Dev nD) (t : Fin cfg0.N) : Vec F S2x5120x12 .bf16 := iblk m c 1 t
/-- The block of scores the kernel reads. -/
abbrev in2 (c : Dev nD) (t : Fin cfg0.N) : Vec F S160x5120 .f32 := iblk m c 2 t

/-- The proof data on core `c`: the arrays as the launch finds them; the operands left in place, the outputs at their closed
    forms; the scratch at any contents; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => boxOut (in0 m c t) (in1 m c t) (in2 m c t)
    | ⟨4, _⟩ => scoreOut (in0 m c t) (in1 m c t) (in2 m c t)
    | ⟨5, _⟩ => labelOut (in0 m c t) (in1 m c t) (in2 m c t)
  Φ _ := Pipeline.ΦA spec0 c
  q _ := fullShare
  owed _ := 0

/-- An array of the launch starts as what the run left there before the launch. -/
theorem A_eq (c : Dev nD) (w : Fin cfg0.W) : (dats m 0 c).A w = V m c (Pipeline.arrRef spec0 w) := by dsimp only [dats]

/-- The first window holds the box rows when its body runs. -/
theorem before0_0 (c : Dev nD) (t : Fin cfg0.N) (d) : (dats m 0 c).before 0 t d = iblk m c 0 t := before0_0_of m _ (A_eq m c 0) (fun _ => rfl) t d
/-- The second window holds the split boxes when its body runs. -/
theorem before0_1 (c : Dev nD) (t : Fin cfg0.N) (d) : (dats m 0 c).before 1 t d = iblk m c 1 t := before0_1_of m _ (A_eq m c 1) (fun _ => rfl) t d
/-- The third window holds the score rows when its body runs. -/
theorem before0_2 (c : Dev nD) (t : Fin cfg0.N) (d) : (dats m 0 c).before 2 t d = iblk m c 2 t := before0_2_of m _ (A_eq m c 2) (fun _ => rfl) t d

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d)))
/-- What the body returns with. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t))

/-- The body at the launch's point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq,
    show (dats m 0 c).after 0 t = iblk m c 0 t from rfl, show (dats m 0 c).after 1 t = iblk m c 1 t from rfl, show (dats m 0 c).after 2 t = iblk m c 2 t from rfl,
    show (dats m 0 c).after 3 t = boxOut (in0 m c t) (in1 m c t) (in2 m c t) from rfl,
    show (dats m 0 c).after 4 t = scoreOut (in0 m c t) (in1 m c t) (in2 m c t) from rfl,
    show (dats m 0 c).after 5 t = labelOut (in0 m c t) (in1 m c t) (in2 m c t) from rfl]
  iintro ⟨⟨⟨S0, S1, S2, S3, S4, S5⟩, Hg⟩, HO, ⟨%d0, H0⟩, ⟨%d1, H1⟩, ⟨%d2, H2⟩, ⟨%d3, H3⟩, ⟨%d4, H4⟩, ⟨%d5, H5⟩⟩
  iapply (kernelRun c _ _ _ _ _ _ _ _ _ _ _ _ _ _ _ _ _ _ _ _ _ _ _ _ (in0 m c t) (in1 m c t) (in2 m c t) _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, S0, S1, S2, S3, S4, S5⟩
  isplitl [Hg S0 S1 S2 S3 S4 S5]
  · isplitl [S0 S1 S2 S3 S4 S5]
    · isplitl [S0]; · iexact S0
      isplitl [S1]; · iexact S1
      isplitl [S2]; · iexact S2
      isplitl [S3]; · iexact S3
      isplitl [S4]; · iexact S4
      iexact S5
    iexact Hg
  isplitl [HO]; · iexact HO
  isplitl [H0]; · iexact H0
  isplitl [H1]; · iexact H1
  isplitl [H2]; · iexact H2
  isplitl [H3]; · iexact H3
  isplitl [H4]; · iexact H4
  iexact H5

/-- The body table's row at the point is the body as the launch spells it. -/
theorem defs₀_row (t : Fin cfg0.N) : defs₀ (F := F) .tc cfg0.body (cfg0.bodyArgs t (cfg0.slots t)) = bodyAt0 t := by
  unfold defs₀; rw [Defs.onTc_tc]

/-- The body does at the point what the proof data say. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

-- the launch theorem's implicit arguments are found by unifying its conclusion with this statement, which unifies only
-- when unification may unfold plain definitions in a metavariable's type
set_option backward.isDefEq.respectTransparency.types false in
/-- From any memory with zero counters every weakly fair execution of the program terminates, every final state has the
    kernel's arrays as the proof data say and every other buffer as the host's operations leave it, and every counter is zero. -/
theorem run_main :
    θ_run defs (onTc (τ := τ) (main (F := F))) (s₀ m ρ)
      (fun r => Pipeline.FramePost cfgs (dats m) 0 (Pipeline.afterTail₀ cfgs (dats m) 0 (V0 m) [hostOps1]) r ∧ r.2.sem = fun _ => 0) :=
  Pipeline.θ_run_frame_around (Q' := fun r => Pipeline.FramePost cfgs (dats m) 0 (Pipeline.afterTail₀ cfgs (dats m) 0 (V0 m) [hostOps1]) r ∧ r.2.sem = fun _ => 0) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl) (hQ' := fun _ h => h)

/-- The frame: the arguments end unchanged and every counter is zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨(((h.1 c).2 main_arg0 (Pipeline.mem_restRefs_of main_arg0 (by decide) (by decide))).trans (W_main_arg0 m (dats m) c)),
      (((h.1 c).2 main_arg1 (Pipeline.mem_restRefs_of main_arg1 (by decide) (by decide))).trans (W_main_arg1 m (dats m) c))⟩, h.2⟩) (run_main m ρ)

end Cert.KernelIdeal.Hand

end
-- ==== Proof.Merge.lean ====
module

public import Idealize.ShloMosaic.Lib.SortPrefix
public import Idealize.ShloMosaic.PureOps.Ideal

@[expose] public section

/-!
# First maxima, and a stable sort by decreasing value

The kernel takes the best entries of a row one at a time: it finds the first greatest entry, records it and
overwrites it with `⊥`.  The reference sorts the row stably by decreasing value and keeps a prefix.  This module
shows that the two visit the same entries, as long as the value visited is above `⊥`.
-/

namespace Cert.Nms

open Idealize.ShloMosaic

/-- `i` is the first position at which `v` takes its greatest value. -/
structure FirstMax {n : Nat} (v : Fin n → EReal) (i : Fin n) : Prop where
  le : ∀ p, v p ≤ v i
  first : ∀ p, v p = v i → i ≤ p

/-- The first greatest position is unique. -/
theorem FirstMax.unique {n : Nat} {v : Fin n → EReal} {i j : Fin n} (hi : FirstMax v i) (hj : FirstMax v j) : i = j :=
  have e : v i = v j := le_antisymm (hj.le i) (hi.le j)
  le_antisymm (hi.first j e.symm) (hj.first i e)

/-- A row with an entry has a first greatest position. -/
theorem exists_firstMax {n : Nat} (v : Fin (n + 1) → EReal) : ∃ i, FirstMax v i := by
  classical
  obtain ⟨m, -, hm⟩ := Finset.exists_max_image Finset.univ v Finset.univ_nonempty
  have hne : (Finset.univ.filter fun p => v p = v m).Nonempty := ⟨m, by simp⟩
  refine ⟨(Finset.univ.filter fun p => v p = v m).min' hne, ?_, ?_⟩
  · intro p
    have := Finset.min'_mem _ hne
    rw [Finset.mem_filter] at this
    rw [this.2]; exact hm p (Finset.mem_univ _)
  · intro p hp
    have := Finset.min'_mem _ hne
    rw [Finset.mem_filter] at this
    exact Finset.min'_le _ _ (by simp [hp, this.2])

/-- The order by decreasing value. -/
noncomputable def gtB {n : Nat} (v : Fin n → EReal) (k k' : Fin n) : Bool := decide (v k' < v k)

/-- The order by decreasing value, equal values in position order. -/
noncomputable def lexB {n : Nat} (v : Fin n → EReal) (k k' : Fin n) : Bool :=
  decide (v k' < v k) || (decide (v k = v k') && decide (k < k'))

/-- Larger first, and the earlier position among equals, is a strict total order of the positions. -/
theorem lexB_strictTotal {n : Nat} (v : Fin n → EReal) : StrictTotalBefore (lexB v) := by
  refine StrictTotalBefore.of_key_then_position (fun a b : EReal => decide (b < a)) v ?_ ?_ ?_
  · intro a; simp
  · intro a b c h1 h2
    simp only [decide_eq_true_eq] at *
    exact h2.trans h1
  · intro a b
    simp only [decide_eq_true_eq]
    rcases lt_trichotomy a b with h | h | h
    · exact Or.inr (Or.inr h)
    · exact Or.inr (Or.inl h)
    · exact Or.inl h

/-- On an increasing list of positions the stable sort by value alone is the sort by value and position. -/
theorem stableSort_gtB {n : Nat} (v : Fin n → EReal) (l : List (Fin n)) (hl : l.Pairwise (· < ·)) :
    stableSort (gtB v) l = stableSort (lexB v) l := by
  induction l with
  | nil => rfl
  | cons a l ih =>
    rw [List.pairwise_cons] at hl
    unfold stableSort
    rw [ih hl.2]
    refine insertBefore_congr _ _ _ _ fun b hb => ?_
    have hb' : b ∈ l := (perm_stableSort (lexB v) l).mem_iff.mp hb
    have : ¬ b < a := not_lt.mpr (hl.1 b hb').le
    simp [gtB, lexB, this]

/-- A stable sort by larger value alone gives the same order as the sort that also compares positions. -/
theorem sortedFrom_gtB {n : Nat} (v : Fin n → EReal) : sortedFrom (gtB v) = sortedFrom (lexB v) := by
  have h : sortPositions n (gtB v) = sortPositions n (lexB v) := stableSort_gtB v _ (List.pairwise_lt_finRange n)
  funext k
  unfold sortedFrom
  rw [List.get_of_eq h]
  rfl

/-- The stable sort by decreasing value puts a later entry strictly lower, or equal and further right. -/
theorem sortedFrom_gt {n : Nat} (v : Fin n → EReal) {i j : Fin n} (hij : i < j) :
    v (sortedFrom (gtB v) j) < v (sortedFrom (gtB v) i)
      ∨ (v (sortedFrom (gtB v) j) = v (sortedFrom (gtB v) i) ∧ sortedFrom (gtB v) i < sortedFrom (gtB v) j) := by
  have hB := lexB_strictTotal v
  have hne : sortedFrom (lexB v) j ≠ sortedFrom (lexB v) i := fun e => hij.ne' (sortedFrom_injective _ e)
  have h := sortedFrom_noInversion (lexB v) (lexB v) (fun a b h => hB.asymm a b h) (fun _ _ h => h) hB.negTrans i j hij
  rw [sortedFrom_gtB]
  generalize sortedFrom (lexB v) i = a at *
  generalize sortedFrom (lexB v) j = b at *
  simp only [lexB, Bool.or_eq_false_iff, Bool.and_eq_false_iff, decide_eq_false_iff_not, not_lt] at h
  rcases h.1.lt_or_eq with h1 | h1
  · exact Or.inl h1
  · exact Or.inr ⟨h1, by
      rcases h.2 with h2 | h2
      · exact absurd h1 h2
      · exact lt_of_le_of_ne h2 hne.symm⟩

/-- The head of the sorted row is the row's first greatest entry. -/
theorem firstMax_sortedFrom {n : Nat} (v : Fin (n + 1) → EReal) : FirstMax v (sortedFrom (gtB v) 0) := by
  have key : ∀ p, p = sortedFrom (gtB v) 0 ∨ v p < v (sortedFrom (gtB v) 0)
      ∨ (v p = v (sortedFrom (gtB v) 0) ∧ sortedFrom (gtB v) 0 < p) := by
    intro p
    obtain ⟨j, rfl⟩ := sortedFrom_surjective (gtB v) p
    rcases eq_or_ne j 0 with rfl | hj
    · exact Or.inl rfl
    · exact Or.inr (sortedFrom_gt v (Fin.pos_of_ne_zero hj))
  constructor
  · intro p
    rcases key p with h | h | h
    · rw [h]
    · exact h.le
    · exact h.1.le
  · intro p hp
    rcases key p with h | h | h
    · exact h.ge
    · exact absurd hp h.ne
    · exact h.2.le

/-- Taking the first greatest entry and overwriting it with `⊥`, again and again, visits the sorted row: the value
    found at trip `j` is the sorted row's entry `j`, and where it is above `⊥` it is found at the same position. -/
theorem strike_sorted {n : Nat} (v : Fin n → EReal) (h : Nat → Fin n → EReal) (i : Nat → Fin n) (h0 : h 0 = v)
    (hmax : ∀ k, FirstMax (h k) (i k)) (hstep : ∀ k p, h (k + 1) p = if p = i k then ⊥ else h k p)
    (j : Fin n) :
    h j (i j) = v (sortedFrom (gtB v) j) ∧ (h j (i j) ≠ ⊥ → i j = sortedFrom (gtB v) j) := by
  classical
  have aux : ∀ (k : Nat) (hk : k < n), (∀ p, h k p = if ∃ m : Fin n, m.val < k ∧ sortedFrom (gtB v) m = p then ⊥ else v p) →
      h k (i k) = v (sortedFrom (gtB v) ⟨k, hk⟩) ∧ (h k (i k) ≠ ⊥ → i k = sortedFrom (gtB v) ⟨k, hk⟩) := by
    intro k hk hf
    have hun : ¬ ∃ m : Fin n, m.val < k ∧ sortedFrom (gtB v) m = sortedFrom (gtB v) ⟨k, hk⟩ := by
      rintro ⟨m, hm, e⟩
      have := sortedFrom_injective _ e
      subst this
      exact lt_irrefl _ hm
    have hσ : h k (sortedFrom (gtB v) ⟨k, hk⟩) = v (sortedFrom (gtB v) ⟨k, hk⟩) := by rw [hf, if_neg hun]
    have hle := (hmax k).le (sortedFrom (gtB v) ⟨k, hk⟩)
    by_cases hs : ∃ m : Fin n, m.val < k ∧ sortedFrom (gtB v) m = i k
    · have hb : h k (i k) = ⊥ := by rw [hf, if_pos hs]
      refine ⟨?_, fun hne => absurd hb hne⟩
      rw [hb] at hle ⊢
      rw [← hσ]
      exact (le_bot_iff.mp hle).symm
    · have hv : h k (i k) = v (i k) := by rw [hf, if_neg hs]
      obtain ⟨m, hm⟩ := sortedFrom_surjective (gtB v) (i k)
      have hkm : k ≤ m.val := by
        by_contra hlt
        exact hs ⟨m, not_le.mp hlt, hm⟩
      rcases hkm.lt_or_eq with hlt | heq
      · exfalso
        rcases sortedFrom_gt v (i := ⟨k, hk⟩) (j := m) hlt with h1 | h1
        · rw [hm, ← hv, ← hσ] at h1
          exact absurd hle (not_le.mpr h1)
        · have := (hmax k).first (sortedFrom (gtB v) ⟨k, hk⟩) (by rw [hσ, hv, ← hm]; exact h1.1.symm)
          rw [← hm] at this
          exact absurd this (not_le.mpr h1.2)
      · have : m = ⟨k, hk⟩ := Fin.ext heq.symm
        subst this
        exact ⟨by rw [hv, hm], fun _ => hm.symm⟩
  have inv : ∀ k, k < n → ∀ p, h k p = if ∃ m : Fin n, m.val < k ∧ sortedFrom (gtB v) m = p then ⊥ else v p := by
    intro k
    induction k with
    | zero => intro _ p; rw [h0, if_neg]; rintro ⟨m, hm, -⟩; exact absurd hm (Nat.not_lt_zero _)
    | succ k ih =>
      intro hk p
      have hk' : k < n := Nat.lt_of_succ_lt hk
      have hf := ih hk'
      have ha := aux k hk' hf
      rw [hstep]
      by_cases hb : h k (i k) = ⊥
      · have hall : ∀ p, h k p = ⊥ := fun p => le_bot_iff.mp (hb ▸ (hmax k).le p)
        have hL : (if p = i k then ⊥ else h k p) = (⊥ : EReal) := by split <;> [rfl; exact hall p]
        rw [hL]
        split
        · rfl
        · rename_i hns
          have : ¬ ∃ m : Fin n, m.val < k ∧ sortedFrom (gtB v) m = p := fun ⟨m, hm, e⟩ => hns ⟨m, Nat.lt_succ_of_lt hm, e⟩
          have h2 := hf p
          rw [if_neg this, hall] at h2
          exact h2
      · have hi := ha.2 hb
        by_cases hp : p = i k
        · rw [if_pos hp, if_pos ⟨⟨k, hk'⟩, Nat.lt_succ_self k, by rw [hp, hi]⟩]
        · rw [if_neg hp, hf]
          refine if_congr ⟨fun ⟨m, hm, e⟩ => ⟨m, Nat.lt_succ_of_lt hm, e⟩, fun ⟨m, hm, e⟩ => ?_⟩ rfl rfl
          rcases (Nat.lt_succ_iff.mp hm).lt_or_eq with h1 | h1
          · exact ⟨m, h1, e⟩
          · exfalso; apply hp; rw [hi, ← e]; congr 1; exact Fin.ext h1
  exact aux j j.isLt (inv j j.isLt)

end Cert.Nms
-- ==== Proof.NmsSpec.lean ====
module

public import proofs.«01_k».proof.Proof.Merge
public import Idealize.ShloMosaic.Lib.IdealHost
public import Idealize.ShloMosaic.Lib.WordCmp

@[expose] public section

/-!
# Greedy suppression of one class row, over the extended reals

`live B s k` are the scores still in play after `k` picks for the boxes `B` and the scores `s` of one class: scores
at most the threshold are `⊥` from the start, and every pick puts `⊥` where the overlap with the picked box is above
one half.  The module also has the few facts about folds (maximum, signed minimum, sum of a one-hot row) by which
both programs' reductions are read.
-/

namespace Cert.Nms

open Idealize.ShloMosaic

/-- The overlap threshold, one half, as the literal both programs carry. -/
noncomputable def half : EReal := Ideal.ofBits .f32 0x3F000000#32
/-- The score threshold as the literal both programs carry. -/
noncomputable def thr : EReal := Ideal.ofBits .f32 0x3C23D70A#32

/-- The overlap threshold is not negative. -/
theorem half_nonneg : (0 : EReal) ≤ half := by
  unfold half
  have : Ideal.ofBits .f32 0x3F000000#32 = (((1 : ℝ) / 2 : ℝ) : EReal) := by
    simp [Ideal.ofBits, Ideal.ieee, -EReal.coe_mul]; norm_num
  rw [this]; exact_mod_cast (by norm_num : (0:ℝ) ≤ 1 / 2)

/-- The score threshold is not negative. -/
theorem thr_nonneg : (0 : EReal) ≤ thr := by
  unfold thr
  have : Ideal.ofBits .f32 0x3C23D70A#32 = (((10737418 : ℝ) / 1073741824 : ℝ) : EReal) := by
    simp [Ideal.ofBits, Ideal.ieee, -EReal.coe_mul]; norm_num
  rw [this]; exact_mod_cast (by norm_num : (0:ℝ) ≤ 10737418 / 1073741824)

/-- The literal for minus infinity is the least extended real. -/
theorem ofBits_neg_inf : Ideal.ofBits .f32 0xFF800000#32 = ⊥ := by simp [Ideal.ofBits, Ideal.ieee]

/-- The area in which two boxes overlap. -/
noncomputable def inter (p q : Fin 4 → EReal) : EReal :=
  max (min (p 2) (q 2) - max (p 0) (q 0)) 0 * max (min (p 3) (q 3) - max (p 1) (q 1)) 0
/-- A box's area. -/
noncomputable def area (p : Fin 4 → EReal) : EReal := max (p 2 - p 0) 0 * max (p 3 - p 1) 0
/-- The area two boxes cover together. -/
noncomputable def union (p q : Fin 4 → EReal) : EReal := area p + area q - inter p q
/-- Box `q` is suppressed by box `p`. -/
def Sup (p q : Fin 4 → EReal) : Prop := half < Ideal.div (inter p q) (union p q)

/-- For boxes of real coordinates, guarding the quotient against an empty union changes nothing: the union is never
    negative, and where it is zero the overlap is zero too and the pair is kept either way. -/
theorem keep_iff (p q : Fin 4 → EReal) (hp : ∀ j, ∃ r : ℝ, p j = r) (hq : ∀ j, ∃ r : ℝ, q j = r) :
    ((if 0 < union p q then Ideal.div (inter p q) (union p q) else 0) ≤ half) ↔ ¬ Sup p q := by
  choose a ha using hp
  choose b hb using hq
  unfold Sup
  rw [not_lt]
  split
  · exact Iff.rfl
  · rename_i hu
    refine iff_of_true half_nonneg ?_
    set i : ℝ := max (min (a 2) (b 2) - max (a 0) (b 0)) 0 * max (min (a 3) (b 3) - max (a 1) (b 1)) 0 with hi
    set u : ℝ := max (a 2 - a 0) 0 * max (a 3 - a 1) 0 + max (b 2 - b 0) 0 * max (b 3 - b 1) 0 - i with hudef
    have ei : inter p q = (i : EReal) := by
      unfold inter; rw [ha, ha, ha, ha, hb, hb, hb, hb, hi]; push_cast; rfl
    have eu : union p q = (u : EReal) := by
      unfold union area; rw [ei, ha, ha, ha, ha, hb, hb, hb, hb, hudef]; push_cast; rfl
    have hib : i ≤ max (b 2 - b 0) 0 * max (b 3 - b 1) 0 :=
      mul_le_mul (max_le_max (sub_le_sub (min_le_right _ _) (le_max_right _ _)) le_rfl)
        (max_le_max (sub_le_sub (min_le_right _ _) (le_max_right _ _)) le_rfl) (le_max_right _ _) (le_max_right _ _)
    have hia : i ≤ max (a 2 - a 0) 0 * max (a 3 - a 1) 0 :=
      mul_le_mul (max_le_max (sub_le_sub (min_le_left _ _) (le_max_left _ _)) le_rfl)
        (max_le_max (sub_le_sub (min_le_left _ _) (le_max_left _ _)) le_rfl) (le_max_right _ _) (le_max_right _ _)
    have hi0 : 0 ≤ i := mul_nonneg (le_max_right _ _) (le_max_right _ _)
    rw [eu] at hu
    have hu' : u ≤ 0 := by
      by_contra h
      exact hu (by exact_mod_cast not_le.mp h)
    have hi' : i = 0 := by linarith
    have hu0 : u = 0 := by linarith
    rw [ei, eu, hu0, hi']
    show Ideal.div ((0 : ℝ) : EReal) ((0 : ℝ) : EReal) ≤ half
    rw [EReal.coe_zero, Ideal.div, if_pos rfl, if_neg (lt_irrefl _)]
    exact bot_le

/-- The position picked: the first greatest score. -/
noncomputable def best (v : Fin 5000 → EReal) : Fin 5000 := (exists_firstMax (n := 4999) v).choose
/-- The best position is the first one with the greatest value. -/
theorem best_spec (v : Fin 5000 → EReal) : FirstMax v (best v) := (exists_firstMax (n := 4999) v).choose_spec
/-- The score picked. -/
noncomputable def top (v : Fin 5000 → EReal) : EReal := v (best v)

open Classical in
/-- The scores in play after one more pick. -/
noncomputable def next (B : Fin 5000 → Fin 4 → EReal) (v : Fin 5000 → EReal) : Fin 5000 → EReal := fun n =>
  if ⊥ < top v ∧ Sup (B (best v)) (B n) then ⊥ else v n

open Classical in
/-- The scores in play after `k` picks. -/
noncomputable def live (B : Fin 5000 → Fin 4 → EReal) (s : Fin 5000 → EReal) : Nat → Fin 5000 → EReal
  | 0 => fun n => if thr < s n then s n else ⊥
  | k + 1 => next B (live B s k)

/-- If no score is in play then none is after a pick. -/
theorem next_of_top_eq_bot (B : Fin 5000 → Fin 4 → EReal) (v : Fin 5000 → EReal) (h : ¬ ⊥ < top v) (n : Fin 5000) : v n = ⊥ := by
  have h1 : top v = ⊥ := by
    by_contra h2; exact h (bot_lt_iff_ne_bot.mpr h2)
  have := (best_spec v).le n
  change v n ≤ top v at this
  rw [h1] at this
  exact le_bot_iff.mp this

/-! ## Folds -/

/-- A maximum over everything, from `⊥`, is any entry that no entry exceeds. -/
theorem fold_max_eq {ι : Type} [Fintype ι] (f : ι → EReal) (i : ι) (h : ∀ p, f p ≤ f i) :
    (Finset.univ : Finset ι).fold max (Ideal.ofBits .f32 0xFF800000#32) f = f i := by
  rw [ofBits_neg_inf]
  apply le_antisymm
  · rw [Finset.fold_max_le]; exact ⟨bot_le, fun p _ => h p⟩
  · rw [Finset.le_fold_max]; exact Or.inr ⟨i, Finset.mem_univ _, le_rfl⟩

/-- The signed minimum of two small words is the word of the smaller number. -/
theorem minsi_ofNat {a b : Nat} (ha : a < 2 ^ 31) (hb : b < 2 ^ 31) :
    IntOp.minsi (BitVec.ofNat 32 a) (BitVec.ofNat 32 b) = BitVec.ofNat 32 (min a b) := by
  have h1 : (BitVec.ofNat 32 a).toInt = a := WordCmp.toInt_ofNat_of_lt ha
  have h2 : (BitVec.ofNat 32 b).toInt = b := WordCmp.toInt_ofNat_of_lt hb
  unfold IntOp.minsi BitVec.slt
  rw [h1, h2]
  by_cases h : a < b
  · rw [if_pos (by simpa using h), min_eq_left h.le]
  · rw [if_neg (by simpa using h), min_eq_right (not_lt.mp h)]

/-- A signed minimum over everything, from the greatest word, of words that are small numbers. -/
theorem fold_minsi_eq {ι : Type} [Fintype ι] (f : ι → BitVec 32) (g : ι → Nat) (hf : ∀ p, f p = BitVec.ofNat 32 (g p))
    (hg : ∀ p, g p < 2 ^ 31) (i : ι) (h : ∀ p, g i ≤ g p) :
    (Finset.univ : Finset ι).fold IntOp.minsi 2147483647#32 f = BitVec.ofNat 32 (g i) := by
  classical
  have key : ∀ s : Finset ι, ∃ m, m < 2 ^ 31 ∧ s.fold IntOp.minsi 2147483647#32 f = BitVec.ofNat 32 m ∧ g i ≤ m ∧ (i ∈ s → m = g i) := by
    intro s
    induction s using Finset.induction_on with
    | empty => exact ⟨2147483647, by norm_num, by rfl, Nat.le_of_lt_succ (hg i), fun h => absurd h (Finset.notMem_empty _)⟩
    | insert p s hp ih =>
      obtain ⟨m, hm, he, hle, hi⟩ := ih
      refine ⟨min (g p) m, lt_of_le_of_lt (min_le_right _ _) hm, ?_, le_min (h p) hle, ?_⟩
      · rw [Finset.fold_insert hp, he, hf, minsi_ofNat (hg p) hm]
      · intro hmem
        rcases Finset.mem_insert.mp hmem with e | e
        · rw [← e]; exact min_eq_left hle
        · rw [hi e]; exact min_eq_right (h p)
  obtain ⟨m, _, he, _, hi⟩ := key Finset.univ
  rw [he, hi (Finset.mem_univ _)]

/-- The sum of words that vanish but at one place. -/
theorem fold_addi_single {ι : Type} [Fintype ι] (f : ι → BitVec 32) (i : ι) (h : ∀ p, p ≠ i → f p = 0#32) :
    (Finset.univ : Finset ι).fold IntOp.addi 0#32 f = f i := by
  classical
  have key : ∀ s : Finset ι, s.fold IntOp.addi 0#32 f = if i ∈ s then f i else 0#32 := by
    intro s
    induction s using Finset.induction_on with
    | empty => rfl
    | insert p s hp ih =>
      rw [Finset.fold_insert hp, ih]
      by_cases e : p = i
      · subst e
        rw [if_neg hp, if_pos (Finset.mem_insert_self _ _)]
        exact BitVec.add_zero _
      · rw [h p e]
        have : (i ∈ insert p s) ↔ i ∈ s := by
          rw [Finset.mem_insert]; exact or_iff_right (fun h => e h.symm)
        rw [if_congr this rfl rfl]
        exact BitVec.zero_add _
  rw [key, if_pos (Finset.mem_univ _)]

end Cert.Nms
-- ==== Proof.PickValue.lean ====
module

public import proofs.«01_k».proof.Proof.Outputs
public import proofs.«01_k».proof.Proof.NmsSpec
public import Idealize.ShloMosaic.Lib.Pointwise

@[expose] public section

/-!
# The selection loop over the extended reals

One trip of the kernel's selection loop, read at the extended reals: a row of the masked scores that is `pad v`
(the scores `v` in play, `⊥` in the padding) has the maximum `top v`, the one-hot row of `best v`, the coordinates
of the box `best v`, and is `pad (next B v)` after the trip.
-/

set_option maxRecDepth 32768

namespace Cert.KernelIdeal.Hand

open Cert.KernelIdeal Cert.KernelIdeal.Gen
open Idealize.ShloMosaic Idealize.ShloMosaic.TcCoe Idealize.ShloMosaic.Tactic
open Cert.Nms

/-- A row of 5000 scores in the kernel's 5120 columns. -/
noncomputable def pad (v : Fin 5000 → EReal) (n : Fin 5120) : EReal := if h : n.val < 5000 then v ⟨n.val, h⟩ else ⊥

/-- A padded row at one of the 5000 boxes. -/
theorem pad_of_lt (v : Fin 5000 → EReal) (n : Fin 5120) (h : n.val < 5000) : pad v n = v ⟨n.val, h⟩ := dif_pos h
/-- A padded row beyond the 5000 boxes is minus infinity. -/
theorem pad_of_not_lt (v : Fin 5000 → EReal) (n : Fin 5120) (h : ¬ n.val < 5000) : pad v n = ⊥ := dif_neg h

/-- The first group's columns are among the twelve. -/
theorem lt_hi (j : Fin 4) : j.val < 12 := by omega
/-- The second group's columns are among the twelve. -/
theorem lt_mid (j : Fin 4) : 4 + j.val < 12 := by omega
/-- The third group's columns are among the twelve. -/
theorem lt_lo (j : Fin 4) : 8 + j.val < 12 := by omega
/-- The first batch element's rows are among the 160. -/
theorem lt_row0 (r : Fin 80) : r.val < 160 := by omega
/-- The second batch element's rows are among the 160. -/
theorem lt_row1 (r : Fin 80) : 80 + r.val < 160 := by omega

/-- The column of a position. -/
def col (i : Fin 5000) : Fin 5120 := ⟨i.val, Nat.lt_of_lt_of_le i.isLt (by decide)⟩

/-- A padded row at the column of a box. -/
theorem pad_col (v : Fin 5000 → EReal) (i : Fin 5000) : pad v (col i) = v i := dif_pos i.isLt

/-- Every entry of a padded row is at most the greatest of the row. -/
theorem pad_le (v : Fin 5000 → EReal) (n : Fin 5120) : pad v n ≤ top v := by
  by_cases h : n.val < 5000
  · rw [pad_of_lt v n h]; exact (best_spec v).le _
  · rw [pad_of_not_lt v n h]; exact bot_le

/-- The row's maximum. -/
theorem pay8_row (ms : Vec Ideal S160x5120 .f32) (r : Fin 160) (v : Fin 5000 → EReal) (h : ∀ n, ms (ix2 r n) = pad v n) :
    k0_pay8 (F := Ideal) ms (ix2 r 0) = top v := by
  have e : k0_pay8 (F := Ideal) ms (ix2 r 0)
      = (Finset.univ : Finset (Fin 5120)).fold max (Ideal.ofBits .f32 0xFF800000#32) (fun x => ms (ix2 r x)) := by
    pointwise [k0_pay8]
  rw [e, fold_max_eq _ (col (best v)) (fun p => by rw [h, h, pad_col]; exact pad_le v p), h, pad_col]
  rfl

/-- The row's one-hot mark, where a score is in play. -/
theorem pay9_row (v39 : IVec S160x5120 32) (hv39 : ∀ r n, v39 (ix2 r n) = BitVec.ofNat 32 n.val) (ms : Vec Ideal S160x5120 .f32) (r : Fin 160)
    (v : Fin 5000 → EReal) (h : ∀ n, ms (ix2 r n) = pad v n) (hok : ⊥ < top v) (n : Fin 5120) :
    k0_pay9 (F := Ideal) v39 ms (ix2 r n) = (if n = col (best v) then 1 else 0 : EReal) := by
  have e : k0_pay9 (F := Ideal) v39 ms (ix2 r n) = FloatOps.sitofp (F := Ideal) FTy.f32
      (BitVec.setWidth 32
        (IntOp.cmpi CmpIPredicate.eq (v39 (ix2 r n))
          (if Ideal.ofBits FTy.f32 4286578688#32 < k0_pay8 (F := Ideal) ms (ix2 r 0) then
            Finset.fold IntOp.minsi (2147483647#32)
              (fun x => if ms (ix2 r x) = k0_pay8 (F := Ideal) ms (ix2 r 0) then v39 (ix2 r x) else 5120#32) Finset.univ
          else 5120#32))) := by
    pointwise [k0_pay9]
  classical
  have hfold := fold_minsi_eq (fun x : Fin 5120 => if ms (ix2 r x) = k0_pay8 (F := Ideal) ms (ix2 r 0) then v39 (ix2 r x) else 5120#32)
    (fun x => if pad v x = top v then x.val else 5120)
    (fun p => by
      show (if ms (ix2 r p) = k0_pay8 (F := Ideal) ms (ix2 r 0) then v39 (ix2 r p) else 5120#32) = BitVec.ofNat 32 (if pad v p = top v then p.val else 5120)
      rw [pay8_row ms r v h, h, hv39]; split <;> rfl)
    (fun p => by
      have := p.isLt
      show (if pad v p = top v then p.val else 5120) < 2 ^ 31
      split <;> omega)
    (col (best v))
    (fun p => by
      show (if pad v (col (best v)) = top v then (col (best v)).val else 5120) ≤ (if pad v p = top v then p.val else 5120)
      rw [if_pos (show pad v (col (best v)) = top v from pad_col v (best v))]
      have hb : (col (best v)).val < 5000 := (best v).isLt
      split
      · rename_i hp
        by_cases hlt : p.val < 5000
        · rw [pad_of_lt v p hlt] at hp
          exact (best_spec v).first _ hp
        · rw [pad_of_not_lt v p hlt] at hp
          rw [← hp] at hok; exact absurd hok (lt_irrefl _)
      · omega)
  rw [e, hfold]
  show FloatOps.sitofp (F := Ideal) FTy.f32
      (BitVec.setWidth 32
        (IntOp.cmpi CmpIPredicate.eq (v39 (ix2 r n))
          (if Ideal.ofBits FTy.f32 4286578688#32 < k0_pay8 (F := Ideal) ms (ix2 r 0) then BitVec.ofNat 32 (if pad v (col (best v)) = top v then (col (best v)).val else 5120)
          else 5120#32))) = _
  have hb : (col (best v)).val < 5000 := (best v).isLt
  have hn : n.val < 5120 := n.isLt
  rw [pay8_row ms r v h, ofBits_neg_inf, if_pos hok, if_pos (show pad v (col (best v)) = top v from pad_col v (best v)), hv39, WordCmp.cmpi_eq_ofNat (by omega) (by omega)]
  by_cases hc : n = col (best v)
  · rw [if_pos hc, hc]
    change ((BitVec.toInt _ : ℝ) : EReal) = _
    simp
  · have : n.val ≠ (col (best v)).val := fun e => hc (Fin.ext e)
    rw [if_neg hc]
    change ((BitVec.toInt _ : ℝ) : EReal) = _
    simp [this]

/-- A sum against a one-hot row. -/
theorem sum_onehot (oh a : Fin 5120 → EReal) (i : Fin 5120) (h : ∀ n, oh n = if n = i then 1 else 0) : ∑ x, oh x * a x = a i := by
  rw [Finset.sum_eq_single i]
  · rw [h, if_pos rfl, one_mul]
  · intro b _ hb; rw [h, if_neg hb, zero_mul]
  · intro hi; exact absurd (Finset.mem_univ _) hi

section Coords

variable (v39 : IVec S160x5120 32) (hv39 : ∀ r n, v39 (ix2 r n) = BitVec.ofNat 32 n.val) (ms : Vec Ideal S160x5120 .f32)
  (v : Fin 5000 → EReal) (B : Fin 5000 → Fin 4 → EReal) (v41 : Vec Ideal S1x5120x12 .bf16)
  (hhi : ∀ (i : Fin 5000) (j : Fin 4), v41 (ix3 0 (col i) ⟨j.val, lt_hi j⟩) = B i j)
  (hmid : ∀ (i : Fin 5000) (j : Fin 4), v41 (ix3 0 (col i) ⟨4 + j.val, lt_mid j⟩) = (0 : EReal))
  (hlo : ∀ (i : Fin 5000) (j : Fin 4), v41 (ix3 0 (col i) ⟨8 + j.val, lt_lo j⟩) = (0 : EReal))

include hv39 hhi hmid hlo

/-- The picked box's coordinates, batch element 0. -/
theorem pay10_row (r : Fin 80) (h : ∀ n, ms (ix2 ⟨r.val, lt_row0 r⟩ n) = pad v n) (hok : ⊥ < top v) (j : Fin 4) :
    k0_pay10 (F := Ideal) v39 (k0_pay2 v41) ms (ix2 r j) = B (best v) j := by
  have e : k0_pay10 (F := Ideal) v39 (k0_pay2 v41) ms (ix2 r j)
      = ((∑ x, k0_pay9 (F := Ideal) v39 ms (ix2 ⟨r.val, lt_row0 r⟩ x) * v41 (ix3 0 x ⟨j.val, lt_hi j⟩)
        + ∑ x, k0_pay9 (F := Ideal) v39 ms (ix2 ⟨r.val, lt_row0 r⟩ x) * v41 (ix3 0 x ⟨4 + j.val, lt_mid j⟩))
        + ∑ x, k0_pay9 (F := Ideal) v39 ms (ix2 ⟨r.val, lt_row0 r⟩ x) * v41 (ix3 0 x ⟨8 + j.val, lt_lo j⟩) : EReal) := by
    pointwise [k0_pay10, k0_pay2]
  have hoh := pay9_row v39 hv39 ms ⟨r.val, lt_row0 r⟩ v h hok
  rw [e, sum_onehot _ _ _ hoh, sum_onehot _ _ _ hoh, sum_onehot _ _ _ hoh, hhi, hmid, hlo, add_zero, add_zero]

/-- The picked box's coordinates, batch element 1. -/
theorem pay18_row (r : Fin 80) (h : ∀ n, ms (ix2 ⟨80 + r.val, lt_row1 r⟩ n) = pad v n) (hok : ⊥ < top v) (j : Fin 4) :
    k0_pay18 (F := Ideal) (k0_pay3 v41) (k0_pay9 v39 ms) (ix2 r j) = B (best v) j := by
  have e : k0_pay18 (F := Ideal) (k0_pay3 v41) (k0_pay9 v39 ms) (ix2 r j)
      = ((∑ x, k0_pay9 (F := Ideal) v39 ms (ix2 ⟨80 + r.val, lt_row1 r⟩ x) * v41 (ix3 0 x ⟨j.val, lt_hi j⟩)
        + ∑ x, k0_pay9 (F := Ideal) v39 ms (ix2 ⟨80 + r.val, lt_row1 r⟩ x) * v41 (ix3 0 x ⟨4 + j.val, lt_mid j⟩))
        + ∑ x, k0_pay9 (F := Ideal) v39 ms (ix2 ⟨80 + r.val, lt_row1 r⟩ x) * v41 (ix3 0 x ⟨8 + j.val, lt_lo j⟩) : EReal) := by
    generalize k0_pay9 (F := Ideal) v39 ms = oh
    pointwise [k0_pay18, k0_pay3]
  have hoh := pay9_row v39 hv39 ms ⟨80 + r.val, lt_row1 r⟩ v h hok
  rw [e, sum_onehot _ _ _ hoh, sum_onehot _ _ _ hoh, sum_onehot _ _ _ hoh, hhi, hmid, hlo, add_zero, add_zero]

end Coords

open Classical in
/-- What a trip leaves of a row, from the picked box's coordinates `p` and the other box's `q`, the latter's area. -/
theorem step_eq (v : Fin 5000 → EReal) (B : Fin 5000 → Fin 4 → EReal) (n : Fin 5120) (m p0 p1 p2 p3 q0 q1 q2 q3 a : EReal)
    (hm : m = pad v n)
    (hp : ⊥ < top v → p0 = B (best v) 0 ∧ p1 = B (best v) 1 ∧ p2 = B (best v) 2 ∧ p3 = B (best v) 3)
    (hq : ∀ h : n.val < 5000, q0 = B ⟨n.val, h⟩ 0 ∧ q1 = B ⟨n.val, h⟩ 1 ∧ q2 = B ⟨n.val, h⟩ 2 ∧ q3 = B ⟨n.val, h⟩ 3 ∧ a = area (B ⟨n.val, h⟩)) :
    (if Ideal.ofBits FTy.f32 1056964608#32 <
        Ideal.div (max (min p2 q2 - max p0 q0) 0 * max (min p3 q3 - max p1 q1) 0)
          (max (p2 - p0) 0 * max (p3 - p1) 0 + a - max (min p2 q2 - max p0 q0) 0 * max (min p3 q3 - max p1 q1) 0)
      then Ideal.ofBits FTy.f32 4286578688#32 else m) = pad (next B v) n := by
  rw [ofBits_neg_inf, hm]
  by_cases h : n.val < 5000
  · by_cases hok : ⊥ < top v
    · obtain ⟨rfl, rfl, rfl, rfl⟩ := hp hok
      obtain ⟨rfl, rfl, rfl, rfl, rfl⟩ := hq h
      rw [pad_of_lt _ _ h, pad_of_lt _ _ h]
      unfold next
      exact if_congr ⟨fun x => ⟨hok, x⟩, fun x => x.2⟩ rfl rfl
    · have e := next_of_top_eq_bot B v hok
      rw [pad_of_lt _ _ h, pad_of_lt _ _ h, e, ite_self]
      unfold next
      rw [if_neg (fun x => hok x.1), e]
  · rw [pad_of_not_lt _ _ h, pad_of_not_lt _ _ h, ite_self]

section Trip

variable (v10 v12 v14 v16 v18 v20 v22 v24 v31 v32 v33 : FVec Ideal S1x5120 .f32) (v39 : IVec S160x5120 32) (v41 v43 : Vec Ideal S1x5120x12 .bf16)

/-- One trip on a row of batch element 0. -/
theorem msLo_row (hv39 : ∀ r n, v39 (ix2 r n) = BitVec.ofNat 32 n.val) (ms : Vec Ideal S160x5120 .f32)
    (v : Fin 5000 → EReal) (B : Fin 5000 → Fin 4 → EReal)
    (hhi : ∀ (i : Fin 5000) (j : Fin 4), v41 (ix3 0 (col i) ⟨j.val, lt_hi j⟩) = B i j)
    (hmid : ∀ (i : Fin 5000) (j : Fin 4), v41 (ix3 0 (col i) ⟨4 + j.val, lt_mid j⟩) = (0 : EReal))
    (hlo : ∀ (i : Fin 5000) (j : Fin 4), v41 (ix3 0 (col i) ⟨8 + j.val, lt_lo j⟩) = (0 : EReal))
    (hrow : ∀ i : Fin 5000, v10 (ix2 0 (col i)) = B i 0 ∧ v12 (ix2 0 (col i)) = B i 1 ∧ v14 (ix2 0 (col i)) = B i 2 ∧ v16 (ix2 0 (col i)) = B i 3
      ∧ v31 (ix2 0 (col i)) = area (B i))
    (r : Fin 80) (h : ∀ n, ms (ix2 ⟨r.val, lt_row0 r⟩ n) = pad v n) (n : Fin 5120) :
    msLo (F := Ideal) v10 v12 v14 v16 v31 v39 v41 ms (ix2 r n) = pad (next B v) n := by
  refine Eq.trans ?_ (step_eq v B n (ms (ix2 ⟨r.val, lt_row0 r⟩ n)) (k0_pay10 (F := Ideal) v39 (k0_pay2 v41) ms (ix2 r 0)) (k0_pay10 (F := Ideal) v39 (k0_pay2 v41) ms (ix2 r 1))
    (k0_pay10 (F := Ideal) v39 (k0_pay2 v41) ms (ix2 r 2)) (k0_pay10 (F := Ideal) v39 (k0_pay2 v41) ms (ix2 r 3))
    (v10 (ix2 0 n)) (v12 (ix2 0 n)) (v14 (ix2 0 n)) (v16 (ix2 0 n)) (v31 (ix2 0 n)) (h n) ?_ ?_)
  · pointwise [msLo, k0_pay17, k0_pay15, k0_pay16, k0_pay11, k0_pay12, k0_pay13, k0_pay14]
  · intro hok
    have := pay10_row v39 hv39 ms v B v41 hhi hmid hlo r h hok
    exact ⟨this 0, this 1, this 2, this 3⟩
  · intro hn
    exact hrow ⟨n.val, hn⟩

/-- One trip on a row of batch element 1. -/
theorem msHi_row (hv39 : ∀ r n, v39 (ix2 r n) = BitVec.ofNat 32 n.val) (ms : Vec Ideal S160x5120 .f32)
    (v : Fin 5000 → EReal) (B : Fin 5000 → Fin 4 → EReal)
    (hhi : ∀ (i : Fin 5000) (j : Fin 4), v43 (ix3 0 (col i) ⟨j.val, lt_hi j⟩) = B i j)
    (hmid : ∀ (i : Fin 5000) (j : Fin 4), v43 (ix3 0 (col i) ⟨4 + j.val, lt_mid j⟩) = (0 : EReal))
    (hlo : ∀ (i : Fin 5000) (j : Fin 4), v43 (ix3 0 (col i) ⟨8 + j.val, lt_lo j⟩) = (0 : EReal))
    (hrow : ∀ i : Fin 5000, v18 (ix2 0 (col i)) = B i 0 ∧ v20 (ix2 0 (col i)) = B i 1 ∧ v22 (ix2 0 (col i)) = B i 2 ∧ v24 (ix2 0 (col i)) = B i 3
      ∧ (max (v32 (ix2 0 (col i))) (v33 (ix2 0 (col i))) * max (v24 (ix2 0 (col i)) - v20 (ix2 0 (col i))) 0 : EReal) = area (B i))
    (r : Fin 80) (h : ∀ n, ms (ix2 ⟨80 + r.val, lt_row1 r⟩ n) = pad v n) (n : Fin 5120) :
    msHi (F := Ideal) v18 v20 v22 v24 v32 v33 v39 v43 ms (ix2 r n) = pad (next B v) n := by
  refine Eq.trans ?_ (step_eq v B n (ms (ix2 ⟨80 + r.val, lt_row1 r⟩ n)) (k0_pay18 (F := Ideal) (k0_pay3 v43) (k0_pay9 v39 ms) (ix2 r 0)) (k0_pay18 (F := Ideal) (k0_pay3 v43) (k0_pay9 v39 ms) (ix2 r 1))
    (k0_pay18 (F := Ideal) (k0_pay3 v43) (k0_pay9 v39 ms) (ix2 r 2)) (k0_pay18 (F := Ideal) (k0_pay3 v43) (k0_pay9 v39 ms) (ix2 r 3))
    (v18 (ix2 0 n)) (v20 (ix2 0 n)) (v22 (ix2 0 n)) (v24 (ix2 0 n)) (max (v32 (ix2 0 n)) (v33 (ix2 0 n)) * max (v24 (ix2 0 n) - v20 (ix2 0 n)) 0 : EReal) (h n) ?_ ?_)
  · pointwise [msHi, k0_pay25, k0_pay23, k0_pay24, k0_pay19, k0_pay20, k0_pay21, k0_pay22, k0_pay1]
  · intro hok
    have := pay18_row v39 hv39 ms v B v43 hhi hmid hlo r h hok
    exact ⟨this 0, this 1, this 2, this 3⟩
  · intro hn
    exact hrow ⟨n.val, hn⟩

end Trip

end Cert.KernelIdeal.Hand
-- ==== Proof.TableValue.lean ====
module

public import proofs.«01_k».proof.Proof.PickValue

@[expose] public section

/-!
# The candidate tables over the extended reals

The selection loop's masked scores and the tables it leaves, for operands that are the boxes `B` and the scores `s`
laid out as the kernel takes them (`Laid`).  Row `80·b + c`, column `k` of the score table is the score of pick `k`
of class `c` of batch element `b`; where that is above `⊥` the coordinate tables hold the picked box.
-/

set_option maxRecDepth 32768

namespace Cert.KernelIdeal.Hand

open Cert.KernelIdeal Cert.KernelIdeal.Gen
open Idealize.ShloMosaic Idealize.ShloMosaic.TcCoe Idealize.ShloMosaic.Tactic
open Cert.Nms

/-- The row of class `c` of batch element `b`. -/
def rowIx (b : Fin 2) (c : Fin 80) : Fin 160 := ⟨80 * b.val + c.val, by omega⟩

/-- Each of the 160 rows belongs to a batch element and a class. -/
theorem exists_rowIx (r : Fin 160) : ∃ b c, r = rowIx b c := by
  by_cases h : r.val < 80
  · exact ⟨0, ⟨r.val, h⟩, Fin.ext (by show r.val = 80 * 0 + r.val; omega)⟩
  · exact ⟨1, ⟨r.val - 80, by omega⟩, Fin.ext (by show r.val = 80 * 1 + (r.val - 80); omega)⟩

/-- The kernel's three operands are the boxes and scores, transposed, padded and split: the coordinates as eight rows,
    the coordinates again as columns with two vanishing remainders beside them, and one row of scores per class. -/
structure Laid (B : Fin 2 → Fin 5000 → Fin 4 → EReal) (s : Fin 2 → Fin 80 → Fin 5000 → EReal)
    (x0 : Vec Ideal S8x5120 .f32) (x1 : Vec Ideal S2x5120x12 .bf16) (x2 : Vec Ideal S160x5120 .f32) : Prop where
  coord : ∀ (b : Fin 2) (j : Fin 4) (i : Fin 5000), x0 (ix2 ⟨4 * b.val + j.val, by omega⟩ (col i)) = B b i j
  hi : ∀ (b : Fin 2) (i : Fin 5000) (j : Fin 4), x1 (ix3 b (col i) ⟨j.val, by omega⟩) = B b i j
  mid : ∀ (b : Fin 2) (i : Fin 5000) (j : Fin 4), x1 (ix3 b (col i) ⟨4 + j.val, by omega⟩) = (0 : EReal)
  lo : ∀ (b : Fin 2) (i : Fin 5000) (j : Fin 4), x1 (ix3 b (col i) ⟨8 + j.val, by omega⟩) = (0 : EReal)
  score : ∀ (b : Fin 2) (c : Fin 80) (i : Fin 5000), x2 (ix2 (rowIx b c) (col i)) = s b c i
  rest : ∀ (b : Fin 2) (c : Fin 80) (n : Fin 5120), ¬ n.val < 5000 → x2 (ix2 (rowIx b c) n) = (0 : EReal)

/-- A column below 5000 is the column of that box. -/
theorem eq_col (n : Fin 5120) (h : n.val < 5000) : n = col ⟨n.val, h⟩ := rfl

/-- The masked scores at the selection loop's entry, row by row. -/
theorem pay60_row {B : Fin 2 → Fin 5000 → Fin 4 → EReal} {s : Fin 2 → Fin 80 → Fin 5000 → EReal}
    {x0 : Vec Ideal S8x5120 .f32} {x1 : Vec Ideal S2x5120x12 .bf16} {x2 : Vec Ideal S160x5120 .f32} (L : Laid B s x0 x1 x2)
    (b : Fin 2) (c : Fin 80) (n : Fin 5120) : k0_pay60 (F := Ideal) x2 (ix2 (rowIx b c) n) = pad (live (B b) (s b c) 0) n := by
  have e : k0_pay60 (F := Ideal) x2 (ix2 (rowIx b c) n)
      = (if Ideal.ofBits FTy.f32 1008981770#32 < x2 (ix2 (rowIx b c) n) then x2 (ix2 (rowIx b c) n) else Ideal.ofBits FTy.f32 4286578688#32 : EReal) := by
    generalize rowIx b c = r
    pointwise [k0_pay60]
  rw [e, ofBits_neg_inf]
  change (if thr < x2 (ix2 (rowIx b c) n) then x2 (ix2 (rowIx b c) n) else ⊥ : EReal) = _
  by_cases h : n.val < 5000
  · rw [eq_col n h, L.score, pad_col]
    unfold live
    congr
  · rw [L.rest b c n h, pad_of_not_lt _ _ h, if_neg (not_lt.mpr thr_nonneg)]

/-- A full table, read entry by entry. -/
theorem tabFull_apply (f : ℕ → FVec Ideal S160x1 .f32) (r : Fin 160) (t : Fin 300) : tabFull (F := Ideal) f (ix2 r t) = f t.val (ix2 r 0) := rfl

/-- Two batch elements' columns one above the other, read at a batch element's row. -/
theorem pay31_rows (f : ℕ → FVec Ideal S80x1 .f32) (g : ℕ → FVec Ideal S80x1 .f32) (b : Fin 2) (c : Fin 80) (t : ℕ) (x : EReal)
    (h0 : b = 0 → f t (ix2 c 0) = x) (h1 : b = 1 → g t (ix2 c 0) = x) :
    k0_pay31 (F := Ideal) (f t) (g t) (ix2 (rowIx b c) 0) = x := by
  have e : ∀ r : Fin 160, k0_pay31 (F := Ideal) (f t) (g t) (ix2 r 0)
      = (if h : r.val < 80 then f t (ix2 ⟨r.val, h⟩ 0) else g t (ix2 ⟨r.val - 80, by omega⟩ 0) : EReal) := by
    intro r; pointwise [k0_pay31]
  rw [e]
  have hc := c.isLt
  match b with
  | 0 =>
    have h : (rowIx 0 c).val < 80 := by show 80 * 0 + c.val < 80; omega
    rw [dif_pos h, ← h0 rfl]; congr 2; exact Fin.ext (by show 80 * 0 + c.val = c.val; omega)
  | 1 =>
    have h : ¬ (rowIx 1 c).val < 80 := by show ¬ 80 * 1 + c.val < 80; omega
    rw [dif_neg h, ← h1 rfl]; congr 2; exact Fin.ext (by show 80 * 1 + c.val - 80 = c.val; omega)

section Tables

variable {B : Fin 2 → Fin 5000 → Fin 4 → EReal} {s : Fin 2 → Fin 80 → Fin 5000 → EReal}
  {x0 : Vec Ideal S8x5120 .f32} {x1 : Vec Ideal S2x5120x12 .bf16} {x2 : Vec Ideal S160x5120 .f32} (L : Laid B s x0 x1 x2)

/-- The masked scores before trip `k`, from the operands. -/
noncomputable abbrev msOf (x0 : Vec Ideal S8x5120 .f32) (x1 : Vec Ideal S2x5120x12 .bf16) (x2 : Vec Ideal S160x5120 .f32) (k : ℕ) : Vec Ideal S160x5120 .f32 :=
  msAt (F := Ideal) (k0_pay61 (coordRow 0 x0)) (k0_pay62 (coordRow 1 x0)) (k0_pay63 (coordRow 2 x0)) (k0_pay64 (coordRow 3 x0)) (k0_pay65 (coordRow 4 x0)) (k0_pay66 (coordRow 5 x0)) (k0_pay67 (coordRow 6 x0)) (k0_pay68 (coordRow 7 x0)) (k0_pay69 (coordRow 0 x0) (coordRow 1 x0) (coordRow 2 x0) (coordRow 3 x0)) (k0_pay70 (coordRow 4 x0) (coordRow 6 x0)) k0_pay71 (iota Kind.tc S160x5120 32 [1] iota_S160x5120_d1_w32) (page 0 x1) (page 1 x1) (k0_pay60 x2) k

/-- The column numbers, read entry by entry. -/
theorem v39_eq (r : Fin 160) (n : Fin 5120) : (iota Kind.tc S160x5120 32 [1] iota_S160x5120_d1_w32) (ix2 r n) = BitVec.ofNat 32 n.val :=
  iota_single_apply _ _ _ _ _ (ix2 r n)

include L

/-- The first batch element's coordinates as laid out for the body. -/
theorem coord0 (j : Fin 4) (i : Fin 5000) (hj : j.val < 8) : x0 (ix2 ⟨j.val, hj⟩ (col i)) = B 0 i j := by
  rw [← L.coord 0 j i]; congr 2; exact Fin.ext (by show j.val = 4 * 0 + j.val; omega)
/-- The second batch element's coordinates as laid out for the body. -/
theorem coord1 (j : Fin 4) (i : Fin 5000) (hj : 4 + j.val < 8) : x0 (ix2 ⟨4 + j.val, hj⟩ (col i)) = B 1 i j := by
  rw [← L.coord 1 j i]; congr 2

/-- The masked scores before trip `k` are the scores in play after `k` picks. -/
theorem msOf_row (k : ℕ) (b : Fin 2) (c : Fin 80) (n : Fin 5120) :
    msOf x0 x1 x2 k (ix2 (rowIx b c) n) = pad (live (B b) (s b c) k) n := by
  induction k generalizing b c n with
  | zero => exact pay60_row L b c n
  | succ k ih =>
    show msNext (F := Ideal) (k0_pay61 (coordRow 0 x0)) (k0_pay62 (coordRow 1 x0)) (k0_pay63 (coordRow 2 x0)) (k0_pay64 (coordRow 3 x0)) (k0_pay65 (coordRow 4 x0)) (k0_pay66 (coordRow 5 x0)) (k0_pay67 (coordRow 6 x0)) (k0_pay68 (coordRow 7 x0)) (k0_pay69 (coordRow 0 x0) (coordRow 1 x0) (coordRow 2 x0) (coordRow 3 x0)) (k0_pay70 (coordRow 4 x0) (coordRow 6 x0)) k0_pay71 (iota Kind.tc S160x5120 32 [1] iota_S160x5120_d1_w32) (page 0 x1) (page 1 x1) (msOf x0 x1 x2 k) (ix2 (rowIx b c) n) = _
    have hc := c.isLt
    unfold msNext
    match b with
    | 0 =>
      have h : ((ix2 (rowIx 0 c) n : S160x5120.Idx) 0).val < 80 := by show 80 * 0 + c.val < 80; omega
      rw [dif_pos h]
      have e : (⟨((ix2 (rowIx 0 c) n : S160x5120.Idx) 0).val, h⟩ : Fin 80) = c := Fin.ext (by show 80 * 0 + c.val = c.val; omega)
      rw [e]
      refine msLo_row _ _ _ _ _ _ _ v39_eq _ (live (B 0) (s 0 c) k) (B 0) (fun i j => L.hi 0 i j) (fun i j => L.mid 0 i j) (fun i j => L.lo 0 i j) (fun i => ?_) c (fun n => ?_) n
      · have c0 := coord0 L 0 i (by decide)
        have c1 := coord0 L 1 i (by decide)
        have c2 := coord0 L 2 i (by decide)
        have c3 := coord0 L 3 i (by decide)
        have e0 : k0_pay61 (F := Ideal) (coordRow 0 x0) (ix2 0 (col i)) = B 0 i 0 := by
          rw [← c0]; generalize col i = n; pointwise [k0_pay61, coordRow]
        have e1 : k0_pay62 (F := Ideal) (coordRow 1 x0) (ix2 0 (col i)) = B 0 i 1 := by
          rw [← c1]; generalize col i = n; pointwise [k0_pay62, coordRow]
        have e2 : k0_pay63 (F := Ideal) (coordRow 2 x0) (ix2 0 (col i)) = B 0 i 2 := by
          rw [← c2]; generalize col i = n; pointwise [k0_pay63, coordRow]
        have e3 : k0_pay64 (F := Ideal) (coordRow 3 x0) (ix2 0 (col i)) = B 0 i 3 := by
          rw [← c3]; generalize col i = n; pointwise [k0_pay64, coordRow]
        refine ⟨e0, e1, e2, e3, ?_⟩
        unfold area
        rw [← e0, ← e1, ← e2, ← e3]
        generalize col i = n
        pointwise [k0_pay69]
      · rw [← ih 0 c n]; congr 2; exact Fin.ext (by show c.val = 80 * 0 + c.val; omega)
    | 1 =>
      have h : ¬ ((ix2 (rowIx 1 c) n : S160x5120.Idx) 0).val < 80 := by show ¬ 80 * 1 + c.val < 80; omega
      rw [dif_neg h]
      have e : (⟨((ix2 (rowIx 1 c) n : S160x5120.Idx) 0).val - 80, by show 80 * 1 + c.val - 80 < 80; omega⟩ : Fin 80) = c := Fin.ext (by show 80 * 1 + c.val - 80 = c.val; omega)
      rw [e]
      refine msHi_row _ _ _ _ _ _ _ _ v39_eq _ (live (B 1) (s 1 c) k) (B 1) (fun i j => L.hi 1 i j) (fun i j => L.mid 1 i j) (fun i j => L.lo 1 i j) (fun i => ?_) c (fun n => ?_) n
      · have c0 := coord1 L 0 i (by decide)
        have c1 := coord1 L 1 i (by decide)
        have c2 := coord1 L 2 i (by decide)
        have c3 := coord1 L 3 i (by decide)
        have e0 : k0_pay65 (F := Ideal) (coordRow 4 x0) (ix2 0 (col i)) = B 1 i 0 := by
          rw [← c0]; generalize col i = n; pointwise [k0_pay65, coordRow]
        have e1 : k0_pay66 (F := Ideal) (coordRow 5 x0) (ix2 0 (col i)) = B 1 i 1 := by
          rw [← c1]; generalize col i = n; pointwise [k0_pay66, coordRow]
        have e2 : k0_pay67 (F := Ideal) (coordRow 6 x0) (ix2 0 (col i)) = B 1 i 2 := by
          rw [← c2]; generalize col i = n; pointwise [k0_pay67, coordRow]
        have e3 : k0_pay68 (F := Ideal) (coordRow 7 x0) (ix2 0 (col i)) = B 1 i 3 := by
          rw [← c3]; generalize col i = n; pointwise [k0_pay68, coordRow]
        refine ⟨e0, e1, e2, e3, ?_⟩
        unfold area
        rw [← e0, ← e1, ← e2, ← e3]
        generalize col i = n
        pointwise [k0_pay70, k0_pay71]
      · rw [← ih 1 c n]; rfl

/-- The score table. -/
theorem csTab_row (b : Fin 2) (c : Fin 80) (t : Fin 300) :
    csTab (F := Ideal) (k0_pay61 (coordRow 0 x0)) (k0_pay62 (coordRow 1 x0)) (k0_pay63 (coordRow 2 x0)) (k0_pay64 (coordRow 3 x0)) (k0_pay65 (coordRow 4 x0)) (k0_pay66 (coordRow 5 x0)) (k0_pay67 (coordRow 6 x0)) (k0_pay68 (coordRow 7 x0)) (k0_pay69 (coordRow 0 x0) (coordRow 1 x0) (coordRow 2 x0) (coordRow 3 x0)) (k0_pay70 (coordRow 4 x0) (coordRow 6 x0)) k0_pay71 (iota Kind.tc S160x5120 32 [1] iota_S160x5120_d1_w32) (page 0 x1) (page 1 x1) (k0_pay60 x2) (ix2 (rowIx b c) t) = top (live (B b) (s b c) t.val) := by
  unfold csTab
  rw [tabFull_apply]
  exact pay8_row (msOf x0 x1 x2 t.val) _ _ fun n => msOf_row L t.val b c n

/-- The four coordinate tables, where the pick is above `⊥`. -/
theorem coordTab_row (b : Fin 2) (c : Fin 80) (t : Fin 300) (hok : ⊥ < top (live (B b) (s b c) t.val)) :
    x1Tab (F := Ideal) (k0_pay61 (coordRow 0 x0)) (k0_pay62 (coordRow 1 x0)) (k0_pay63 (coordRow 2 x0)) (k0_pay64 (coordRow 3 x0)) (k0_pay65 (coordRow 4 x0)) (k0_pay66 (coordRow 5 x0)) (k0_pay67 (coordRow 6 x0)) (k0_pay68 (coordRow 7 x0)) (k0_pay69 (coordRow 0 x0) (coordRow 1 x0) (coordRow 2 x0) (coordRow 3 x0)) (k0_pay70 (coordRow 4 x0) (coordRow 6 x0)) k0_pay71 (iota Kind.tc S160x5120 32 [1] iota_S160x5120_d1_w32) (page 0 x1) (page 1 x1) (k0_pay60 x2) (ix2 (rowIx b c) t) = B b (best (live (B b) (s b c) t.val)) 0
    ∧ y1Tab (F := Ideal) (k0_pay61 (coordRow 0 x0)) (k0_pay62 (coordRow 1 x0)) (k0_pay63 (coordRow 2 x0)) (k0_pay64 (coordRow 3 x0)) (k0_pay65 (coordRow 4 x0)) (k0_pay66 (coordRow 5 x0)) (k0_pay67 (coordRow 6 x0)) (k0_pay68 (coordRow 7 x0)) (k0_pay69 (coordRow 0 x0) (coordRow 1 x0) (coordRow 2 x0) (coordRow 3 x0)) (k0_pay70 (coordRow 4 x0) (coordRow 6 x0)) k0_pay71 (iota Kind.tc S160x5120 32 [1] iota_S160x5120_d1_w32) (page 0 x1) (page 1 x1) (k0_pay60 x2) (ix2 (rowIx b c) t) = B b (best (live (B b) (s b c) t.val)) 1
    ∧ x2Tab (F := Ideal) (k0_pay61 (coordRow 0 x0)) (k0_pay62 (coordRow 1 x0)) (k0_pay63 (coordRow 2 x0)) (k0_pay64 (coordRow 3 x0)) (k0_pay65 (coordRow 4 x0)) (k0_pay66 (coordRow 5 x0)) (k0_pay67 (coordRow 6 x0)) (k0_pay68 (coordRow 7 x0)) (k0_pay69 (coordRow 0 x0) (coordRow 1 x0) (coordRow 2 x0) (coordRow 3 x0)) (k0_pay70 (coordRow 4 x0) (coordRow 6 x0)) k0_pay71 (iota Kind.tc S160x5120 32 [1] iota_S160x5120_d1_w32) (page 0 x1) (page 1 x1) (k0_pay60 x2) (ix2 (rowIx b c) t) = B b (best (live (B b) (s b c) t.val)) 2
    ∧ y2Tab (F := Ideal) (k0_pay61 (coordRow 0 x0)) (k0_pay62 (coordRow 1 x0)) (k0_pay63 (coordRow 2 x0)) (k0_pay64 (coordRow 3 x0)) (k0_pay65 (coordRow 4 x0)) (k0_pay66 (coordRow 5 x0)) (k0_pay67 (coordRow 6 x0)) (k0_pay68 (coordRow 7 x0)) (k0_pay69 (coordRow 0 x0) (coordRow 1 x0) (coordRow 2 x0) (coordRow 3 x0)) (k0_pay70 (coordRow 4 x0) (coordRow 6 x0)) k0_pay71 (iota Kind.tc S160x5120 32 [1] iota_S160x5120_d1_w32) (page 0 x1) (page 1 x1) (k0_pay60 x2) (ix2 (rowIx b c) t) = B b (best (live (B b) (s b c) t.val)) 3 := by
  have hms := fun n => msOf_row L t.val b c n
  have lo : b = 0 → ∀ j, k0_pay10 (F := Ideal) (iota Kind.tc S160x5120 32 [1] iota_S160x5120_d1_w32) (k0_pay2 (page 0 x1)) (msOf x0 x1 x2 t.val) (ix2 c j) = B b (best (live (B b) (s b c) t.val)) j := by
    rintro rfl j
    refine pay10_row _ v39_eq _ _ (B 0) _ (fun i j => L.hi 0 i j) (fun i j => L.mid 0 i j) (fun i j => L.lo 0 i j) c (fun n => ?_) hok j
    rw [← hms n]; congr 2; exact Fin.ext (by show c.val = 80 * 0 + c.val; omega)
  have hi : b = 1 → ∀ j, k0_pay18 (F := Ideal) (k0_pay3 (page 1 x1)) (k0_pay9 (iota Kind.tc S160x5120 32 [1] iota_S160x5120_d1_w32) (msOf x0 x1 x2 t.val)) (ix2 c j) = B b (best (live (B b) (s b c) t.val)) j := by
    rintro rfl j
    refine pay18_row _ v39_eq _ _ (B 1) _ (fun i j => L.hi 1 i j) (fun i j => L.mid 1 i j) (fun i j => L.lo 1 i j) c (fun n => ?_) hok j
    rw [← hms n]; rfl
  refine ⟨?_, ?_, ?_, ?_⟩
  · unfold x1Tab
    rw [tabFull_apply]
    refine pay31_rows (fun t => k0_pay11 (iota Kind.tc S160x5120 32 [1] iota_S160x5120_d1_w32) (k0_pay2 (page 0 x1)) (msOf x0 x1 x2 t)) (fun t => k0_pay19 (k0_pay3 (page 1 x1)) (k0_pay9 (iota Kind.tc S160x5120 32 [1] iota_S160x5120_d1_w32) (msOf x0 x1 x2 t))) b c t.val _ (fun h => ?_) (fun h => ?_)
    · rw [← lo h 0]; generalize msOf x0 x1 x2 t.val = ms; pointwise [k0_pay11]
    · rw [← hi h 0]; generalize k0_pay9 (F := Ideal) (iota Kind.tc S160x5120 32 [1] iota_S160x5120_d1_w32) (msOf x0 x1 x2 t.val) = ms; pointwise [k0_pay19]
  · unfold y1Tab
    rw [tabFull_apply]
    refine pay31_rows (fun t => k0_pay12 (iota Kind.tc S160x5120 32 [1] iota_S160x5120_d1_w32) (k0_pay2 (page 0 x1)) (msOf x0 x1 x2 t)) (fun t => k0_pay20 (k0_pay3 (page 1 x1)) (k0_pay9 (iota Kind.tc S160x5120 32 [1] iota_S160x5120_d1_w32) (msOf x0 x1 x2 t))) b c t.val _ (fun h => ?_) (fun h => ?_)
    · rw [← lo h 1]; generalize msOf x0 x1 x2 t.val = ms; pointwise [k0_pay12]
    · rw [← hi h 1]; generalize k0_pay9 (F := Ideal) (iota Kind.tc S160x5120 32 [1] iota_S160x5120_d1_w32) (msOf x0 x1 x2 t.val) = ms; pointwise [k0_pay20]
  · unfold x2Tab
    rw [tabFull_apply]
    refine pay31_rows (fun t => k0_pay13 (iota Kind.tc S160x5120 32 [1] iota_S160x5120_d1_w32) (k0_pay2 (page 0 x1)) (msOf x0 x1 x2 t)) (fun t => k0_pay21 (k0_pay3 (page 1 x1)) (k0_pay9 (iota Kind.tc S160x5120 32 [1] iota_S160x5120_d1_w32) (msOf x0 x1 x2 t))) b c t.val _ (fun h => ?_) (fun h => ?_)
    · rw [← lo h 2]; generalize msOf x0 x1 x2 t.val = ms; pointwise [k0_pay13]
    · rw [← hi h 2]; generalize k0_pay9 (F := Ideal) (iota Kind.tc S160x5120 32 [1] iota_S160x5120_d1_w32) (msOf x0 x1 x2 t.val) = ms; pointwise [k0_pay21]
  · unfold y2Tab
    rw [tabFull_apply]
    refine pay31_rows (fun t => k0_pay14 (iota Kind.tc S160x5120 32 [1] iota_S160x5120_d1_w32) (k0_pay2 (page 0 x1)) (msOf x0 x1 x2 t)) (fun t => k0_pay22 (k0_pay3 (page 1 x1)) (k0_pay9 (iota Kind.tc S160x5120 32 [1] iota_S160x5120_d1_w32) (msOf x0 x1 x2 t))) b c t.val _ (fun h => ?_) (fun h => ?_)
    · rw [← lo h 3]; generalize msOf x0 x1 x2 t.val = ms; pointwise [k0_pay14]
    · rw [← hi h 3]; generalize k0_pay9 (F := Ideal) (iota Kind.tc S160x5120 32 [1] iota_S160x5120_d1_w32) (msOf x0 x1 x2 t.val) = ms; pointwise [k0_pay22]

end Tables

end Cert.KernelIdeal.Hand
-- ==== Proof.HostPrep.lean ====
module

public import proofs.«01_k».proof.Proof.Body
public import proofs.«01_k».proof.Proof.TableValue
public import Idealize.ShloMosaic.Lib.Pointwise
public import Idealize.ShloMosaic.Lib.IdealHost

@[expose] public section

/-!
# What the host hands to the kernel

The three operands the host prepares, as functions of the two arguments, and their entries: for finite boxes they are the
boxes and scores laid out as the kernel takes them.
-/

set_option maxRecDepth 32768

namespace Cert.KernelIdeal.Hand

open Cert.KernelIdeal Cert.KernelIdeal.Gen
open Idealize.ShloMosaic Idealize.ShloMosaic.TcCoe Idealize.ShloMosaic.Tactic
open Cert.Nms

/-- The boxes as eight padded rows. -/
noncomputable def boxRows (x : Vec Ideal S2x5000x4 .f32) : Vec Ideal S8x5120 .f32 :=
  Idealize.ShloMosaic.pad S8x5120 ![0, 0] ![0, 120] ![0, 0]
    (shapeCast S8x5000 (transpose S2x4x5000 [0, 2, 1] x transposes_S2x5000x4_S2x4x5000_0_2_1 : Vec Ideal S2x4x5000 .f32) shapeCasts_S2x4x5000_S8x5000 : Vec Ideal S8x5000 .f32)
    (sitofp (F := Ideal) .f32 (constantI S_ 32 0#32)) pads_S8x5000_S8x5120_000_01200 h_S_

/-- The scores as 160 padded rows. -/
noncomputable def scoreRows (x : Vec Ideal S2x5000x80 .f32) : Vec Ideal S160x5120 .f32 :=
  Idealize.ShloMosaic.pad S160x5120 ![0, 0] ![0, 120] ![0, 0]
    (shapeCast S160x5000 (transpose S2x80x5000 [0, 2, 1] x transposes_S2x5000x80_S2x80x5000_0_2_1 : Vec Ideal S2x80x5000 .f32) shapeCasts_S2x80x5000_S160x5000 : Vec Ideal S160x5000 .f32)
    (sitofp (F := Ideal) .f32 (constantI S_ 32 0#32)) pads_S160x5000_S160x5120_000_01200 h_S_

/-- The first part of a column table: its entries in the short format. -/
noncomputable def partHi (y : Vec Ideal S5120x8 .f32) : Vec Ideal S5120x8 .bf16 := truncf (F := Ideal) .bf16 y bitsLt_bf16_f32
/-- What the first part leaves. -/
noncomputable def remHi (y : Vec Ideal S5120x8 .f32) : Vec Ideal S5120x8 .f32 :=
  subf (F := Ideal) y (extf (F := Ideal) .f32 (partHi y) bitsLt_bf16_f32)
/-- The second part. -/
noncomputable def partMid (y : Vec Ideal S5120x8 .f32) : Vec Ideal S5120x8 .bf16 := partHi (remHi y)
/-- The third part. -/
noncomputable def partLo (y : Vec Ideal S5120x8 .f32) : Vec Ideal S5120x8 .bf16 := partHi (remHi (remHi y))

/-- The first batch element's columns of three tables, side by side. -/
noncomputable def side0 (u v w : Vec Ideal S5120x8 .bf16) : Vec Ideal S5120x12 .bf16 :=
  concatenate S5120x12 1
    [⟨S5120x4, extractStridedSlice S5120x4 ![0, 0] u slices_S5120x8_S5120x4_0_0⟩,
     ⟨S5120x4, extractStridedSlice S5120x4 ![0, 0] v slices_S5120x8_S5120x4_0_0⟩,
     ⟨S5120x4, extractStridedSlice S5120x4 ![0, 0] w slices_S5120x8_S5120x4_0_0⟩] concatenates_S5120x4_S5120x4_S5120x4_S5120x12_d1

/-- The three parts of the first batch element's columns, side by side. -/
noncomputable def page0 (y : Vec Ideal S5120x8 .f32) : Vec Ideal S5120x12 .bf16 := side0 (partHi y) (partMid y) (partLo y)

/-- The second batch element's columns of three tables, side by side. -/
noncomputable def side1 (u v w : Vec Ideal S5120x8 .bf16) : Vec Ideal S5120x12 .bf16 :=
  concatenate S5120x12 1
    [⟨S5120x4, extractStridedSlice S5120x4 ![0, 4] u slices_S5120x8_S5120x4_0_4⟩,
     ⟨S5120x4, extractStridedSlice S5120x4 ![0, 4] v slices_S5120x8_S5120x4_0_4⟩,
     ⟨S5120x4, extractStridedSlice S5120x4 ![0, 4] w slices_S5120x8_S5120x4_0_4⟩] concatenates_S5120x4_S5120x4_S5120x4_S5120x12_d1

/-- The three parts of the second batch element's columns, side by side. -/
noncomputable def page1 (y : Vec Ideal S5120x8 .f32) : Vec Ideal S5120x12 .bf16 := side1 (partHi y) (partMid y) (partLo y)

/-- The two pages. -/
noncomputable def pages (p q : Vec Ideal S5120x12 .bf16) : Vec Ideal S2x5120x12 .bf16 :=
  concatenate S2x5120x12 0
    [⟨S1x5120x12, broadcastInDim S1x5120x12 ![1, 2] bcast_S5120x12_S1x5120x12_1_2 p⟩,
     ⟨S1x5120x12, broadcastInDim S1x5120x12 ![1, 2] bcast_S5120x12_S1x5120x12_1_2 q⟩] concatenates_S1x5120x12_S1x5120x12_S2x5120x12_d0

/-- The boxes as columns. -/
noncomputable def boxCols (x : Vec Ideal S8x5120 .f32) : Vec Ideal S5120x8 .f32 := transpose S5120x8 [1, 0] x transposes_S8x5120_S5120x8_1_0

/-- An operation of three operands reads each at its own place. -/
theorem nary3_result {x a b y : Ref sig .tc}
    (f : ((k : Fin 3) → ((![x, a, b] : Fin 3 → Ref sig .tc) k).ty.Contents (Elt Ideal)) → y.ty.Contents (Elt Ideal)) (hxs hy)
    (F : (b : DevRef τ sig) → b.ty.Contents (Elt Ideal)) :
    (StableHlo.nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl

variable (m : (ℓ : Loc nD τ sig) → Buf (Elt Ideal) ℓ) (c : Dev nD)

/-- Before the launch the first array holds the padded box rows of the first argument. -/
theorem V0_v4 : V0 (F := Ideal) m c (Proc.devRef .tc main_v4) = boxRows (m (c, Proc.devRef .tc main_arg0)) := by
  unfold V0
  simp only [hostOps0, hostOps0_1, hostOps0_2, hostOps0_3, hostOps0_4, List.flatten_cons, List.flatten_nil, List.append_nil, List.cons_append, List.nil_append]
  after_results
  rfl

/-- Before the launch the third array holds the padded score rows of the second argument. -/
theorem V0_v5 : V0 (F := Ideal) m c (Proc.devRef .tc main_v5) = scoreRows (m (c, Proc.devRef .tc main_arg1)) := by
  unfold V0
  simp only [hostOps0, hostOps0_1, hostOps0_2, hostOps0_3, hostOps0_4, List.flatten_cons, List.flatten_nil, List.append_nil, List.cons_append, List.nil_append]
  after_results
  rfl

/-- Before the launch the second array holds the two pages of split coordinates of the first argument. -/
theorem V0_v27 : V0 (F := Ideal) m c (Proc.devRef .tc main_v27)
    = pages (page0 (boxCols (boxRows (m (c, Proc.devRef .tc main_arg0)))))
        (page1 (boxCols (boxRows (m (c, Proc.devRef .tc main_arg0))))) := by
  unfold V0
  simp only [hostOps0, hostOps0_1, hostOps0_2, hostOps0_3, hostOps0_4, List.flatten_cons, List.flatten_nil, List.append_nil, List.cons_append, List.nil_append]
  simp only [StableHlo.after_cons, StableHlo.after_nil]
  repeat (first
    | (simp only [↓ StableHlo.readResult, ↓ StableHlo.readPieces])
    | rw [nary3_result])
  rfl

/-- A padded box row holds the coordinate. -/
theorem boxRows_apply (x : Vec Ideal S2x5000x4 .f32) (b : Fin 2) (j : Fin 4) (i : Fin 5000) :
    boxRows x (ix2 ⟨4 * b.val + j.val, by omega⟩ (col i)) = x (ix3 b i j) := by
  have e : boxRows x (ix2 ⟨4 * b.val + j.val, by omega⟩ (col i)) = (if h : 4 * b.val + j.val < 8 ∧ (col i).val < 5000 then x (ix3 b ⟨(col i).val, h.2⟩ j) else FloatOps.sitofp (F := Ideal) FTy.f32 0#32) := by
    pointwise [boxRows]
  rw [e, dif_pos ⟨by omega, i.isLt⟩]
  rfl

/-- A padded score row. -/
theorem scoreRows_apply (x : Vec Ideal S2x5000x80 .f32) (r : Fin 160) (i : Fin 5120) :
    scoreRows x (ix2 r i) = (if h : i.val < 5000 then x (ix3 (⟨r.val / 80, by omega⟩ : Fin 2) (⟨i.val, h⟩ : Fin 5000) (⟨r.val % 80, by omega⟩ : Fin 80)) else FloatOps.sitofp (F := Ideal) FTy.f32 0#32) := by
  pointwise [scoreRows]

/-- The short format keeps every extended real. -/
theorem partHi_apply (y : Vec Ideal S5120x8 .f32) (i : S5120x8.Idx) : partHi y i = y i := rfl

/-- A finite entry leaves nothing. -/
theorem remHi_apply (y : Vec Ideal S5120x8 .f32) (i : Fin 5120) (j : Fin 8) (h : ∃ r : ℝ, y (ix2 i j) = r) : remHi y (ix2 i j) = (0 : EReal) := by
  have e : remHi y (ix2 i j) = (y (ix2 i j) - y (ix2 i j) : EReal) := by
    pointwise [remHi, partHi]
  obtain ⟨r, hr⟩ := h
  rw [e, hr, ← EReal.coe_sub, sub_self, EReal.coe_zero]

/-- The middle part of a real coordinate is zero: the first part already is the whole of it. -/
theorem partMid_apply (y : Vec Ideal S5120x8 .f32) (i : Fin 5120) (j : Fin 8) (h : ∃ r : ℝ, y (ix2 i j) = r) : partMid y (ix2 i j) = (0 : EReal) := by
  show remHi y (ix2 i j) = (0 : EReal)
  exact remHi_apply y i j h

/-- The last part of a real coordinate is zero. -/
theorem partLo_apply (y : Vec Ideal S5120x8 .f32) (i : Fin 5120) (j : Fin 8) (h : ∃ r : ℝ, y (ix2 i j) = r) : partLo y (ix2 i j) = (0 : EReal) := by
  show remHi (remHi y) (ix2 i j) = (0 : EReal)
  exact remHi_apply _ i j ⟨0, (remHi_apply y i j h).trans EReal.coe_zero.symm⟩

/-- The two pages of the column table, by batch element. -/
theorem pages_apply (p q : Vec Ideal S5120x12 .bf16) (b : Fin 2) (i : Fin 5120) (j : Fin 12) :
    pages p q (ix3 b i j) = if b.val < 1 then p (ix2 i j) else q (ix2 i j) := by
  have e : pages p q (ix3 b i j) = (if h : b.val < 1 then p (ix2 i j) else q (ix2 i j)) := by
    pointwise [pages]
  rw [e]; split <;> rfl

/-- The first batch element's page, read entry by entry: the first, middle and last parts of the four coordinates, side by side. -/
theorem side0_apply (u v w : Vec Ideal S5120x8 .bf16) (i : Fin 5120) (k : Fin 12) :
    side0 u v w (ix2 i k) = (if h : k.val < 4 then u (ix2 i ⟨k.val, by omega⟩)
      else if h : k.val - 4 < 4 then v (ix2 i ⟨k.val - 4, by omega⟩) else w (ix2 i ⟨k.val - 4 - 4, by omega⟩)) := by
  pointwise [side0]

/-- The three parts of a coordinate on the first batch element's page, in its three groups of columns. -/
theorem page0_apply (y : Vec Ideal S5120x8 .f32) (i : Fin 5120) (j : Fin 4) :
    page0 y (ix2 i ⟨j.val, by omega⟩) = partHi y (ix2 i ⟨j.val, by omega⟩)
    ∧ page0 y (ix2 i ⟨4 + j.val, by omega⟩) = partMid y (ix2 i ⟨j.val, by omega⟩)
    ∧ page0 y (ix2 i ⟨8 + j.val, by omega⟩) = partLo y (ix2 i ⟨j.val, by omega⟩) := by
  have e (k : Fin 12) := side0_apply (partHi y) (partMid y) (partLo y) i k
  unfold page0
  have f (k : Fin 8) (h : k.val = j.val) : k = ⟨j.val, by omega⟩ := Fin.ext h
  refine ⟨?_, ?_, ?_⟩
  · rw [e, dif_pos j.isLt]
  · rw [e, dif_neg (by show ¬ 4 + j.val < 4; omega), dif_pos (by show 4 + j.val - 4 < 4; omega)]
    congr 2; exact f _ (by show 4 + j.val - 4 = j.val; omega)
  · rw [e, dif_neg (by show ¬ 8 + j.val < 4; omega), dif_neg (by show ¬ 8 + j.val - 4 < 4; omega)]
    congr 2; exact f _ (by show 8 + j.val - 4 - 4 = j.val; omega)

/-- The second batch element's page, read entry by entry. -/
theorem side1_apply (u v w : Vec Ideal S5120x8 .bf16) (i : Fin 5120) (k : Fin 12) :
    side1 u v w (ix2 i k) = (if h : k.val < 4 then u (ix2 i ⟨4 + (k.val), by omega⟩)
      else if h : k.val - 4 < 4 then v (ix2 i ⟨4 + (k.val - 4), by omega⟩) else w (ix2 i ⟨4 + (k.val - 4 - 4), by omega⟩)) := by
  pointwise [side1]

/-- The three parts of a coordinate on the second batch element's page, in its three groups of columns. -/
theorem page1_apply (y : Vec Ideal S5120x8 .f32) (i : Fin 5120) (j : Fin 4) :
    page1 y (ix2 i ⟨j.val, by omega⟩) = partHi y (ix2 i ⟨4 + j.val, by omega⟩)
    ∧ page1 y (ix2 i ⟨4 + j.val, by omega⟩) = partMid y (ix2 i ⟨4 + j.val, by omega⟩)
    ∧ page1 y (ix2 i ⟨8 + j.val, by omega⟩) = partLo y (ix2 i ⟨4 + j.val, by omega⟩) := by
  have e (k : Fin 12) := side1_apply (partHi y) (partMid y) (partLo y) i k
  unfold page1
  have f (k : Fin 8) (h : k.val = 4 + j.val) : k = ⟨4 + j.val, by omega⟩ := Fin.ext h
  refine ⟨?_, ?_, ?_⟩
  · rw [e, dif_pos j.isLt]
  · rw [e, dif_neg (by show ¬ 4 + j.val < 4; omega), dif_pos (by show 4 + j.val - 4 < 4; omega)]
    congr 2; exact f _ (by show 4 + (4 + j.val - 4) = 4 + j.val; omega)
  · rw [e, dif_neg (by show ¬ 8 + j.val < 4; omega), dif_neg (by show ¬ 8 + j.val - 4 < 4; omega)]
    congr 2; exact f _ (by show 4 + (8 + j.val - 4 - 4) = 4 + j.val; omega)

/-- The transposed box rows, read entry by entry. -/
theorem boxCols_apply (x : Vec Ideal S8x5120 .f32) (i : Fin 5120) (j : Fin 8) : boxCols x (ix2 i j) = x (ix2 j i) := by
  pointwise [boxCols]

/-- The host's three operands are the boxes and scores laid out, for finite boxes. -/
theorem laid_host (x : Vec Ideal S2x5000x4 .f32) (z : Vec Ideal S2x5000x80 .f32) (fin : ∀ b i j, ∃ r : ℝ, x (ix3 b i j) = r) :
    Laid (fun b i j => x (ix3 b i j)) (fun b k i => z (ix3 b i k)) (boxRows x)
      (pages (page0 (boxCols (boxRows x))) (page1 (boxCols (boxRows x)))) (scoreRows z) := by
  have c0 (i : Fin 5000) (j : Fin 4) : boxCols (boxRows x) (ix2 (col i) ⟨j.val, by omega⟩) = x (ix3 0 i j) := by
    rw [boxCols_apply, ← boxRows_apply x]; congr 2; exact Fin.ext (by show j.val = 4 * 0 + j.val; omega)
  have c1 (i : Fin 5000) (j : Fin 4) : boxCols (boxRows x) (ix2 (col i) ⟨4 + j.val, by omega⟩) = x (ix3 1 i j) := by
    rw [boxCols_apply, ← boxRows_apply x]; congr 2
  have h01 (b : Fin 2) : b = 0 ∨ b = 1 := by omega
  constructor
  · intro b j i; exact boxRows_apply x b j i
  · intro b i j
    rw [pages_apply]
    rcases h01 b with rfl | rfl
    · rw [if_pos (by decide), (page0_apply _ _ j).1, partHi_apply]; exact c0 i j
    · rw [if_neg (by decide), (page1_apply _ _ j).1, partHi_apply]; exact c1 i j
  · intro b i j
    rw [pages_apply]
    rcases h01 b with rfl | rfl
    · rw [if_pos (by decide), (page0_apply _ _ j).2.1]; exact partMid_apply _ _ _ (by rw [c0 i j]; exact fin 0 i j)
    · rw [if_neg (by decide), (page1_apply _ _ j).2.1]; exact partMid_apply _ _ _ (by rw [c1 i j]; exact fin 1 i j)
  · intro b i j
    rw [pages_apply]
    rcases h01 b with rfl | rfl
    · rw [if_pos (by decide), (page0_apply _ _ j).2.2]; exact partLo_apply _ _ _ (by rw [c0 i j]; exact fin 0 i j)
    · rw [if_neg (by decide), (page1_apply _ _ j).2.2]; exact partLo_apply _ _ _ (by rw [c1 i j]; exact fin 1 i j)
  · intro b k i
    have a1 : (⟨(rowIx b k).val / 80, by omega⟩ : Fin 2) = b := Fin.ext (by show (80 * b.val + k.val) / 80 = b.val; omega)
    have a2 : (⟨(rowIx b k).val % 80, by omega⟩ : Fin 80) = k := Fin.ext (by show (80 * b.val + k.val) % 80 = k.val; omega)
    rw [scoreRows_apply, dif_pos (show (col i).val < 5000 from i.isLt), a1, a2]
    rfl
  · intro b k n hn
    rw [scoreRows_apply, dif_neg hn]
    change ((BitVec.toInt _ : ℝ) : EReal) = _
    simp
-- ==== Proof.MergeSpec.lean ====
module

public import proofs.«01_k».proof.Proof.NmsSpec

@[expose] public section

/-!
# The merged results, over the extended reals

The candidates of one batch element in a row of 80 · 300, class by class, and what both programs return of them:
the 300 first entries of their stable sort by decreasing score, `-1` where no candidate is left.
-/

namespace Cert.Nms

open Idealize.ShloMosaic

/-- A candidate's class. -/
def rowOf (p : Fin 24000) : Fin 80 := ⟨p.val / 300, by omega⟩
/-- A candidate's place among its class's picks. -/
def colOf (p : Fin 24000) : Fin 300 := ⟨p.val % 300, by omega⟩
/-- The place of pick `t` of class `c` among the candidates. -/
def posOf (c : Fin 80) (t : Fin 300) : Fin 24000 := ⟨c.val * 300 + t.val, by omega⟩

/-- The class of the position of a class and a turn is that class. -/
theorem rowOf_posOf (c : Fin 80) (t : Fin 300) : rowOf (posOf c t) = c := Fin.ext (by simp only [rowOf, posOf]; omega)
/-- The turn of the position of a class and a turn is that turn. -/
theorem colOf_posOf (c : Fin 80) (t : Fin 300) : colOf (posOf c t) = t := Fin.ext (by simp only [colOf, posOf]; omega)
/-- The position of a position's class and turn is that position. -/
theorem posOf_rowOf (p : Fin 24000) : posOf (rowOf p) (colOf p) = p := Fin.ext (by simp only [posOf, rowOf, colOf]; omega)

/-- The literal `-1` that marks an empty place. -/
noncomputable def none' : EReal := Ideal.ofBits .f32 0xBF800000#32

section

variable (B : Fin 5000 → Fin 4 → EReal) (s : Fin 80 → Fin 5000 → EReal)

/-- The candidates' scores. -/
noncomputable def cand (p : Fin 24000) : EReal := top (live B (s (rowOf p)) (colOf p).val)
/-- The box a candidate is. -/
noncomputable def candBest (p : Fin 24000) : Fin 5000 := best (live B (s (rowOf p)) (colOf p).val)
/-- The candidate returned at place `t`. -/
noncomputable def winner (t : Fin 300) : Fin 24000 := sortedFrom (gtB (cand B s)) ⟨t.val, by omega⟩

open Classical in
/-- The score returned at place `t`. -/
noncomputable def outScore (t : Fin 300) : EReal := if ⊥ < cand B s (winner B s t) then cand B s (winner B s t) else none'
open Classical in
/-- The class label returned at place `t`. -/
noncomputable def outLabel (t : Fin 300) : BitVec 32 :=
  if ⊥ < cand B s (winner B s t) then BitVec.ofNat 32 (rowOf (winner B s t)).val else 4294967295#32
open Classical in
/-- The box returned at place `t`. -/
noncomputable def outBox (t : Fin 300) (j : Fin 4) : EReal :=
  if ⊥ < cand B s (winner B s t) then B (candBest B s (winner B s t)) j else none'

end

end Cert.Nms
-- ==== Proof.MergeValue.lean ====
module

public import proofs.«01_k».proof.Proof.TableValue
public import proofs.«01_k».proof.Proof.MergeSpec

@[expose] public section

/-!
# The merging loop over the extended reals

One trip of the kernel's merging loop, read at the extended reals: it records the first greatest candidate and
strikes it out; so the trips visit the candidates' stable sort (`strike_sorted`), and the kernel's three outputs are
the merged results of `MergeSpec`.
-/

set_option maxRecDepth 32768

namespace Cert.KernelIdeal.Hand

open Cert.KernelIdeal Cert.KernelIdeal.Gen
open Idealize.ShloMosaic Idealize.ShloMosaic.TcCoe Idealize.ShloMosaic.Tactic
open Cert.Nms

/-- A table of candidates as one row. -/
def flat (h : Vec Ideal S80x300 .f32) (p : Fin 24000) : EReal := h (ix2 (rowOf p) (colOf p))

/-- The flat list at a class's turn is the table's entry there. -/
theorem flat_posOf (h : Vec Ideal S80x300 .f32) (r : Fin 80) (n : Fin 300) : flat h (posOf r n) = h (ix2 r n) := by
  unfold flat; rw [rowOf_posOf, colOf_posOf]

/-- The merge's maximum is the candidate score at the first greatest position. -/
theorem pay34_eq (h : Vec Ideal S80x300 .f32) (i : Fin 24000) (hi : FirstMax (flat h) i) : k0_pay34 (F := Ideal) h (ix2 0 0) = flat h i := by
  have e : k0_pay34 (F := Ideal) h (ix2 0 0)
      = (Finset.univ : Finset (Fin 80 × Fin 300)).fold max (Ideal.ofBits .f32 0xFF800000#32) (fun x => h (ix2 x.1 x.2)) := by
    pointwise [k0_pay34]
  rw [e, fold_max_eq _ (rowOf i, colOf i) (fun p => by
    show h (ix2 p.1 p.2) ≤ flat h i
    rw [← flat_posOf h]; exact hi.le _)]
  rfl

/-- The merge's validity bit says whether that score is above minus infinity. -/
theorem pay35_eq (h : Vec Ideal S80x300 .f32) (i : Fin 24000) (hi : FirstMax (flat h) i) :
    k0_pay35 (F := Ideal) h (ix2 0 0) = BitVec.ofBool (decide (⊥ < flat h i)) := by
  have e : k0_pay35 (F := Ideal) h (ix2 0 0) = BitVec.ofBool (decide (Ideal.ofBits FTy.f32 4286578688#32 < k0_pay34 (F := Ideal) h (ix2 0 0))) := by
    pointwise [k0_pay35]
  rw [e, pay34_eq h i hi, ofBits_neg_inf]

/-- The position word: the class times 300 plus the turn. -/
theorem word_pos (r : Fin 80) (n : Fin 300) :
    IntOp.addi (IntOp.muli (BitVec.ofNat 32 r.val) 300#32) (BitVec.ofNat 32 n.val) = BitVec.ofNat 32 (posOf r n).val := by
  show BitVec.ofNat 32 r.val * BitVec.ofNat 32 300 + BitVec.ofNat 32 n.val = BitVec.ofNat 32 (r.val * 300 + n.val)
  rw [← BitVec.ofNat_mul, ← BitVec.ofNat_add]

/-- The one-hot mark of the first greatest candidate. -/
theorem pay36_eq (h : Vec Ideal S80x300 .f32) (i : Fin 24000) (hi : FirstMax (flat h) i) (r : Fin 80) (n : Fin 300) :
    k0_pay36 (F := Ideal) k0_pay7 h (ix2 r n) = if posOf r n = i then 1#1 else 0#1 := by
  have e : k0_pay36 (F := Ideal) k0_pay7 h (ix2 r n)
      = IntOp.cmpi CmpIPredicate.eq (IntOp.addi (IntOp.muli (BitVec.ofNat 32 r.val) 300#32) (BitVec.ofNat 32 n.val))
      (Finset.fold IntOp.minsi (2147483647#32)
        (fun x : Fin 80 × Fin 300 =>
          if h (ix2 x.1 x.2) = k0_pay34 (F := Ideal) h (ix2 0 0) then
            IntOp.addi (IntOp.muli (BitVec.ofNat 32 x.1.val) 300#32) (BitVec.ofNat 32 x.2.val)
          else 24000#32)
        Finset.univ) := by
    pointwise [k0_pay36, k0_pay7]
  classical
  have hfold := fold_minsi_eq (fun x : Fin 80 × Fin 300 =>
          if h (ix2 x.1 x.2) = k0_pay34 (F := Ideal) h (ix2 0 0) then
            IntOp.addi (IntOp.muli (BitVec.ofNat 32 x.1.val) 300#32) (BitVec.ofNat 32 x.2.val)
          else 24000#32)
    (fun x => if flat h (posOf x.1 x.2) = flat h i then (posOf x.1 x.2).val else 24000)
    (fun p => by
      show (if h (ix2 p.1 p.2) = k0_pay34 (F := Ideal) h (ix2 0 0) then
            IntOp.addi (IntOp.muli (BitVec.ofNat 32 p.1.val) 300#32) (BitVec.ofNat 32 p.2.val)
          else 24000#32) = BitVec.ofNat 32 (if flat h (posOf p.1 p.2) = flat h i then (posOf p.1 p.2).val else 24000)
      rw [pay34_eq h i hi, word_pos, flat_posOf]; split <;> rfl)
    (fun p => by
      have := (posOf p.1 p.2).isLt
      show (if flat h (posOf p.1 p.2) = flat h i then (posOf p.1 p.2).val else 24000) < 2 ^ 31
      split <;> omega)
    (rowOf i, colOf i)
    (fun p => by
      show (if flat h (posOf (rowOf i) (colOf i)) = flat h i then (posOf (rowOf i) (colOf i)).val else 24000)
        ≤ (if flat h (posOf p.1 p.2) = flat h i then (posOf p.1 p.2).val else 24000)
      rw [posOf_rowOf, if_pos rfl]
      split
      · rename_i hp; exact hi.first _ hp
      · exact i.isLt.le)
  have hg : (if flat h (posOf (rowOf i) (colOf i)) = flat h i then (posOf (rowOf i) (colOf i)).val else 24000) = i.val := by
    rw [posOf_rowOf, if_pos rfl]
  rw [e, hfold]
  show IntOp.cmpi CmpIPredicate.eq _ (BitVec.ofNat 32 (if flat h (posOf (rowOf i) (colOf i)) = flat h i then (posOf (rowOf i) (colOf i)).val else 24000)) = _
  have h1 := (posOf r n).isLt
  have h2 := i.isLt
  rw [hg, word_pos, WordCmp.cmpi_eq_ofNat (by omega) (by omega)]
  by_cases hc : posOf r n = i
  · rw [if_pos hc, hc]; simp
  · have : (posOf r n).val ≠ i.val := fun e => hc (Fin.ext e)
    rw [if_neg hc]; simp [this]

/-- The candidate found is struck out. -/
theorem flat_strike (h : Vec Ideal S80x300 .f32) (i : Fin 24000) (hi : FirstMax (flat h) i) (p : Fin 24000) :
    flat (strike (F := Ideal) h) p = if p = i then ⊥ else flat h p := by
  have e : ∀ r n, strike (F := Ideal) h (ix2 r n)
      = Scalar.select (k0_pay36 (F := Ideal) k0_pay7 h (ix2 r n)) (Ideal.ofBits FTy.f32 4286578688#32) (h (ix2 r n)) := by
    intro r n
    unfold strike
    pointwise [k0_pay37]
  rw [flat, e, pay36_eq h i hi, posOf_rowOf, ofBits_neg_inf]
  by_cases hp : p = i
  · rw [if_pos hp, if_pos hp]; rfl
  · rw [if_neg hp, if_neg hp]; rfl

/-- A selection by a decided proposition is an if. -/
theorem select_ok {α : Type} (q : Prop) [Decidable q] (a b : α) : Scalar.select (BitVec.ofBool (decide q)) a b = if q then a else b := by
  by_cases hq : q <;> simp [hq, Scalar.select]

/-- The score recorded. -/
theorem recScore_eq (h : Vec Ideal S80x300 .f32) (i : Fin 24000) (hi : FirstMax (flat h) i) :
    recScore (F := Ideal) h = (if ⊥ < flat h i then flat h i else none' : EReal) := by
  unfold recScore
  rw [pay35_eq h i hi, pay34_eq h i hi, select_ok]
  rfl

/-- The class label recorded. -/
theorem recLabel_eq (v46 : IVec S80x300 32) (hv46 : ∀ r n, v46 (ix2 r n) = BitVec.ofNat 32 r.val) (h : Vec Ideal S80x300 .f32) (i : Fin 24000) (hi : FirstMax (flat h) i) :
    recLabel (F := Ideal) v46 h = if ⊥ < flat h i then BitVec.ofNat 32 (rowOf i).val else 4294967295#32 := by
  have e : k0_pay38 (F := Ideal) v46 k0_pay7 h (ix2 0 0)
      = Finset.fold IntOp.addi (0#32) (fun x : Fin 80 × Fin 300 => Scalar.select (k0_pay36 (F := Ideal) k0_pay7 h (ix2 x.1 x.2)) (v46 (ix2 x.1 x.2)) 0#32)
      Finset.univ := by
    pointwise [k0_pay38]
  unfold recLabel
  rw [pay35_eq h i hi, select_ok, e, fold_addi_single _ (rowOf i, colOf i)]
  · show (if ⊥ < flat h i then Scalar.select (k0_pay36 (F := Ideal) k0_pay7 h (ix2 (rowOf i) (colOf i))) (v46 (ix2 (rowOf i) (colOf i))) 0#32 else 4294967295#32) = _
    rw [pay36_eq h i hi, posOf_rowOf, if_pos rfl, hv46]
    rfl
  · intro p hp
    show Scalar.select (k0_pay36 (F := Ideal) k0_pay7 h (ix2 p.1 p.2)) _ _ = _
    rw [pay36_eq h i hi, if_neg]
    · rfl
    · rintro rfl
      exact hp (Prod.ext (rowOf_posOf _ _).symm (colOf_posOf _ _).symm)

/-- A recorded coordinate. -/
theorem pay40_eq (h x : Vec Ideal S80x300 .f32) (i : Fin 24000) (hi : FirstMax (flat h) i) :
    k0_pay40 (F := Ideal) (k0_pay36 (F := Ideal) k0_pay7 h) x (ix2 0 0) = flat x i := by
  have e : ∀ w : IVec S80x300 1, k0_pay40 (F := Ideal) w x (ix2 0 0) = (∑ r, ∑ n, Scalar.select (w (ix2 r n)) (x (ix2 r n)) 0 : EReal) := by
    intro w
    pointwise [k0_pay40]
  rw [e, Finset.sum_eq_single (rowOf i), Finset.sum_eq_single (colOf i)]
  · rw [pay36_eq h i hi, posOf_rowOf, if_pos rfl]; rfl
  · intro n _ hn
    rw [pay36_eq h i hi, if_neg]
    · rfl
    · intro e; exact hn (by rw [← colOf_posOf (rowOf i) n, e])
  · intro hn; exact absurd (Finset.mem_univ _) hn
  · intro r _ hr
    refine Finset.sum_eq_zero fun n _ => ?_
    rw [pay36_eq h i hi, if_neg]
    · rfl
    · intro e; exact hr (by rw [← rowOf_posOf r n, e])
  · intro hn; exact absurd (Finset.mem_univ _) hn

/-- The four coordinates recorded. -/
theorem recBox_eq (h x1 y1 x2 y2 : Vec Ideal S80x300 .f32) (i : Fin 24000) (hi : FirstMax (flat h) i) (j : Fin 4) :
    recBox (F := Ideal) h x1 y1 x2 y2 j = (if ⊥ < flat h i then ![flat x1 i, flat y1 i, flat x2 i, flat y2 i] j else none' : EReal) := by
  unfold recBox
  rw [pay35_eq h i hi, select_ok, pay40_eq h _ i hi, pay40_eq h _ i hi, pay40_eq h _ i hi, pay40_eq h _ i hi]
  rfl

/-- Batch element `b`'s half of a table. -/
theorem rowsOf_apply (b : Fin 2) (C : Vec Ideal S160x300 .f32) (r : Fin 80) (n : Fin 300) :
    rowsOf (F := Ideal) b.val C (ix2 r n) = C (ix2 (rowIx b r) n) := by
  match b with
  | 0 =>
    show C (ix2 ⟨r.val, _⟩ n) = _
    congr 2; exact Fin.ext (by show r.val = 80 * 0 + r.val; omega)
  | 1 => rfl

/-- The candidates' visiting order: the first greatest candidate before trip `t` is the sorted row's entry `t`. -/
theorem visit (b : Fin 2) (C : Vec Ideal S160x300 .f32) (v : Fin 24000 → EReal) (hv : ∀ c t, C (ix2 (rowIx b c) t) = v (posOf c t)) (t : Fin 300) :
    ∃ i, FirstMax (flat (candAt (F := Ideal) b.val C t.val)) i
      ∧ flat (candAt (F := Ideal) b.val C t.val) i = v (sortedFrom (gtB v) ⟨t.val, by omega⟩)
      ∧ (⊥ < v (sortedFrom (gtB v) ⟨t.val, by omega⟩) → i = sortedFrom (gtB v) ⟨t.val, by omega⟩) := by
  choose i hi using fun k => exists_firstMax (n := 23999) (flat (candAt (F := Ideal) b.val C k))
  have h0 : flat (candAt (F := Ideal) b.val C 0) = v := by
    funext p
    show rowsOf (F := Ideal) b.val C (ix2 (rowOf p) (colOf p)) = _
    rw [rowsOf_apply, hv, posOf_rowOf]
  have := strike_sorted v (fun k => flat (candAt (F := Ideal) b.val C k)) i h0 hi
    (fun k p => flat_strike (candAt (F := Ideal) b.val C k) (i k) (hi k) p) ⟨t.val, by omega⟩
  refine ⟨i t.val, hi t.val, this.1, fun h => this.2 ?_⟩
  rw [this.1]; exact h.ne'

section Apply

variable (v10 v12 v14 v16 v18 v20 v22 v24 v31 v32 v33 : FVec Ideal S1x5120 .f32) (v39 : IVec S160x5120 32) (v41 v43 : Vec Ideal S1x5120x12 .bf16) (v46 : IVec S80x300 32) (ms : Vec Ideal S160x5120 .f32)

/-- The stored scores, read entry by entry. -/
theorem scoreOf_apply (b : Fin 2) (t : Fin 300) : scoreOf (F := Ideal) v10 v12 v14 v16 v18 v20 v22 v24 v31 v32 v33 v39 v41 v43 ms (ix3 b 0 t)
    = recScore (F := Ideal) (candAt b.val (csTab v10 v12 v14 v16 v18 v20 v22 v24 v31 v32 v33 v39 v41 v43 ms) t.val) := rfl
/-- The stored labels, read entry by entry. -/
theorem labelOf_apply (b : Fin 2) (t : Fin 300) : labelOf (F := Ideal) v10 v12 v14 v16 v18 v20 v22 v24 v31 v32 v33 v39 v41 v43 v46 ms (ix3 b 0 t)
    = recLabel (F := Ideal) v46 (candAt b.val (csTab v10 v12 v14 v16 v18 v20 v22 v24 v31 v32 v33 v39 v41 v43 ms) t.val) := rfl
/-- The stored boxes, read entry by entry. -/
theorem boxOf_apply (b : Fin 2) (j : Fin 4) (t : Fin 300) : boxOf (F := Ideal) v10 v12 v14 v16 v18 v20 v22 v24 v31 v32 v33 v39 v41 v43 ms (ix3 b j t)
    = recBox (F := Ideal) (candAt b.val (csTab v10 v12 v14 v16 v18 v20 v22 v24 v31 v32 v33 v39 v41 v43 ms) t.val) (rowsOf b.val (x1Tab v10 v12 v14 v16 v18 v20 v22 v24 v31 v32 v33 v39 v41 v43 ms)) (rowsOf b.val (y1Tab v10 v12 v14 v16 v18 v20 v22 v24 v31 v32 v33 v39 v41 v43 ms)) (rowsOf b.val (x2Tab v10 v12 v14 v16 v18 v20 v22 v24 v31 v32 v33 v39 v41 v43 ms)) (rowsOf b.val (y2Tab v10 v12 v14 v16 v18 v20 v22 v24 v31 v32 v33 v39 v41 v43 ms)) j := rfl

end Apply

section Results

variable {B : Fin 2 → Fin 5000 → Fin 4 → EReal} {s : Fin 2 → Fin 80 → Fin 5000 → EReal}
  {x0 : Vec Ideal S8x5120 .f32} {x1 : Vec Ideal S2x5120x12 .bf16} {x2 : Vec Ideal S160x5120 .f32} (L : Laid B s x0 x1 x2)

include L

/-- The score table after the selection loop holds the candidates' scores of the specification. -/
theorem csTab_cand (b : Fin 2) (c : Fin 80) (t : Fin 300) :
    csTab (F := Ideal) (k0_pay61 (coordRow 0 x0)) (k0_pay62 (coordRow 1 x0)) (k0_pay63 (coordRow 2 x0)) (k0_pay64 (coordRow 3 x0)) (k0_pay65 (coordRow 4 x0)) (k0_pay66 (coordRow 5 x0)) (k0_pay67 (coordRow 6 x0)) (k0_pay68 (coordRow 7 x0)) (k0_pay69 (coordRow 0 x0) (coordRow 1 x0) (coordRow 2 x0) (coordRow 3 x0)) (k0_pay70 (coordRow 4 x0) (coordRow 6 x0)) k0_pay71 (iota Kind.tc S160x5120 32 [1] iota_S160x5120_d1_w32) (page 0 x1) (page 1 x1) (k0_pay60 x2) (ix2 (rowIx b c) t) = cand (B b) (s b) (posOf c t) := by
  rw [csTab_row L]; unfold cand; rw [rowOf_posOf, colOf_posOf]

/-- The scores the kernel stores. -/
theorem scoreOut_eq (b : Fin 2) (t : Fin 300) : scoreOut (F := Ideal) x0 x1 x2 (ix3 b 0 t) = outScore (B b) (s b) t := by
  obtain ⟨i, hi, he, -⟩ := visit b _ (cand (B b) (s b)) (csTab_cand L b) t
  unfold scoreOut
  rw [scoreOf_apply, recScore_eq _ i hi]
  rw [he]
  unfold outScore winner
  congr

/-- The class labels the kernel stores. -/
theorem labelOut_eq (b : Fin 2) (t : Fin 300) : labelOut (F := Ideal) x0 x1 x2 (ix3 b 0 t) = outLabel (B b) (s b) t := by
  obtain ⟨i, hi, he, hp⟩ := visit b _ (cand (B b) (s b)) (csTab_cand L b) t
  unfold labelOut
  rw [labelOf_apply, recLabel_eq _ (fun r n => iota_single_apply _ _ _ _ _ (ix2 r n)) _ i hi]
  rw [he]
  unfold outLabel winner
  split
  · rename_i h; rw [hp h]
  · rfl

/-- The coordinates the kernel stores. -/
theorem boxOut_eq (b : Fin 2) (j : Fin 4) (t : Fin 300) : boxOut (F := Ideal) x0 x1 x2 (ix3 b j t) = outBox (B b) (s b) t j := by
  obtain ⟨i, hi, he, hp⟩ := visit b _ (cand (B b) (s b)) (csTab_cand L b) t
  unfold boxOut
  rw [boxOf_apply, recBox_eq _ _ _ _ _ i hi j]
  rw [he]
  unfold outBox winner
  split
  · rename_i h
    rw [hp h]
    have hc := coordTab_row L b (rowOf (sortedFrom (gtB (cand (B b) (s b))) ⟨t.val, by omega⟩)) (colOf (sortedFrom (gtB (cand (B b) (s b))) ⟨t.val, by omega⟩)) h
    unfold flat
    rw [rowsOf_apply b, rowsOf_apply b, rowsOf_apply b, rowsOf_apply b]
    match j with
    | 0 => exact hc.1
    | 1 => exact hc.2.1
    | 2 => exact hc.2.2.1
    | 3 => exact hc.2.2.2
  · rfl

end Results

end Cert.KernelIdeal.Hand
-- ==== Proof.KernelRun.lean ====
module

public import proofs.«01_k».proof.Proof.Body
public import proofs.«01_k».proof.Proof.HostPrep
public import proofs.«01_k».proof.Proof.MergeValue
public import Idealize.ShloMosaic.Lib.Pipeline.Value

@[expose] public section

/-!
# The kernel's run, read

The idealized kernel's three results over the extended reals, for finite boxes: they are the merge of the specification,
entry by entry.
-/

set_option maxRecDepth 32768

namespace Cert.KernelIdeal.Hand

open Cert.KernelIdeal Cert.KernelIdeal.Gen
open Idealize.ShloMosaic Idealize.ShloMosaic.TcCoe Idealize.ShloMosaic.Tactic
open Idealize.SL.Sem
open Cert.Nms

variable (m : (ℓ : Loc nD τ sig) → Buf (Elt Ideal) ℓ) (ρ : Dev nD → PrngReg) (c : Dev nD)

/-- The boxes argument. -/
abbrev argB : Vec Ideal S2x5000x4 .f32 := m (c, Proc.devRef .tc main_arg0)
/-- The scores argument. -/
abbrev argS : Vec Ideal S2x5000x80 .f32 := m (c, Proc.devRef .tc main_arg1)

/-- The kernel reads the coordinate rows whole. -/
theorem in0_eq : in0 (F := Ideal) m c t0_0 = boxRows (argB m c) := by
  rw [← V0_v4 m c]
  have hz' : (fun a => win0_0.index t0_0 a * main_v4.ty.shape.size a) = fun _ => 0 := funext fun a => by fin_cases a <;> decide
  exact Memref.read_access_unit_zero (Elt Ideal) main_v4 hz' (fun a => by rw [congrFun hz' a]; simp) (V (F := Ideal) m c main_v4)

/-- The kernel reads the column table whole. -/
theorem in1_eq : in1 (F := Ideal) m c t0_0 = pages (page0 (boxCols (boxRows (argB m c)))) (page1 (boxCols (boxRows (argB m c)))) := by
  rw [← V0_v27 m c]
  have hz' : (fun a => win0_1.index t0_0 a * main_v27.ty.shape.size a) = fun _ => 0 := funext fun a => by fin_cases a <;> decide
  exact Memref.read_access_unit_zero (Elt Ideal) main_v27 hz' (fun a => by rw [congrFun hz' a]; simp) (V (F := Ideal) m c main_v27)

/-- The kernel reads the scores whole. -/
theorem in2_eq : in2 (F := Ideal) m c t0_0 = scoreRows (argS m c) := by
  rw [← V0_v5 m c]
  have hz' : (fun a => win0_2.index t0_0 a * main_v5.ty.shape.size a) = fun _ => 0 := funext fun a => by fin_cases a <;> decide
  exact Memref.read_access_unit_zero (Elt Ideal) main_v5 hz' (fun a => by rw [congrFun hz' a]; simp) (V (F := Ideal) m c main_v5)

/-- The boxes array at the end. -/
noncomputable def endBox : Buf (Elt Ideal) ((c : Thread nD τ).loc main_v28_0) := boxOut (F := Ideal) (in0 m c t0_0) (in1 m c t0_0) (in2 m c t0_0)
/-- The scores array at the end. -/
noncomputable def endScore : Buf (Elt Ideal) ((c : Thread nD τ).loc main_v28_1) := scoreOut (F := Ideal) (in0 m c t0_0) (in1 m c t0_0) (in2 m c t0_0)
/-- The labels array at the end. -/
noncomputable def endLabel : Buf (Elt Ideal) ((c : Thread nD τ).loc main_v28_2) := labelOut (F := Ideal) (in0 m c t0_0) (in1 m c t0_0) (in2 m c t0_0)

/-- What the launch writes back to the box array is the box result. -/
theorem flushed3 (t : Fin cfg0.N) (_ : (cfg0.win 3).flush t = true) :
    (dats (F := Ideal) m 0 c).flushed 3 t = ((cfg0.win 3).blk t).view.read (Elt Ideal) (endBox m c) := by
  obtain rfl : t = t0_0 := Fin.ext (by have h1 : cfg0.N = 1 := N_0; have := t.isLt; show t.val = 0; omega)
  show (cfg0.win 3).cut (grid0.coords t0_0) ((dats (F := Ideal) m 0 c).after 3 t0_0) = _
  rw [show (dats (F := Ideal) m 0 c).after 3 t0_0 = endBox m c from by dsimp only [dats]; unfold endBox; rfl]
  generalize endBox m c = z
  have hz' : (fun a => win0_3.index t0_0 a * main_v28_0.ty.shape.size a) = fun _ => 0 := funext fun a => by fin_cases a <;> decide
  exact (Memref.read_access_unit_zero (Elt Ideal) main_v28_0 hz' (fun a => by rw [congrFun hz' a]; simp) z).symm

/-- What the launch writes back to the score array is the score result. -/
theorem flushed4 (t : Fin cfg0.N) (_ : (cfg0.win 4).flush t = true) :
    (dats (F := Ideal) m 0 c).flushed 4 t = ((cfg0.win 4).blk t).view.read (Elt Ideal) (endScore m c) := by
  obtain rfl : t = t0_0 := Fin.ext (by have h1 : cfg0.N = 1 := N_0; have := t.isLt; show t.val = 0; omega)
  show (cfg0.win 4).cut (grid0.coords t0_0) ((dats (F := Ideal) m 0 c).after 4 t0_0) = _
  rw [show (dats (F := Ideal) m 0 c).after 4 t0_0 = endScore m c from by dsimp only [dats]; unfold endScore; rfl]
  generalize endScore m c = z
  have hz' : (fun a => win0_4.index t0_0 a * main_v28_1.ty.shape.size a) = fun _ => 0 := funext fun a => by fin_cases a <;> decide
  exact (Memref.read_access_unit_zero (Elt Ideal) main_v28_1 hz' (fun a => by rw [congrFun hz' a]; simp) z).symm

/-- What the launch writes back to the label array is the label result. -/
theorem flushed5 (t : Fin cfg0.N) (_ : (cfg0.win 5).flush t = true) :
    (dats (F := Ideal) m 0 c).flushed 5 t = ((cfg0.win 5).blk t).view.read (Elt Ideal) (endLabel m c) := by
  obtain rfl : t = t0_0 := Fin.ext (by have h1 : cfg0.N = 1 := N_0; have := t.isLt; show t.val = 0; omega)
  show (cfg0.win 5).cut (grid0.coords t0_0) ((dats (F := Ideal) m 0 c).after 5 t0_0) = _
  rw [show (dats (F := Ideal) m 0 c).after 5 t0_0 = endLabel m c from by dsimp only [dats]; unfold endLabel; rfl]
  generalize endLabel m c = z
  have hz' : (fun a => win0_5.index t0_0 a * main_v28_2.ty.shape.size a) = fun _ => 0 := funext fun a => by fin_cases a <;> decide
  exact (Memref.read_access_unit_zero (Elt Ideal) main_v28_2 hz' (fun a => by rw [congrFun hz' a]; simp) z).symm

/-- The run leaves it in the result array. -/
theorem final3 : (dats (F := Ideal) m 0 c).arrAt 3 cfg0.N = endBox m c :=
  (dats (F := Ideal) m 0 c).arrAt_eq_of_cover 3 (endBox m c) (flushed3 m c) fun i =>
    ⟨t0_0, flush0_3 t0_0, by
      show i ∈ ((View.whole main_v28_0).slice (win0_3.rect t0_0)).set
      rw [View.set_slice_whole, Rect.mem_set_unit]
      intro a
      have h0 : (i 0 : Nat) < 2 := (i 0).isLt
      have h1 : (i 1 : Nat) < 4 := (i 1).isLt
      have h2 : (i 2 : Nat) < 300 := (i 2).isLt
      match a with
      | ⟨0, _⟩ => show win0_3.index t0_0 0 * win0_3.size 0 ≤ (i 0 : Nat) ∧ (i 0 : Nat) < win0_3.index t0_0 0 * win0_3.size 0 + win0_3.xsize (grid0.coords t0_0) 0
                  rw [show win0_3.index t0_0 0 * win0_3.size 0 = 0 from by decide +kernel, show win0_3.xsize (grid0.coords t0_0) 0 = 2 from by decide +kernel]; omega
      | ⟨1, _⟩ => show win0_3.index t0_0 1 * win0_3.size 1 ≤ (i 1 : Nat) ∧ (i 1 : Nat) < win0_3.index t0_0 1 * win0_3.size 1 + win0_3.xsize (grid0.coords t0_0) 1
                  rw [show win0_3.index t0_0 1 * win0_3.size 1 = 0 from by decide +kernel, show win0_3.xsize (grid0.coords t0_0) 1 = 4 from by decide +kernel]; omega
      | ⟨2, _⟩ => show win0_3.index t0_0 2 * win0_3.size 2 ≤ (i 2 : Nat) ∧ (i 2 : Nat) < win0_3.index t0_0 2 * win0_3.size 2 + win0_3.xsize (grid0.coords t0_0) 2
                  rw [show win0_3.index t0_0 2 * win0_3.size 2 = 0 from by decide +kernel, show win0_3.xsize (grid0.coords t0_0) 2 = 300 from by decide +kernel]; omega⟩

/-- The run leaves it in the result array. -/
theorem final4 : (dats (F := Ideal) m 0 c).arrAt 4 cfg0.N = endScore m c :=
  (dats (F := Ideal) m 0 c).arrAt_eq_of_cover 4 (endScore m c) (flushed4 m c) fun i =>
    ⟨t0_0, flush0_4 t0_0, by
      show i ∈ ((View.whole main_v28_1).slice (win0_4.rect t0_0)).set
      rw [View.set_slice_whole, Rect.mem_set_unit]
      intro a
      have h0 : (i 0 : Nat) < 2 := (i 0).isLt
      have h1 : (i 1 : Nat) < 1 := (i 1).isLt
      have h2 : (i 2 : Nat) < 300 := (i 2).isLt
      match a with
      | ⟨0, _⟩ => show win0_4.index t0_0 0 * win0_4.size 0 ≤ (i 0 : Nat) ∧ (i 0 : Nat) < win0_4.index t0_0 0 * win0_4.size 0 + win0_4.xsize (grid0.coords t0_0) 0
                  rw [show win0_4.index t0_0 0 * win0_4.size 0 = 0 from by decide +kernel, show win0_4.xsize (grid0.coords t0_0) 0 = 2 from by decide +kernel]; omega
      | ⟨1, _⟩ => show win0_4.index t0_0 1 * win0_4.size 1 ≤ (i 1 : Nat) ∧ (i 1 : Nat) < win0_4.index t0_0 1 * win0_4.size 1 + win0_4.xsize (grid0.coords t0_0) 1
                  rw [show win0_4.index t0_0 1 * win0_4.size 1 = 0 from by decide +kernel, show win0_4.xsize (grid0.coords t0_0) 1 = 1 from by decide +kernel]; omega
      | ⟨2, _⟩ => show win0_4.index t0_0 2 * win0_4.size 2 ≤ (i 2 : Nat) ∧ (i 2 : Nat) < win0_4.index t0_0 2 * win0_4.size 2 + win0_4.xsize (grid0.coords t0_0) 2
                  rw [show win0_4.index t0_0 2 * win0_4.size 2 = 0 from by decide +kernel, show win0_4.xsize (grid0.coords t0_0) 2 = 300 from by decide +kernel]; omega⟩

/-- The run leaves it in the result array. -/
theorem final5 : (dats (F := Ideal) m 0 c).arrAt 5 cfg0.N = endLabel m c :=
  (dats (F := Ideal) m 0 c).arrAt_eq_of_cover 5 (endLabel m c) (flushed5 m c) fun i =>
    ⟨t0_0, flush0_5 t0_0, by
      show i ∈ ((View.whole main_v28_2).slice (win0_5.rect t0_0)).set
      rw [View.set_slice_whole, Rect.mem_set_unit]
      intro a
      have h0 : (i 0 : Nat) < 2 := (i 0).isLt
      have h1 : (i 1 : Nat) < 1 := (i 1).isLt
      have h2 : (i 2 : Nat) < 300 := (i 2).isLt
      match a with
      | ⟨0, _⟩ => show win0_5.index t0_0 0 * win0_5.size 0 ≤ (i 0 : Nat) ∧ (i 0 : Nat) < win0_5.index t0_0 0 * win0_5.size 0 + win0_5.xsize (grid0.coords t0_0) 0
                  rw [show win0_5.index t0_0 0 * win0_5.size 0 = 0 from by decide +kernel, show win0_5.xsize (grid0.coords t0_0) 0 = 2 from by decide +kernel]; omega
      | ⟨1, _⟩ => show win0_5.index t0_0 1 * win0_5.size 1 ≤ (i 1 : Nat) ∧ (i 1 : Nat) < win0_5.index t0_0 1 * win0_5.size 1 + win0_5.xsize (grid0.coords t0_0) 1
                  rw [show win0_5.index t0_0 1 * win0_5.size 1 = 0 from by decide +kernel, show win0_5.xsize (grid0.coords t0_0) 1 = 1 from by decide +kernel]; omega
      | ⟨2, _⟩ => show win0_5.index t0_0 2 * win0_5.size 2 ≤ (i 2 : Nat) ∧ (i 2 : Nat) < win0_5.index t0_0 2 * win0_5.size 2 + win0_5.xsize (grid0.coords t0_0) 2
                  rw [show win0_5.index t0_0 2 * win0_5.size 2 = 0 from by decide +kernel, show win0_5.xsize (grid0.coords t0_0) 2 = 300 from by decide +kernel]; omega⟩

/-- The buffers when the kernel has returned. -/
noncomputable abbrev left : (b : DevRef τ sig) → b.ty.Contents (Elt Ideal) :=
  Pipeline.withArrays spec0 c (V0 (F := Ideal) m c) fun w => (dats (F := Ideal) m 0 c).arrAt w cfg0.N

/-- The launch's arrays are different buffers. -/
theorem arr_inj : Function.Injective (Pipeline.arrRef spec0) := by decide

/-- After the launch the box array holds the boxes stored by the body. -/
theorem left3 : left m c (Proc.devRef .tc main_v28_0) = endBox m c :=
  (Pipeline.withArrays_arr spec0 arr_inj c (V0 (F := Ideal) m c) (fun w => (dats (F := Ideal) m 0 c).arrAt w cfg0.N) 3).trans (final3 m c)
/-- After the launch the score array holds the scores stored by the body. -/
theorem left4 : left m c (Proc.devRef .tc main_v28_1) = endScore m c :=
  (Pipeline.withArrays_arr spec0 arr_inj c (V0 (F := Ideal) m c) (fun w => (dats (F := Ideal) m 0 c).arrAt w cfg0.N) 4).trans (final4 m c)
/-- After the launch the label array holds the labels stored by the body. -/
theorem left5 : left m c (Proc.devRef .tc main_v28_2) = endLabel m c :=
  (Pipeline.withArrays_arr spec0 arr_inj c (V0 (F := Ideal) m c) (fun w => (dats (F := Ideal) m 0 c).arrAt w cfg0.N) 5).trans (final5 m c)

/-- The boxes result from the array the kernel leaves. -/
theorem tail_v29 : StableHlo.after (List.flatten [hostOps1 (F := Ideal)]) (left m c) (Proc.devRef .tc main_v29)
    = transpose S2x300x4 [0, 2, 1] (endBox m c : Vec Ideal S2x4x300 .f32) transposes_S2x4x300_S2x300x4_0_2_1 := by
  rw [← left3 m c]
  generalize left m c = W
  simp only [hostOps1, List.flatten_cons, List.flatten_nil, List.append_nil, List.cons_append, List.nil_append]
  after_results

/-- The scores result from the array the kernel leaves. -/
theorem tail_v30 : StableHlo.after (List.flatten [hostOps1 (F := Ideal)]) (left m c) (Proc.devRef .tc main_v30)
    = shapeCast S2x300 (endScore m c : Vec Ideal S2x1x300 .f32) shapeCasts_S2x1x300_S2x300 := by
  rw [← left4 m c]
  generalize left m c = W
  simp only [hostOps1, List.flatten_cons, List.flatten_nil, List.append_nil, List.cons_append, List.nil_append]
  after_results
  rfl

/-- The labels result from the array the kernel leaves. -/
theorem tail_v31 : StableHlo.after (List.flatten [hostOps1 (F := Ideal)]) (left m c) (Proc.devRef .tc main_v31)
    = shapeCast S2x300 (endLabel m c : Vec Ideal S2x1x300 .i32) shapeCasts_S2x1x300_S2x300 := by
  rw [← left5 m c]
  generalize left m c = W
  simp only [hostOps1, List.flatten_cons, List.flatten_nil, List.append_nil, List.cons_append, List.nil_append]
  after_results
  rfl

/-- The boxes of a batch element. -/
abbrev boxesOf (x : Vec Ideal S2x5000x4 .f32) (b : Fin 2) (i : Fin 5000) (j : Fin 4) : EReal := x (ix3 b i j)
/-- The scores of a class of a batch element. -/
abbrev scoresOf (z : Vec Ideal S2x5000x80 .f32) (b : Fin 2) (k : Fin 80) (i : Fin 5000) : EReal := z (ix3 b i k)

/-- The boxes result of the specification. -/
noncomputable def resBox (x : Vec Ideal S2x5000x4 .f32) (z : Vec Ideal S2x5000x80 .f32) : Vec Ideal S2x300x4 .f32 :=
  fun i => outBox (boxesOf x (i 0)) (scoresOf z (i 0)) (i 1) (i 2)
/-- The scores result of the specification. -/
noncomputable def resScore (x : Vec Ideal S2x5000x4 .f32) (z : Vec Ideal S2x5000x80 .f32) : Vec Ideal S2x300 .f32 :=
  fun i => outScore (boxesOf x (i 0)) (scoresOf z (i 0)) (i 1)
/-- The labels result of the specification. -/
noncomputable def resLabel (x : Vec Ideal S2x5000x4 .f32) (z : Vec Ideal S2x5000x80 .f32) : Vec Ideal S2x300 .i32 :=
  fun i => outLabel (boxesOf x (i 0)) (scoresOf z (i 0)) (i 1)

section
variable (fin : ∀ b i j, ∃ r : ℝ, argB m c (ix3 b i j) = r)
include fin

/-- The body's three inputs hold the boxes and scores of the two arguments, padded. -/
theorem laid : Laid (boxesOf (argB m c)) (scoresOf (argS m c)) (in0 (F := Ideal) m c t0_0) (in1 (F := Ideal) m c t0_0) (in2 (F := Ideal) m c t0_0) := by
  rw [in0_eq, in1_eq, in2_eq]
  exact laid_host (argB m c) (argS m c) fin

/-- The kernel's first result holds the boxes of the specification. -/
theorem result_box : StableHlo.after (List.flatten [hostOps1 (F := Ideal)]) (left m c) (Proc.devRef .tc main_v29) = resBox (argB m c) (argS m c) := by
  rw [tail_v29]
  funext i
  rw [eq_ix3 i]
  have e : transpose S2x300x4 [0, 2, 1] (endBox m c : Vec Ideal S2x4x300 .f32) transposes_S2x4x300_S2x300x4_0_2_1 (ix3 (i 0) (i 1) (i 2)) = endBox m c (ix3 (i 0) (i 2) (i 1)) := by
    generalize endBox m c = z
    pointwise
  rw [e]
  unfold endBox
  exact boxOut_eq (laid m c fin) (i 0) (i 2) (i 1)

/-- The kernel's second result holds the scores of the specification. -/
theorem result_score : StableHlo.after (List.flatten [hostOps1 (F := Ideal)]) (left m c) (Proc.devRef .tc main_v30) = resScore (argB m c) (argS m c) := by
  rw [tail_v30]
  funext i
  rw [eq_ix2 i]
  have e : shapeCast S2x300 (endScore m c : Vec Ideal S2x1x300 .f32) shapeCasts_S2x1x300_S2x300 (ix2 (i 0) (i 1)) = endScore m c (ix3 (i 0) 0 (i 1)) := by
    generalize endScore m c = z
    pointwise
  rw [e]
  unfold endScore
  exact scoreOut_eq (laid m c fin) (i 0) (i 1)

/-- The kernel's third result holds the labels of the specification. -/
theorem result_label : StableHlo.after (List.flatten [hostOps1 (F := Ideal)]) (left m c) (Proc.devRef .tc main_v31) = resLabel (argB m c) (argS m c) := by
  rw [tail_v31]
  funext i
  rw [eq_ix2 i]
  have e : shapeCast S2x300 (endLabel m c : Vec Ideal S2x1x300 .i32) shapeCasts_S2x1x300_S2x300 (ix2 (i 0) (i 1)) = endLabel m c (ix3 (i 0) 0 (i 1)) := by
    generalize endLabel m c = z
    pointwise
  rw [e]
  unfold endLabel
  exact labelOut_eq (laid m c fin) (i 0) (i 1)
end

/-- The run: from finite boxes the three results end at the specification's, the arguments as they were. -/
theorem run (fin : ∀ c b i j, ∃ r : ℝ, argB m c (ix3 b i j) = r) :
    θ_run defs (onTc (τ := τ) (main (F := Ideal))) ⟨m, fun _ => 0, ρ⟩ (fun r => ∀ c : Dev nD,
      r.2.mem ((c.tc : Thread nD τ).loc main_v29) = resBox (argB m c) (argS m c)
      ∧ r.2.mem ((c.tc : Thread nD τ).loc main_v30) = resScore (argB m c) (argS m c)
      ∧ r.2.mem ((c.tc : Thread nD τ).loc main_v31) = resLabel (argB m c) (argS m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h.1 c).2 main_v29 (Pipeline.mem_restRefs_of main_v29 (by decide) (by decide))).trans (result_box m c (fin c)),
       ((h.1 c).2 main_v30 (Pipeline.mem_restRefs_of main_v30 (by decide) (by decide))).trans (result_score m c (fin c)),
       ((h.1 c).2 main_v31 (Pipeline.mem_restRefs_of main_v31 (by decide) (by decide))).trans (result_label m c (fin c)),
       ((h.1 c).2 main_arg0 (Pipeline.mem_restRefs_of main_arg0 (by decide) (by decide))).trans (W_main_arg0 m (dats m) c),
       ((h.1 c).2 main_arg1 (Pipeline.mem_restRefs_of main_arg1 (by decide) (by decide))).trans (W_main_arg1 m (dats m) c)⟩) (run_main m ρ)

end Cert.KernelIdeal.Hand
-- ==== Proof.RefOps.lean ====
module

public import proofs.«01_k».proof.Proof.MergeSpec
public import Idealize.ShloMosaic.Lib.Pointwise
public import Idealize.ShloMosaic.Lib.IdealHost
public import Idealize.ShloMosaic.Lib.Pipeline.Value

@[expose] public section

/-!
# Reading the reference's host operations at an index

The sort that keeps a prefix, the gather of rows or words of each batch element at given places, and the write of one row
at a counter, each read at an index.
-/

namespace Cert.Nms

open Idealize.ShloMosaic

/-- The comparator of the reference's sort. -/
theorem before_eq {n : Nat} (v : Fin n → EReal) :
    (fun k k' => FloatOps.cmpfTotal (F := Ideal) (φ := .f32) .gt (v k) (v k') == 1#1) = gtB v := by
  funext k k'
  show (BitVec.ofBool (decide (v k' < v k)) == 1#1) = decide (v k' < v k)
  cases decide (v k' < v k) <;> rfl

section
variable {A C N M : Nat}

/-- Replacing the last coordinate of a three-dimensional index. -/
theorem along2 (b : Fin A) (c : Fin C) (n k : Fin N) :
    (ix3 b c n : (⟨3, ![A, C, N]⟩ : Shape).Idx).along (2 : Fin 3) k = ix3 b c k := by
  funext a
  match a with
  | ⟨0, _⟩ => rfl
  | ⟨1, _⟩ => rfl
  | ⟨2, _⟩ => rfl

/-- Replacing the last coordinate of a two-dimensional index. -/
theorem along1 (b : Fin A) (n k : Fin N) :
    (ix2 b n : (⟨2, ![A, N]⟩ : Shape).Idx).along (1 : Fin 2) k = ix2 b k := by
  funext a
  match a with
  | ⟨0, _⟩ => rfl
  | ⟨1, _⟩ => rfl

/-- The prefix of the sort along the last of three axes. -/
theorem topK3 (x : FVec Ideal ⟨3, ![A, C, N]⟩ .f32) (h) (b : Fin A) (c : Fin C) (t : Fin M) (hM : M ≤ N) :
    (Host.topK (⟨3, ![A, C, M]⟩ : Shape) 2 (FloatOps.cmpfTotal (F := Ideal) (φ := .f32) .gt) x h).1 (ix3 b c t)
        = x (ix3 b c (sortedFrom (gtB fun n => x (ix3 b c n)) ⟨t.val, Nat.lt_of_lt_of_le t.isLt hM⟩))
    ∧ (Host.topK (⟨3, ![A, C, M]⟩ : Shape) 2 (FloatOps.cmpfTotal (F := Ideal) (φ := .f32) .gt) x h).2 (ix3 b c t)
        = BitVec.ofNat 32 (sortedFrom (gtB fun n => x (ix3 b c n)) ⟨t.val, Nat.lt_of_lt_of_le t.isLt hM⟩).val := by
  have e : (fun a => ⟨0 + ((ix3 b c t : (⟨3, ![A, C, M]⟩ : Shape).Idx) (a.cast h.1.symm)).val, by
      have := h.2 a; have := ((ix3 b c t : (⟨3, ![A, C, M]⟩ : Shape).Idx) (a.cast h.1.symm)).isLt; omega⟩ : (⟨3, ![A, C, N]⟩ : Shape).Idx)
      = ix3 b c ⟨t.val, Nat.lt_of_lt_of_le t.isLt hM⟩ := by
    funext a
    match a with
    | ⟨0, _⟩ => exact Fin.ext (Nat.zero_add _)
    | ⟨1, _⟩ => exact Fin.ext (Nat.zero_add _)
    | ⟨2, _⟩ => exact Fin.ext (Nat.zero_add _)
  have hb (n : Fin N) : sortedFrom (n := N) (fun k k' => FloatOps.cmpfTotal (F := Ideal) (φ := .f32) .gt
        (x ((ix3 b c n : (⟨3, ![A, C, N]⟩ : Shape).Idx).along (2 : Fin 3) k)) (x ((ix3 b c n : (⟨3, ![A, C, N]⟩ : Shape).Idx).along (2 : Fin 3) k')) == 1#1) n
      = sortedFrom (gtB fun n : Fin N => x (ix3 b c n)) n := by
    refine congrArg (fun g => sortedFrom g n) ?_
    refine Eq.trans ?_ (before_eq fun n : Fin N => x (ix3 b c n))
    funext k k'
    rw [along2 (k := k), along2 (k := k')]
  have hd : 2 < (⟨3, ![A, C, N]⟩ : Shape).rank := Nat.lt_succ_self 2
  constructor
  · refine Eq.trans ?_ ((congrArg (fun i : (⟨3, ![A, C, N]⟩ : Shape).Idx => x (i.along (2 : Fin 3) (sortedFrom (n := N)
      (fun k k' => FloatOps.cmpfTotal (F := Ideal) (φ := .f32) .gt (x (i.along (2 : Fin 3) k)) (x (i.along (2 : Fin 3) k')) == 1#1)
      (i 2)))) e).trans ?_)
    · unfold Host.topK Host.sort2 extractStridedSlice
      simp only [dif_pos hd]
      rfl
    · refine Eq.trans ?_ (congrArg (fun k : Fin N => x (ix3 b c k)) (hb _))
      exact congrArg x (along2 _ _ _ _)
  · refine Eq.trans ?_ ((congrArg (fun i : (⟨3, ![A, C, N]⟩ : Shape).Idx => BitVec.ofNat 32 (sortedFrom (n := N)
      (fun k k' => FloatOps.cmpfTotal (F := Ideal) (φ := .f32) .gt (x (i.along (2 : Fin 3) k)) (x (i.along (2 : Fin 3) k')) == 1#1)
      (i 2)).val) e).trans ?_)
    · unfold Host.topK Host.sort2 extractStridedSlice
      simp only [dif_pos hd]
      refine congrArg (fun n : Fin N => BitVec.ofNat 32 n.val) ?_
      exact Function.update_self _ _ _
    · exact congrArg (fun k : Fin N => BitVec.ofNat 32 k.val) (hb _)

/-- The prefix of the sort along the last of two axes. -/
theorem topK2 (x : FVec Ideal ⟨2, ![A, N]⟩ .f32) (h) (b : Fin A) (t : Fin M) (hM : M ≤ N) :
    (Host.topK (⟨2, ![A, M]⟩ : Shape) 1 (FloatOps.cmpfTotal (F := Ideal) (φ := .f32) .gt) x h).1 (ix2 b t)
        = x (ix2 b (sortedFrom (gtB fun n => x (ix2 b n)) ⟨t.val, Nat.lt_of_lt_of_le t.isLt hM⟩))
    ∧ (Host.topK (⟨2, ![A, M]⟩ : Shape) 1 (FloatOps.cmpfTotal (F := Ideal) (φ := .f32) .gt) x h).2 (ix2 b t)
        = BitVec.ofNat 32 (sortedFrom (gtB fun n => x (ix2 b n)) ⟨t.val, Nat.lt_of_lt_of_le t.isLt hM⟩).val := by
  have e : (fun a => ⟨0 + ((ix2 b t : (⟨2, ![A, M]⟩ : Shape).Idx) (a.cast h.1.symm)).val, by
      have := h.2 a; have := ((ix2 b t : (⟨2, ![A, M]⟩ : Shape).Idx) (a.cast h.1.symm)).isLt; omega⟩ : (⟨2, ![A, N]⟩ : Shape).Idx)
      = ix2 b ⟨t.val, Nat.lt_of_lt_of_le t.isLt hM⟩ := by
    funext a
    match a with
    | ⟨0, _⟩ => exact Fin.ext (Nat.zero_add _)
    | ⟨1, _⟩ => exact Fin.ext (Nat.zero_add _)
  have hb (n : Fin N) : sortedFrom (n := N) (fun k k' => FloatOps.cmpfTotal (F := Ideal) (φ := .f32) .gt
        (x ((ix2 b n : (⟨2, ![A, N]⟩ : Shape).Idx).along (1 : Fin 2) k)) (x ((ix2 b n : (⟨2, ![A, N]⟩ : Shape).Idx).along (1 : Fin 2) k')) == 1#1) n
      = sortedFrom (gtB fun n : Fin N => x (ix2 b n)) n := by
    refine congrArg (fun g => sortedFrom g n) ?_
    refine Eq.trans ?_ (before_eq fun n : Fin N => x (ix2 b n))
    funext k k'
    rw [along1 (k := k), along1 (k := k')]
  have hd : 1 < (⟨2, ![A, N]⟩ : Shape).rank := Nat.lt_succ_self 1
  constructor
  · refine Eq.trans ?_ ((congrArg (fun i : (⟨2, ![A, N]⟩ : Shape).Idx => x (i.along (1 : Fin 2) (sortedFrom (n := N)
      (fun k k' => FloatOps.cmpfTotal (F := Ideal) (φ := .f32) .gt (x (i.along (1 : Fin 2) k)) (x (i.along (1 : Fin 2) k')) == 1#1)
      (i 1)))) e).trans ?_)
    · unfold Host.topK Host.sort2 extractStridedSlice
      simp only [dif_pos hd]
      rfl
    · refine Eq.trans ?_ (congrArg (fun k : Fin N => x (ix2 b k)) (hb _))
      exact congrArg x (along1 _ _ _)
  · refine Eq.trans ?_ ((congrArg (fun i : (⟨2, ![A, N]⟩ : Shape).Idx => BitVec.ofNat 32 (sortedFrom (n := N)
      (fun k k' => FloatOps.cmpfTotal (F := Ideal) (φ := .f32) .gt (x (i.along (1 : Fin 2) k)) (x (i.along (1 : Fin 2) k')) == 1#1)
      (i 1)).val) e).trans ?_)
    · unfold Host.topK Host.sort2 extractStridedSlice
      simp only [dif_pos hd]
      refine congrArg (fun n : Fin N => BitVec.ofNat 32 n.val) ?_
      exact Function.update_self _ _ _
    · exact congrArg (fun k : Fin N => BitVec.ofNat 32 k.val) (hb _)

end

section
variable {α : Type} {N K : Nat}

/-- A gather of rows of four, at the places an array of pairs (batch element, row) names. -/
abbrev rowsDims (N K : Nat) (wf : GatherDims.WF ⟨3, ![2, N, 4]⟩ ⟨3, ![2, K, 2]⟩ ⟨3, ![2, K, 4]⟩ [2] [0, 1] [] [0, 1] [] 2 ![1, 1, 4]) :
    GatherDims ⟨3, ![2, N, 4]⟩ ⟨3, ![2, K, 2]⟩ ⟨3, ![2, K, 4]⟩ where
  offsetDims := [2]
  collapsedSliceDims := [0, 1]
  operandBatchingDims := []
  startIndicesBatchingDims := []
  startIndexMap := [0, 1]
  indexVectorDim := 2
  sliceSizes := ![1, 1, 4]
  wf := wf

/-- A gather of single words, at the places an array of pairs (batch element, place) names. -/
abbrev wordsDims (N K : Nat) (wf : GatherDims.WF ⟨2, ![2, N]⟩ ⟨3, ![2, K, 2]⟩ ⟨2, ![2, K]⟩ [] [0, 1] [] [0, 1] [] 2 ![1, 1]) :
    GatherDims ⟨2, ![2, N]⟩ ⟨3, ![2, K, 2]⟩ ⟨2, ![2, K]⟩ where
  offsetDims := []
  collapsedSliceDims := [0, 1]
  operandBatchingDims := []
  startIndicesBatchingDims := []
  startIndexMap := [0, 1]
  indexVectorDim := 2
  sliceSizes := ![1, 1]
  wf := wf

/-- Gathering rows of four by pairs (batch element, position): the row at that position, if the pair is in bounds. -/
theorem gather_rows (wf) (x : (⟨3, ![2, N, 4]⟩ : Shape).Idx → α) (idx : IVec ⟨3, ![2, K, 2]⟩ 32) (b : Fin 2) (k : Fin K) (j : Fin 4) (n : Fin N)
    (h0 : (idx (ix3 b k 0)).toInt = (b.val : Int)) (h1 : (idx (ix3 b k 1)).toInt = (n.val : Int)) :
    Host.gather (rowsDims N K wf) x idx (ix3 b k j) = x (ix3 b n j) := by
  unfold Host.gather
  congr 1
  funext a
  refine Fin.ext ?_
  show (rowsDims N K wf).start (ix3 b k j) idx a + (rowsDims N K wf).batchCoord (ix3 b k j) a + (rowsDims N K wf).offCoord (ix3 b k j) a = _
  rw [GatherDims.batchCoord_eq_zero _ _ _ (List.not_mem_nil)]
  match a with
  | ⟨0, _⟩ =>
    rw [GatherDims.offCoord_eq_zero _ _ _ (fun h => ((GatherDims.mem_sKept _ _).mp h).1 (by simp))]
    simp only [Nat.add_zero]
    unfold GatherDims.start
    rw [dif_pos (by simp)]
    have hsi : (rowsDims N K wf).siIdx (ix3 b k j) ⟨List.idxOf (⟨0, by simp⟩ : Fin _) (rowsDims N K wf).startIndexMap, List.idxOf_lt_length_iff.2 (by simp)⟩ = ix3 b k 0 := by
      funext a
      match a with
      | ⟨0, _⟩ => rfl
      | ⟨1, _⟩ => rfl
      | ⟨2, _⟩ => rfl
    rw [hsi]
    refine Eq.trans (b := min (idx (ix3 b k 0)).toInt.toNat (2 - 1)) rfl (by rw [h0]; show min (b.val : Int).toNat 1 = b.val; omega)
  | ⟨1, _⟩ =>
    rw [GatherDims.offCoord_eq_zero _ _ _ (fun h => ((GatherDims.mem_sKept _ _).mp h).1 (by simp))]
    simp only [Nat.add_zero]
    unfold GatherDims.start
    rw [dif_pos (by simp)]
    have hsi : (rowsDims N K wf).siIdx (ix3 b k j) ⟨List.idxOf (⟨1, by simp⟩ : Fin _) (rowsDims N K wf).startIndexMap, List.idxOf_lt_length_iff.2 (by simp)⟩ = ix3 b k 1 := by
      funext a
      match a with
      | ⟨0, _⟩ => rfl
      | ⟨1, _⟩ => rfl
      | ⟨2, _⟩ => rfl
    rw [hsi]
    refine Eq.trans (b := min (idx (ix3 b k 1)).toInt.toNat (N - 1)) rfl (by rw [h1]; show min (n.val : Int).toNat (N - 1) = n.val; omega)
  | ⟨2, _⟩ =>
    unfold GatherDims.start
    rw [dif_neg (by simp)]
    simp only [Nat.zero_add]
    unfold GatherDims.offCoord
    rw [dif_pos ((GatherDims.mem_sKept _ _).mpr ⟨by simp, by simp⟩)]
    rfl

/-- Gathering words by pairs (batch element, position): the word at that position, if the pair is in bounds. -/
theorem gather_words (wf) (x : (⟨2, ![2, N]⟩ : Shape).Idx → α) (idx : IVec ⟨3, ![2, K, 2]⟩ 32) (b : Fin 2) (k : Fin K) (n : Fin N)
    (h0 : (idx (ix3 b k 0)).toInt = (b.val : Int)) (h1 : (idx (ix3 b k 1)).toInt = (n.val : Int)) :
    Host.gather (wordsDims N K wf) x idx (ix2 b k) = x (ix2 b n) := by
  unfold Host.gather
  congr 1
  funext a
  refine Fin.ext ?_
  show (wordsDims N K wf).start (ix2 b k) idx a + (wordsDims N K wf).batchCoord (ix2 b k) a + (wordsDims N K wf).offCoord (ix2 b k) a = _
  rw [GatherDims.batchCoord_eq_zero _ _ _ (List.not_mem_nil)]
  match a with
  | ⟨0, _⟩ =>
    rw [GatherDims.offCoord_eq_zero _ _ _ (fun h => ((GatherDims.mem_sKept _ _).mp h).1 (by simp))]
    simp only [Nat.add_zero]
    unfold GatherDims.start
    rw [dif_pos (by simp)]
    have hsi : (wordsDims N K wf).siIdx (ix2 b k) ⟨List.idxOf (⟨0, by simp⟩ : Fin _) (wordsDims N K wf).startIndexMap, List.idxOf_lt_length_iff.2 (by simp)⟩ = ix3 b k 0 := by
      funext a
      match a with
      | ⟨0, _⟩ => rfl
      | ⟨1, _⟩ => rfl
      | ⟨2, _⟩ => rfl
    rw [hsi]
    refine Eq.trans (b := min (idx (ix3 b k 0)).toInt.toNat (2 - 1)) rfl (by rw [h0]; show min (b.val : Int).toNat 1 = b.val; omega)
  | ⟨1, _⟩ =>
    rw [GatherDims.offCoord_eq_zero _ _ _ (fun h => ((GatherDims.mem_sKept _ _).mp h).1 (by simp))]
    simp only [Nat.add_zero]
    unfold GatherDims.start
    rw [dif_pos (by simp)]
    have hsi : (wordsDims N K wf).siIdx (ix2 b k) ⟨List.idxOf (⟨1, by simp⟩ : Fin _) (wordsDims N K wf).startIndexMap, List.idxOf_lt_length_iff.2 (by simp)⟩ = ix3 b k 1 := by
      funext a
      match a with
      | ⟨0, _⟩ => rfl
      | ⟨1, _⟩ => rfl
      | ⟨2, _⟩ => rfl
    rw [hsi]
    refine Eq.trans (b := min (idx (ix3 b k 1)).toInt.toNat (N - 1)) rfl (by rw [h1]; show min (n.val : Int).toNat (N - 1) = n.val; omega)

/-- The write of one row of a table at a counter. -/
theorem put_row {T A C : Nat} (x : (⟨3, ![T, A, C]⟩ : Shape).Idx → α) (u : (⟨3, ![1, A, C]⟩ : Shape).Idx → α) (start : Fin 3 → Int) (h)
    (k : Fin T) (h0 : start 0 = (k.val : Int)) (h1 : start 1 = 0) (h2 : start 2 = 0) (i : Fin T) (b : Fin A) (c : Fin C) :
    Host.dynamicUpdateSlice (s := ⟨3, ![T, A, C]⟩) x u start h (ix3 i b c) = if i = k then u (ix3 0 b c) else x (ix3 i b c) := by
  have e : ∀ a : Fin 3, (min (max (start a) 0) (((⟨3, ![T, A, C]⟩ : Shape).size a - (⟨3, ![1, A, C]⟩ : Shape).size a : Nat) : Int)).toNat = (![k.val, 0, 0] : Fin 3 → Nat) a := by
    intro a
    match a with
    | ⟨0, _⟩ =>
      show (min (max (start 0) 0) ((T - 1 : Nat) : Int)).toNat = k.val
      rw [h0]; omega
    | ⟨1, _⟩ =>
      show (min (max (start 1) 0) ((A - A : Nat) : Int)).toNat = 0
      rw [h1]; omega
    | ⟨2, _⟩ =>
      show (min (max (start 2) 0) ((C - C : Nat) : Int)).toNat = 0
      rw [h2]; omega
  have h' : (⟨3, ![T, A, C]⟩ : Shape).Slices ![k.val, 0, 0] ⟨3, ![1, A, C]⟩ := by
    refine ⟨rfl, fun a => ?_⟩
    match a with
    | ⟨0, _⟩ => exact Nat.succ_le_of_lt k.isLt
    | ⟨1, _⟩ => exact (Nat.zero_add A).le
    | ⟨2, _⟩ => exact (Nat.zero_add C).le
  rw [Host.dynamicUpdateSlice_eq_updateSlice x u start h _ e h']
  unfold updateSlice
  by_cases hik : i = k
  · subst hik
    rw [if_pos rfl, dif_pos]
    · refine congrArg u (funext fun a => ?_)
      match a with
      | ⟨0, _⟩ => exact Fin.ext (Nat.sub_self i.val)
      | ⟨1, _⟩ => exact Fin.ext (Nat.sub_zero b.val)
      | ⟨2, _⟩ => exact Fin.ext (Nat.sub_zero c.val)
    · intro a
      match a with
      | ⟨0, _⟩ => exact ⟨Nat.le_refl _, Nat.lt_succ_self _⟩
      | ⟨1, _⟩ => exact ⟨Nat.zero_le _, by show b.val < 0 + A; have := b.isLt; omega⟩
      | ⟨2, _⟩ => exact ⟨Nat.zero_le _, by show c.val < 0 + C; have := c.isLt; omega⟩
  · rw [if_neg hik, dif_neg]
    intro hall
    have h3 : k.val ≤ i.val ∧ i.val < k.val + 1 := hall 0
    exact hik (Fin.ext (by omega))

end

end Cert.Nms
-- ==== Proof.RefStep.lean ====
module

public import proofs.«01_k».proof.Proof.Gen.ReferenceIdeal.Run
public import proofs.«01_k».proof.Proof.RefOps
public import Idealize.ShloMosaic.Lib.Pointwise

@[expose] public section

/-!
# One turn of the reference's loop, entry by entry

The score picked, the place picked, the overlap of the box picked with every box, and what the turn leaves, as the functions
of `NmsSpec`.
-/

set_option maxRecDepth 32768

namespace Cert.ReferenceIdeal.Hand

open Cert.ReferenceIdeal Cert.ReferenceIdeal.Gen Cert.ReferenceIdeal.Value
open Idealize.ShloMosaic Idealize.ShloMosaic.TcCoe Idealize.ShloMosaic.Tactic
open Idealize.ShloMosaic.StableHlo
open Cert.Nms

/-- The pairs (batch element, place) for one place per batch element and class. -/
noncomputable def pairs80 (w : Vec Ideal S2x80 .i32) : Vec Ideal S2x80x2 .i32 :=
  concatenate S2x80x2 2 [⟨S2x80x1, (broadcastInDim S2x80x1 ![0, 1] bcast_S2x80_S2x80x1_0_1 (broadcastInDim S2x80 ![0, 1] bcast_S2x1_S2x80_0_1 (broadcastInDim S2x1 ![0] bcast_S2_S2x1_0 (iotaInDim S2 32 0))))⟩, ⟨S2x80x1, (broadcastInDim S2x80x1 ![0, 1] bcast_S2x80_S2x80x1_0_1 w)⟩] concatenates_S2x80x1_S2x80x1_S2x80x2_d2

/-- The first entry of an index pair is the batch element. -/
theorem pairs80_zero (w : Vec Ideal S2x80 .i32) (b : Fin 2) (k : Fin 80) : pairs80 w (ix3 b k 0) = BitVec.ofNat 32 b.val := by
  pointwise [pairs80]

/-- The second entry of an index pair is the given word. -/
theorem pairs80_one (w : Vec Ideal S2x80 .i32) (b : Fin 2) (k : Fin 80) : pairs80 w (ix3 b k 1) = w (ix2 b k) := by
  pointwise [pairs80]

/-- Dropping a last axis of length one, for values. -/
theorem rd_cast (w : Vec Ideal S2x80x1 .f32) (b : Fin 2) (k : Fin 80) : (shapeCast S2x80 w shapeCasts_S2x80x1_S2x80 : Vec Ideal S2x80 .f32) (ix2 b k) = w (ix3 b k 0) := by
  pointwise

/-- Dropping a last axis of length one, for words. -/
theorem rd_castI (w : Vec Ideal S2x80x1 .i32) (b : Fin 2) (k : Fin 80) : (shapeCast S2x80 w shapeCasts_S2x80x1_S2x80 : Vec Ideal S2x80 .i32) (ix2 b k) = w (ix3 b k 0) := by
  pointwise

/-- The picked boxes' first coordinate, laid out for the comparison with all boxes. -/
theorem rd_pick0 (w : Vec Ideal S2x80x4 .f32) (b : Fin 2) (k : Fin 80) :
    (broadcastInDim S2x80x1 ![0, 1] bcast_S2x80_S2x80x1_0_1 (shapeCast S2x80 (extractStridedSlice S2x80x1 ![0, 0, 0] w slices_S2x80x4_S2x80x1_0_0_0) shapeCasts_S2x80x1_S2x80) : Vec Ideal S2x80x1 .f32) (ix3 b k 0) = w (ix3 b k 0) := by
  pointwise
/-- The picked boxes' second coordinate, laid out likewise. -/
theorem rd_pick1 (w : Vec Ideal S2x80x4 .f32) (b : Fin 2) (k : Fin 80) :
    (broadcastInDim S2x80x1 ![0, 1] bcast_S2x80_S2x80x1_0_1 (shapeCast S2x80 (extractStridedSlice S2x80x1 ![0, 0, 1] w slices_S2x80x4_S2x80x1_0_0_1) shapeCasts_S2x80x1_S2x80) : Vec Ideal S2x80x1 .f32) (ix3 b k 0) = w (ix3 b k 1) := by
  pointwise
/-- The picked boxes' third coordinate, laid out likewise. -/
theorem rd_pick2 (w : Vec Ideal S2x80x4 .f32) (b : Fin 2) (k : Fin 80) :
    (broadcastInDim S2x80x1 ![0, 1] bcast_S2x80_S2x80x1_0_1 (shapeCast S2x80 (extractStridedSlice S2x80x1 ![0, 0, 2] w slices_S2x80x4_S2x80x1_0_0_2) shapeCasts_S2x80x1_S2x80) : Vec Ideal S2x80x1 .f32) (ix3 b k 0) = w (ix3 b k 2) := by
  pointwise
/-- The picked boxes' fourth coordinate, laid out likewise. -/
theorem rd_pick3 (w : Vec Ideal S2x80x4 .f32) (b : Fin 2) (k : Fin 80) :
    (broadcastInDim S2x80x1 ![0, 1] bcast_S2x80_S2x80x1_0_1 (shapeCast S2x80 (extractStridedSlice S2x80x1 ![0, 0, 3] w slices_S2x80x4_S2x80x1_0_0_3) shapeCasts_S2x80x1_S2x80) : Vec Ideal S2x80x1 .f32) (ix3 b k 0) = w (ix3 b k 3) := by
  pointwise

/-- All boxes' first coordinate, laid out for the comparison with the picked ones. -/
theorem rd_box0 (w : Vec Ideal S2x5000x4 .f32) (b : Fin 2) (n : Fin 5000) :
    (broadcastInDim S2x1x5000 ![0, 2] bcast_S2x5000_S2x1x5000_0_2 (shapeCast S2x5000 (extractStridedSlice S2x5000x1 ![0, 0, 0] w slices_S2x5000x4_S2x5000x1_0_0_0) shapeCasts_S2x5000x1_S2x5000) : Vec Ideal S2x1x5000 .f32) (ix3 b 0 n) = w (ix3 b n 0) := by
  pointwise
/-- All boxes' second coordinate, laid out likewise. -/
theorem rd_box1 (w : Vec Ideal S2x5000x4 .f32) (b : Fin 2) (n : Fin 5000) :
    (broadcastInDim S2x1x5000 ![0, 2] bcast_S2x5000_S2x1x5000_0_2 (shapeCast S2x5000 (extractStridedSlice S2x5000x1 ![0, 0, 1] w slices_S2x5000x4_S2x5000x1_0_0_1) shapeCasts_S2x5000x1_S2x5000) : Vec Ideal S2x1x5000 .f32) (ix3 b 0 n) = w (ix3 b n 1) := by
  pointwise
/-- All boxes' third coordinate, laid out likewise. -/
theorem rd_box2 (w : Vec Ideal S2x5000x4 .f32) (b : Fin 2) (n : Fin 5000) :
    (broadcastInDim S2x1x5000 ![0, 2] bcast_S2x5000_S2x1x5000_0_2 (shapeCast S2x5000 (extractStridedSlice S2x5000x1 ![0, 0, 2] w slices_S2x5000x4_S2x5000x1_0_0_2) shapeCasts_S2x5000x1_S2x5000) : Vec Ideal S2x1x5000 .f32) (ix3 b 0 n) = w (ix3 b n 2) := by
  pointwise
/-- All boxes' fourth coordinate, laid out likewise. -/
theorem rd_box3 (w : Vec Ideal S2x5000x4 .f32) (b : Fin 2) (n : Fin 5000) :
    (broadcastInDim S2x1x5000 ![0, 2] bcast_S2x5000_S2x1x5000_0_2 (shapeCast S2x5000 (extractStridedSlice S2x5000x1 ![0, 0, 3] w slices_S2x5000x4_S2x5000x1_0_0_3) shapeCasts_S2x5000x1_S2x5000) : Vec Ideal S2x1x5000 .f32) (ix3 b 0 n) = w (ix3 b n 3) := by
  pointwise

/-- The overlap term, of the picked coordinates and the boxes' coordinates. -/
noncomputable def interV (p0 p1 p2 p3 : Vec Ideal S2x80x1 .f32) (q0 q1 q2 q3 : Vec Ideal S2x1x5000 .f32) : Vec Ideal S2x80x5000 .f32 :=
  mulf (F := Ideal) (φ := .f32) (maximumf (F := Ideal) (φ := .f32) (subf (F := Ideal) (φ := .f32) (minimumf (F := Ideal) (φ := .f32) (broadcastInDim S2x80x5000 ![0, 1, 2] bcast_S2x80x1_S2x80x5000_0_1_2 p2) (broadcastInDim S2x80x5000 ![0, 1, 2] bcast_S2x1x5000_S2x80x5000_0_1_2 q2)) (maximumf (F := Ideal) (φ := .f32) (broadcastInDim S2x80x5000 ![0, 1, 2] bcast_S2x80x1_S2x80x5000_0_1_2 p0) (broadcastInDim S2x80x5000 ![0, 1, 2] bcast_S2x1x5000_S2x80x5000_0_1_2 q0))) (broadcastInDim S2x80x5000 ![] bcast_S_S2x80x5000 (constant (F := Ideal) S_ .f32 0x00000000#32))) (maximumf (F := Ideal) (φ := .f32) (subf (F := Ideal) (φ := .f32) (minimumf (F := Ideal) (φ := .f32) (broadcastInDim S2x80x5000 ![0, 1, 2] bcast_S2x80x1_S2x80x5000_0_1_2 p3) (broadcastInDim S2x80x5000 ![0, 1, 2] bcast_S2x1x5000_S2x80x5000_0_1_2 q3)) (maximumf (F := Ideal) (φ := .f32) (broadcastInDim S2x80x5000 ![0, 1, 2] bcast_S2x80x1_S2x80x5000_0_1_2 p1) (broadcastInDim S2x80x5000 ![0, 1, 2] bcast_S2x1x5000_S2x80x5000_0_1_2 q1))) (broadcastInDim S2x80x5000 ![] bcast_S_S2x80x5000 (constant (F := Ideal) S_ .f32 0x00000000#32)))

/-- The literal zero is zero. -/
theorem zero_lit : Ideal.ofBits .f32 0x00000000#32 = 0 := by simp [Ideal.ofBits, Ideal.ieee]

/-- The intersection's area of a picked box and another box, from their coordinates. -/
theorem interV_at (p0 p1 p2 p3 : Vec Ideal S2x80x1 .f32) (q0 q1 q2 q3 : Vec Ideal S2x1x5000 .f32) (b : Fin 2) (k : Fin 80) (n : Fin 5000) :
    interV p0 p1 p2 p3 q0 q1 q2 q3 (ix3 b k n) =
      max (min (p2 (ix3 b k 0)) (q2 (ix3 b 0 n)) - max (p0 (ix3 b k 0)) (q0 (ix3 b 0 n)) : EReal) 0
        * max (min (p3 (ix3 b k 0)) (q3 (ix3 b 0 n)) - max (p1 (ix3 b k 0)) (q1 (ix3 b 0 n)) : EReal) 0 := by
  pointwise [interV]

/-- The union term. -/
noncomputable def unionV (p0 p1 p2 p3 : Vec Ideal S2x80x1 .f32) (q0 q1 q2 q3 : Vec Ideal S2x1x5000 .f32) (i : Vec Ideal S2x80x5000 .f32) : Vec Ideal S2x80x5000 .f32 :=
  subf (F := Ideal) (φ := .f32) (addf (F := Ideal) (φ := .f32) (broadcastInDim S2x80x5000 ![0, 1, 2] bcast_S2x80x1_S2x80x5000_0_1_2 (mulf (F := Ideal) (φ := .f32) (maximumf (F := Ideal) (φ := .f32) (subf (F := Ideal) (φ := .f32) p2 p0) (broadcastInDim S2x80x1 ![] bcast_S_S2x80x1 (constant (F := Ideal) S_ .f32 0x00000000#32))) (maximumf (F := Ideal) (φ := .f32) (subf (F := Ideal) (φ := .f32) p3 p1) (broadcastInDim S2x80x1 ![] bcast_S_S2x80x1 (constant (F := Ideal) S_ .f32 0x00000000#32))))) (broadcastInDim S2x80x5000 ![0, 1, 2] bcast_S2x1x5000_S2x80x5000_0_1_2 (mulf (F := Ideal) (φ := .f32) (maximumf (F := Ideal) (φ := .f32) (subf (F := Ideal) (φ := .f32) q2 q0) (broadcastInDim S2x1x5000 ![] bcast_S_S2x1x5000 (constant (F := Ideal) S_ .f32 0x00000000#32))) (maximumf (F := Ideal) (φ := .f32) (subf (F := Ideal) (φ := .f32) q3 q1) (broadcastInDim S2x1x5000 ![] bcast_S_S2x1x5000 (constant (F := Ideal) S_ .f32 0x00000000#32)))))) i

/-- The union's area of a picked box and another box, from their coordinates and the intersection. -/
theorem unionV_at (p0 p1 p2 p3 : Vec Ideal S2x80x1 .f32) (q0 q1 q2 q3 : Vec Ideal S2x1x5000 .f32) (i : Vec Ideal S2x80x5000 .f32) (b : Fin 2) (k : Fin 80) (n : Fin 5000) :
    unionV p0 p1 p2 p3 q0 q1 q2 q3 i (ix3 b k n) =
      max (p2 (ix3 b k 0) - p0 (ix3 b k 0) : EReal) 0 * max (p3 (ix3 b k 0) - p1 (ix3 b k 0) : EReal) 0
        + max (q2 (ix3 b 0 n) - q0 (ix3 b 0 n) : EReal) 0 * max (q3 (ix3 b 0 n) - q1 (ix3 b 0 n) : EReal) 0 - i (ix3 b k n) := by
  pointwise [unionV]

/-- The scores masked by a table of bits. -/
theorem mask_at (a : Vec Ideal S2x80x5000 .i1) (z : Vec Ideal S2x80x5000 .f32) (i : S2x80x5000.Idx) :
    (select a z (broadcastInDim S2x80x5000 ![] bcast_S_S2x80x5000 (id (constant (F := Ideal) S_ .f32 0xFF800000#32))) : Vec Ideal S2x80x5000 .f32) i
      = if a i = 1#1 then z i else (⊥ : EReal) := by
  rw [← ofBits_neg_inf]
  rfl

/-! ## From the loop's buffers -/

/-- The boxes the loop carries. -/
noncomputable def vB (V : Valuation τ sig (Elt Ideal)) (b : Fin 2) (n : Fin 5000) (j : Fin 4) : EReal :=
  (V (Proc.devRef .tc main_v5_1) : Vec Ideal S2x5000x4 .f32) (ix3 b n j)
/-- The scores in play. -/
noncomputable def vC (V : Valuation τ sig (Elt Ideal)) (b : Fin 2) (c : Fin 80) (n : Fin 5000) : EReal :=
  if (V (Proc.devRef .tc main_v5_3) : Vec Ideal S2x80x5000 .i1) (ix3 b c n) = 1#1
  then (V (Proc.devRef .tc main_v5_0) : Vec Ideal S2x80x5000 .f32) (ix3 b c n) else ⊥

section
variable (V : Valuation τ sig (Elt Ideal)) (b : Fin 2) (c : Fin 80) (n : Fin 5000)

/-- The masked scores of a turn: the score of a box still alive, minus infinity otherwise. -/
theorem v43_at : (res_main_while0b_v43 V : Vec Ideal S2x80x5000 .f32) (ix3 b c n) = vC V b c n := by
  unfold res_main_while0b_v43
  exact mask_at _ _ _

/-- The first position of the order by larger value is the best one. -/
theorem sorted_first (v : Fin 5000 → EReal) (h) : sortedFrom (gtB v) ⟨0, h⟩ = best v :=
  (firstMax_sortedFrom (n := 4999) v).unique (best_spec v)

/-- The turn's picked score is the greatest of the masked scores. -/
theorem v44_at : (res_main_while0b_v44 V : Vec Ideal S2x80 .f32) (ix2 b c) = top (vC V b c) := by
  unfold res_main_while0b_v44
  refine (rd_cast _ b c).trans ?_
  refine (topK3 (M := 1) (res_main_while0b_v43 V : Vec Ideal S2x80x5000 .f32) sliceFits_S2x80x5000_S2x80x1 b c 0 (by decide)).1.trans ?_
  have e : (fun n => (res_main_while0b_v43 V : Vec Ideal S2x80x5000 .f32) (ix3 b c n)) = vC V b c := funext (v43_at V b c)
  rw [e, v43_at]
  exact congrArg (vC V b c) (sorted_first _ _)

/-- The turn's picked box is the best position of the masked scores. -/
theorem v45_at : (res_main_while0b_v45 V : Vec Ideal S2x80 .i32) (ix2 b c) = BitVec.ofNat 32 (best (vC V b c)).val := by
  unfold res_main_while0b_v45
  refine (rd_castI _ b c).trans ?_
  refine (topK3 (M := 1) (res_main_while0b_v43 V : Vec Ideal S2x80x5000 .f32) sliceFits_S2x80x5000_S2x80x1 b c 0 (by decide)).2.trans ?_
  have e : (fun n => (res_main_while0b_v43 V : Vec Ideal S2x80x5000 .f32) (ix3 b c n)) = vC V b c := funext (v43_at V b c)
  rw [e]
  exact congrArg (fun k : Fin 5000 => BitVec.ofNat 32 k.val) (sorted_first _ _)

open Classical in
/-- The turn's validity bit says whether the picked score is above minus infinity. -/
theorem v47_at : (res_main_while0b_v47 V : Vec Ideal S2x80 .i1) (ix2 b c) = BitVec.ofBool (decide (⊥ < top (vC V b c))) := by
  unfold res_main_while0b_v47
  rw [← v44_at, ← ofBits_neg_inf]
  show BitVec.ofBool (decide _) = BitVec.ofBool (decide _)
  congr

/-- A small number's word, read as a signed integer, is the number. -/
theorem toInt_small (k : Nat) (h : k < 5000) : (BitVec.ofNat 32 k).toInt = (k : Int) := WordCmp.toInt_ofNat_of_lt (by omega)

/-- The turn's picked coordinates are those of the best box. -/
theorem v54_at (j : Fin 4) : (res_main_while0b_v54 V : Vec Ideal S2x80x4 .f32) (ix3 b c j) = vB V b (best (vC V b c)) j := by
  unfold res_main_while0b_v54
  refine gather_rows (N := 5000) (K := 80) _ _ (pairs80 (res_main_while0b_v45 V)) b c j (best (vC V b c)) ?_ ?_
  · rw [pairs80_zero]; exact toInt_small _ (by omega)
  · rw [pairs80_one, v45_at]; exact toInt_small _ (best (vC V b c)).isLt

/-- The turn's intersections are those of the best box with every box. -/
theorem v97_at : (res_main_while0b_v97 V : Vec Ideal S2x80x5000 .f32) (ix3 b c n) = inter (vB V b (best (vC V b c))) (vB V b n) := by
  refine (interV_at (res_main_while0b_v57 V) (res_main_while0b_v60 V) (res_main_while0b_v63 V) (res_main_while0b_v66 V)
    (res_main_while0b_v69 V) (res_main_while0b_v72 V) (res_main_while0b_v75 V) (res_main_while0b_v78 V) b c n).trans ?_
  unfold res_main_while0b_v57 res_main_while0b_v60 res_main_while0b_v63 res_main_while0b_v66
  rw [rd_pick0, rd_pick1, rd_pick2, rd_pick3, v54_at, v54_at, v54_at, v54_at]
  unfold res_main_while0b_v69 res_main_while0b_v72 res_main_while0b_v75 res_main_while0b_v78
  rw [rd_box0, rd_box1, rd_box2, rd_box3]
  rfl

/-- The turn's unions are those of the best box with every box. -/
theorem v115_at : (res_main_while0b_v115 V : Vec Ideal S2x80x5000 .f32) (ix3 b c n) = union (vB V b (best (vC V b c))) (vB V b n) := by
  refine (unionV_at (res_main_while0b_v57 V) (res_main_while0b_v60 V) (res_main_while0b_v63 V) (res_main_while0b_v66 V)
    (res_main_while0b_v69 V) (res_main_while0b_v72 V) (res_main_while0b_v75 V) (res_main_while0b_v78 V) (res_main_while0b_v97 V) b c n).trans ?_
  rw [v97_at]
  unfold res_main_while0b_v57 res_main_while0b_v60 res_main_while0b_v63 res_main_while0b_v66
  rw [rd_pick0, rd_pick1, rd_pick2, rd_pick3, v54_at, v54_at, v54_at, v54_at]
  unfold res_main_while0b_v69 res_main_while0b_v72 res_main_while0b_v75 res_main_while0b_v78
  rw [rd_box0, rd_box1, rd_box2, rd_box3]
  rfl

end

/-- The bits that say which scores stay in play. -/
noncomputable def keepV (ok : Vec Ideal S2x80 .i1) (a : Vec Ideal S2x80x5000 .i1) (i u : Vec Ideal S2x80x5000 .f32) : Vec Ideal S2x80x5000 .i1 :=
  id (select (broadcastInDim S2x80x5000 ![0, 1, 2] bcast_S2x80x1_S2x80x5000_0_1_2 (broadcastInDim S2x80x1 ![0, 1] bcast_S2x80_S2x80x1_0_1 ok)) (andi a (cmpf (F := Ideal) (φ := .f32) .ole (select (cmpf (F := Ideal) (φ := .f32) .ogt u (broadcastInDim S2x80x5000 ![] bcast_S_S2x80x5000 (constant (F := Ideal) S_ .f32 0x00000000#32))) (Host.divf (F := Ideal) (φ := .f32) i u) (broadcastInDim S2x80x5000 ![] bcast_S_S2x80x5000 (id (constant (F := Ideal) S_ .f32 0x00000000#32)))) (broadcastInDim S2x80x5000 ![] bcast_S_S2x80x5000 (constant (F := Ideal) S_ .f32 0x3F000000#32)))) a)

/-- The bit kept by a turn is 1 exactly when it was 1 and, if the turn is valid, the box is kept. -/
theorem keep_bits (x y : BitVec 1) (P : Prop) [Decidable P] :
    Scalar.select y (IntOp.andi x (BitVec.ofBool (decide P))) x = 1#1 ↔ x = 1#1 ∧ (y = 1#1 → P) := by
  unfold Scalar.select IntOp.andi
  rcases BitVec.eq_zero_or_eq_one x with rfl | rfl <;> rcases BitVec.eq_zero_or_eq_one y with rfl | rfl <;> by_cases hP : P <;> simp [hP]

/-- The mask left by a turn, entry by entry: alive before, and, if the turn is valid, the guarded quotient is at most one half. -/
theorem keepV_at (ok : Vec Ideal S2x80 .i1) (a : Vec Ideal S2x80x5000 .i1) (i u : Vec Ideal S2x80x5000 .f32) (b : Fin 2) (c : Fin 80) (n : Fin 5000) :
    keepV ok a i u (ix3 b c n) = 1#1 ↔ a (ix3 b c n) = 1#1 ∧ (ok (ix2 b c) = 1#1 →
      (if (0 : EReal) < u (ix3 b c n) then Ideal.div (i (ix3 b c n)) (u (ix3 b c n)) else 0) ≤ half) := by
  unfold keepV
  simp only [id_eq]
  pointwise
  exact keep_bits _ _ _

/-- The row written at the counter. -/
theorem putI_at (ok : Vec Ideal S2x80 .i1) (w : Vec Ideal S2x80 .i32) (b : Fin 2) (c : Fin 80) :
    (broadcastInDim S1x2x80 ![1, 2] bcast_S2x80_S1x2x80_1_2 (select ok w (broadcastInDim S2x80 ![] bcast_S_S2x80 (id (constantI S_ 32 4294967295#32)))) : Vec Ideal S1x2x80 .i32) (ix3 0 b c)
      = if ok (ix2 b c) = 1#1 then w (ix2 b c) else 4294967295#32 := by
  pointwise
  rfl

/-- The score row recorded by a turn: the picked score where valid, minus infinity elsewhere. -/
theorem putF_at (ok : Vec Ideal S2x80 .i1) (w : Vec Ideal S2x80 .f32) (b : Fin 2) (c : Fin 80) :
    (broadcastInDim S1x2x80 ![1, 2] bcast_S2x80_S1x2x80_1_2 (select ok w (broadcastInDim S2x80 ![] bcast_S_S2x80 (id (constant (F := Ideal) S_ .f32 0xFF800000#32)))) : Vec Ideal S1x2x80 .f32) (ix3 0 b c)
      = if ok (ix2 b c) = 1#1 then w (ix2 b c) else (⊥ : EReal) := by
  rw [← ofBits_neg_inf]
  pointwise
  rfl

/-! ## One turn -/

section
variable (V : Valuation τ sig (Elt Ideal)) (b : Fin 2) (c : Fin 80)

/-- A turn leaves the boxes alone. -/
theorem vB_STEP : vB (STEP V) = vB V := by
  funext b n j
  unfold vB
  rw [STEP_main_v5_1]

/-- A decided proposition's bit is 1 exactly when it holds. -/
theorem decide_bit (P : Prop) [Decidable P] : BitVec.ofBool (decide P) = 1#1 ↔ P := by by_cases h : P <;> simp [h]

/-- A turn turns the scores in play into the next ones. -/
theorem vC_STEP (fin : ∀ b n j, ∃ r : ℝ, vB V b n j = r) : vC (STEP V) b c = next (vB V b) (vC V b c) := by
  classical
  funext n
  unfold next
  have hk := keepV_at (res_main_while0b_v47 V) (V (Proc.devRef .tc main_v5_3)) (res_main_while0b_v97 V) (res_main_while0b_v115 V) b c n
  rw [v47_at, v97_at, v115_at, keep_iff _ _ (fin b _) (fin b _), decide_bit] at hk
  have e3 : (STEP V (Proc.devRef .tc main_v5_3) : Vec Ideal S2x80x5000 .i1) (ix3 b c n) = 1#1 ↔
      (V (Proc.devRef .tc main_v5_3) : Vec Ideal S2x80x5000 .i1) (ix3 b c n) = 1#1 ∧
        (⊥ < top (vC V b c) → ¬ Sup (vB V b (best (vC V b c))) (vB V b n)) := by
    rw [STEP_main_v5_3]
    exact hk
  have hv : vC (STEP V) b c n = if ((V (Proc.devRef .tc main_v5_3) : Vec Ideal S2x80x5000 .i1) (ix3 b c n) = 1#1 ∧
        (⊥ < top (vC V b c) → ¬ Sup (vB V b (best (vC V b c))) (vB V b n))) then (V (Proc.devRef .tc main_v5_0) : Vec Ideal S2x80x5000 .f32) (ix3 b c n) else (⊥ : EReal) := by
    unfold vC
    rw [STEP_main_v5_0]
    exact if_congr e3 rfl rfl
  rw [hv]
  by_cases h : ⊥ < top (vC V b c) ∧ Sup (vB V b (best (vC V b c))) (vB V b n)
  · rw [if_pos h, if_neg]
    rintro ⟨_, h2⟩
    exact h2 h.1 h.2
  · rw [if_neg h]
    unfold vC
    refine if_congr (and_iff_left ?_) rfl rfl
    intro h1 h2
    exact h ⟨h1, h2⟩

/-- Writing one row of a recorded table: the new row at the turn, the old rows elsewhere. -/
theorem row_at {α : Type} (x : S300x2x80.Idx → α) (u : S1x2x80.Idx → α) (w : Vec Ideal S_ .i32) (k i : Fin 300) (hw : w = fun _ => BitVec.ofNat 32 k.val) :
    Host.dynamicUpdateSlice x u (fun k => (((![w, constantI S_ 32 0#32, constantI S_ 32 0#32] : Fin 3 → (⟨S_, .i32⟩ : BufTy).Contents (Elt Ideal))) k (Shape.Idx.first h_S_)).toInt) updateFits_S300x2x80_S1x2x80 (ix3 i b c)
      = if i = k then u (ix3 0 b c) else x (ix3 i b c) := by
  refine put_row x u _ updateFits_S300x2x80_S1x2x80 k ?_ rfl rfl i b c
  subst hw
  exact toInt_small _ (by omega)

open Classical in
/-- A turn writes the place picked in its row. -/
theorem v4_STEP (k i : Fin 300) (hw : V (Proc.devRef .tc main_v5_2) = fun _ => BitVec.ofNat 32 k.val) :
    (STEP V (Proc.devRef .tc main_v5_4) : Vec Ideal S300x2x80 .i32) (ix3 i b c) =
      if i = k then (if ⊥ < top (vC V b c) then BitVec.ofNat 32 (best (vC V b c)).val else 4294967295#32)
      else (V (Proc.devRef .tc main_v5_4) : Vec Ideal S300x2x80 .i32) (ix3 i b c) := by
  rw [STEP_main_v5_4]
  refine (row_at b c (V (Proc.devRef .tc main_v5_4) : Vec Ideal S300x2x80 .i32) _ (V (Proc.devRef .tc main_v5_2)) k i hw).trans ?_
  refine if_congr Iff.rfl ?_ rfl
  refine (putI_at (res_main_while0b_v47 V) (res_main_while0b_v45 V) b c).trans ?_
  rw [v47_at, v45_at]
  exact if_congr (decide_bit _) rfl rfl

/-- A turn writes the score picked in its row. -/
theorem v5_STEP (k i : Fin 300) (hw : V (Proc.devRef .tc main_v5_2) = fun _ => BitVec.ofNat 32 k.val) :
    (STEP V (Proc.devRef .tc main_v5_5) : Vec Ideal S300x2x80 .f32) (ix3 i b c) =
      if i = k then top (vC V b c) else (V (Proc.devRef .tc main_v5_5) : Vec Ideal S300x2x80 .f32) (ix3 i b c) := by
  classical
  rw [STEP_main_v5_5]
  refine (row_at b c (V (Proc.devRef .tc main_v5_5) : Vec Ideal S300x2x80 .f32) _ (V (Proc.devRef .tc main_v5_2)) k i hw).trans ?_
  refine if_congr Iff.rfl ?_ rfl
  refine (putF_at (res_main_while0b_v47 V) (res_main_while0b_v44 V) b c).trans ?_
  rw [v47_at, v44_at]
  by_cases h : ⊥ < top (vC V b c)
  · rw [if_pos ((decide_bit _).mpr h)]
  · rw [if_neg (fun e => h ((decide_bit _).mp e))]
    exact (by_contra fun h2 => h (bot_lt_iff_ne_bot.mpr fun h3 => h2 h3.symm))

end

/-! ## All the turns -/

section
variable (m : (ℓ : Loc nD τ sig) → Buf (Elt Ideal) ℓ) (c : Dev nD)

/-- The boxes given to the reference. -/
noncomputable def argB : Vec Ideal S2x5000x4 .f32 := m ((c.tc : Thread nD τ).loc main_arg0)
/-- The scores given to the reference. -/
noncomputable def argS : Vec Ideal S2x5000x80 .f32 := m ((c.tc : Thread nD τ).loc main_arg1)
/-- The boxes of one batch element. -/
noncomputable def boxesOf (x : Vec Ideal S2x5000x4 .f32) (b : Fin 2) (i : Fin 5000) (j : Fin 4) : EReal := x (ix3 b i j)
/-- The scores of one class of one batch element. -/
noncomputable def scoresOf (z : Vec Ideal S2x5000x80 .f32) (b : Fin 2) (k : Fin 80) (i : Fin 5000) : EReal := z (ix3 b i k)

/-- The loop's buffers after `k` turns. -/
noncomputable def atTurn (k : Nat) : Valuation τ sig (Elt Ideal) := STEP^[k] (entryContents preI m c)

/-- The buffers after one more turn. -/
theorem atTurn_succ (k : Nat) : atTurn m c (k + 1) = STEP (atTurn m c k) := Function.iterate_succ_apply' _ _ _

/-- At the loop's entry the scores are the second argument, class by class. -/
theorem entry_v0 : atTurn m c 0 (Proc.devRef .tc main_v5_0) = (transpose S2x80x5000 [0, 2, 1] (argS m c) transposes_S2x5000x80_S2x80x5000_0_2_1 : Vec Ideal S2x80x5000 .f32) := by
  show entryContents preI m c _ = _
  simp only [preI, entryContents, afterL_cons, afterL_nil]
  after_reads_simp
  rfl
/-- At the loop's entry the boxes are the first argument. -/
theorem entry_v1 : atTurn m c 0 (Proc.devRef .tc main_v5_1) = argB m c := by
  show entryContents preI m c _ = _
  simp only [preI, entryContents, afterL_cons, afterL_nil]
  after_reads_simp
  rfl
/-- At the loop's entry the turn counter is zero. -/
theorem entry_v2 : atTurn m c 0 (Proc.devRef .tc main_v5_2) = fun _ => 0#32 := ctr_entry m c
/-- At the loop's entry a box is alive exactly when its score is above the threshold. -/
theorem entry_v3 : atTurn m c 0 (Proc.devRef .tc main_v5_3) =
    (cmpf (F := Ideal) (φ := .f32) .ogt (transpose S2x80x5000 [0, 2, 1] (argS m c) transposes_S2x5000x80_S2x80x5000_0_2_1) (broadcastInDim S2x80x5000 ![] bcast_S_S2x80x5000 (constant S_ .f32 0x3C23D70A#32)) : Vec Ideal S2x80x5000 .i1) := by
  show entryContents preI m c _ = _
  simp only [preI, entryContents, afterL_cons, afterL_nil]
  after_reads_simp
  rfl

/-- The boxes are the first argument at every turn. -/
theorem turn_vB (k : Nat) : vB (atTurn m c k) = boxesOf (argB m c) := by
  induction k with
  | zero => funext b n j; unfold vB; rw [entry_v1]; rfl
  | succ k ih => rw [atTurn_succ, vB_STEP, ih]

/-- The counter holds the turn's number. -/
theorem turn_ctr (k : Nat) : atTurn m c k (Proc.devRef .tc main_v5_2) = fun _ => BitVec.ofNat 32 k := by
  induction k with
  | zero => exact entry_v2 m c
  | succ k ih =>
    rw [atTurn_succ, STEP_main_v5_2]
    unfold step_main_v5_2
    rw [ih]
    funext i
    show BitVec.ofNat 32 k + 1#32 = BitVec.ofNat 32 (k + 1)
    rw [BitVec.ofNat_add]

/-- At the loop's entry the masked scores are the specification's before any turn. -/
theorem entry_vC (b : Fin 2) (k : Fin 80) : vC (atTurn m c 0) b k = live (boxesOf (argB m c) b) (scoresOf (argS m c) b k) 0 := by
  classical
  funext n
  unfold vC
  rw [entry_v0, entry_v3]
  have e : (transpose S2x80x5000 [0, 2, 1] (argS m c) transposes_S2x5000x80_S2x80x5000_0_2_1 : Vec Ideal S2x80x5000 .f32) (ix3 b k n) = scoresOf (argS m c) b k n := by
    unfold scoresOf
    generalize argS m c = z
    pointwise
  rw [e]
  unfold live
  have hc : (cmpf (F := Ideal) (φ := .f32) .ogt (transpose S2x80x5000 [0, 2, 1] (argS m c) transposes_S2x5000x80_S2x80x5000_0_2_1) (broadcastInDim S2x80x5000 ![] bcast_S_S2x80x5000 (constant S_ .f32 0x3C23D70A#32)) : Vec Ideal S2x80x5000 .i1) (ix3 b k n) = 1#1
      ↔ thr < scoresOf (argS m c) b k n := by
    rw [← e]
    exact decide_bit _
  by_cases h : thr < scoresOf (argS m c) b k n
  · rw [if_pos h, if_pos (hc.mpr h)]
  · rw [if_neg h, if_neg (fun h2 => h (hc.mp h2))]

variable (fin : ∀ b i j, ∃ r : ℝ, argB m c (ix3 b i j) = r)
include fin

/-- After every number of turns the masked scores are the specification's. -/
theorem turn_vC (b : Fin 2) (k : Fin 80) (t : Nat) : vC (atTurn m c t) b k = live (boxesOf (argB m c) b) (scoresOf (argS m c) b k) t := by
  induction t with
  | zero => exact entry_vC m c b k
  | succ t ih =>
    rw [atTurn_succ, vC_STEP _ b k (by rw [turn_vB]; exact fin), ih, turn_vB]
    rfl

open Classical in
/-- After t turns the first t rows of the two recorded tables hold the specification's picks and their scores. -/
theorem turn_rows (b : Fin 2) (k : Fin 80) (i : Fin 300) (t : Nat) (ht : t ≤ 300) (hi : i.val < t) :
    (atTurn m c t (Proc.devRef .tc main_v5_4) : Vec Ideal S300x2x80 .i32) (ix3 i b k) =
      (if ⊥ < top (live (boxesOf (argB m c) b) (scoresOf (argS m c) b k) i.val)
        then BitVec.ofNat 32 (best (live (boxesOf (argB m c) b) (scoresOf (argS m c) b k) i.val)).val else 4294967295#32)
    ∧ (atTurn m c t (Proc.devRef .tc main_v5_5) : Vec Ideal S300x2x80 .f32) (ix3 i b k) =
      top (live (boxesOf (argB m c) b) (scoresOf (argS m c) b k) i.val) := by
  induction t with
  | zero => omega
  | succ t ih =>
    have hw := turn_ctr m c t
    have h4 := v4_STEP (atTurn m c t) b k ⟨t, by omega⟩ i hw
    have h5 := v5_STEP (atTurn m c t) b k ⟨t, by omega⟩ i hw
    rw [turn_vC m c fin] at h4 h5
    rw [atTurn_succ, h4, h5]
    by_cases e : i = ⟨t, by omega⟩
    · rw [if_pos e, if_pos e, e]
      exact ⟨rfl, rfl⟩
    · rw [if_neg e, if_neg e]
      refine ih (by omega) ?_
      have : i.val ≠ t := fun h => e (Fin.ext h)
      omega

end

end Cert.ReferenceIdeal.Hand
-- ==== Proof.RefOut.lean ====
module

public import proofs.«01_k».proof.Proof.RefStep

@[expose] public section

/-!
# The reference's results

The candidates the loop leaves, sorted, and the three results read from them: they are the functions of `MergeSpec`.
-/

set_option maxRecDepth 32768

namespace Cert.ReferenceIdeal.Hand

open Cert.ReferenceIdeal Cert.ReferenceIdeal.Gen Cert.ReferenceIdeal.Value
open Idealize.ShloMosaic Idealize.ShloMosaic.TcCoe Idealize.ShloMosaic.Tactic
open Idealize.ShloMosaic.StableHlo
open Cert.Nms

/-- The pairs (batch element, place) for one place per batch element and result row. -/
noncomputable def pairs300 (w : Vec Ideal S2x300 .i32) : Vec Ideal S2x300x2 .i32 :=
  concatenate S2x300x2 2 [⟨S2x300x1, (broadcastInDim S2x300x1 ![0, 1] bcast_S2x300_S2x300x1_0_1 (broadcastInDim S2x300 ![0, 1] bcast_S2x1_S2x300_0_1 (broadcastInDim S2x1 ![0] bcast_S2_S2x1_0 (iotaInDim S2 32 0))))⟩, ⟨S2x300x1, (broadcastInDim S2x300x1 ![0, 1] bcast_S2x300_S2x300x1_0_1 w)⟩] concatenates_S2x300x1_S2x300x1_S2x300x2_d2

/-- The first entry of an index pair is the batch element. -/
theorem pairs300_zero (w : Vec Ideal S2x300 .i32) (b : Fin 2) (k : Fin 300) : pairs300 w (ix3 b k 0) = BitVec.ofNat 32 b.val := by
  pointwise [pairs300]

/-- The second entry of an index pair is the given word. -/
theorem pairs300_one (w : Vec Ideal S2x300 .i32) (b : Fin 2) (k : Fin 300) : pairs300 w (ix3 b k 1) = w (ix2 b k) := by
  pointwise [pairs300]

/-- The recorded scores flattened by class and then turn, read at a position. -/
theorem rowF_at (y : Vec Ideal S300x2x80 .f32) (b : Fin 2) (p : Fin 24000) :
    (shapeCast S2x24000 (transpose S2x80x300 [1, 2, 0] y transposes_S300x2x80_S2x80x300_1_2_0) shapeCasts_S2x80x300_S2x24000 : Vec Ideal S2x24000 .f32) (ix2 b p)
      = y (ix3 (colOf p) b (rowOf p)) := by
  pointwise
  rfl

/-- The recorded words flattened by class and then turn, read at a position. -/
theorem rowI_at (y : Vec Ideal S300x2x80 .i32) (b : Fin 2) (p : Fin 24000) :
    (shapeCast S2x24000 (transpose S2x80x300 [1, 2, 0] y transposes_S300x2x80_S2x80x300_1_2_0) shapeCasts_S2x80x300_S2x24000 : Vec Ideal S2x24000 .i32) (ix2 b p)
      = y (ix3 (colOf p) b (rowOf p)) := by
  pointwise
  rfl

/-- The class of every candidate, in a row. -/
noncomputable def classes : Vec Ideal S2x24000 .i32 :=
  shapeCast _ (broadcastInDim S2x80x300 ![0, 1, 2] bcast_S1x80x1_S2x80x300_0_1_2 (broadcastInDim S1x80x1 ![1] bcast_S80_S1x80x1_1 (iotaInDim S80 32 0))) shapeCasts_S2x80x300_S2x24000

/-- The list of classes holds each position's class. -/
theorem classes_at (b : Fin 2) (p : Fin 24000) : classes (ix2 b p) = BitVec.ofNat 32 (rowOf p).val := by
  pointwise [classes]
  rfl

/-! ## The three results, of a table of picks and a table of scores -/

section
variable (x : Vec Ideal S2x5000x4 .f32) (y4 : Vec Ideal S300x2x80 .i32) (y5 : Vec Ideal S300x2x80 .f32)

/-- The candidates' scores in a row. -/
noncomputable def rowF : Vec Ideal S2x24000 .f32 :=
  shapeCast S2x24000 (transpose S2x80x300 [1, 2, 0] y5 transposes_S300x2x80_S2x80x300_1_2_0) shapeCasts_S2x80x300_S2x24000
/-- The candidates' places in a row. -/
noncomputable def rowI : Vec Ideal S2x24000 .i32 :=
  shapeCast S2x24000 (transpose S2x80x300 [1, 2, 0] y4 transposes_S300x2x80_S2x80x300_1_2_0) shapeCasts_S2x80x300_S2x24000
/-- The scores of the first 300 of the sort. -/
noncomputable def topS : Vec Ideal S2x300 .f32 := (Host.topK S2x300 1 (FloatOps.cmpfTotal (F := Ideal) (φ := .f32) .gt) (rowF y5) sliceFits_S2x24000_S2x300).1
/-- Their places. -/
noncomputable def topI : Vec Ideal S2x300 .i32 := (Host.topK S2x300 1 (FloatOps.cmpfTotal (F := Ideal) (φ := .f32) .gt) (rowF y5) sliceFits_S2x24000_S2x300).2
/-- Where a candidate is left. -/
noncomputable def left : Vec Ideal S2x300 .i1 := cmpf (F := Ideal) (φ := .f32) .ogt (topS y5) (broadcastInDim S2x300 ![] bcast_S_S2x300 (constant (F := Ideal) S_ .f32 0xFF800000#32))
/-- The rows the boxes are gathered at. -/
noncomputable def places : Vec Ideal S2x300 .i32 :=
  maxsi (Host.gather gather_S2x24000_S2x300x2_S2x300_n_01_n_n_01_2_11 (rowI y4) (pairs300 (topI y5))) (broadcastInDim S2x300 ![] bcast_S_S2x300 (constantI S_ 32 0#32))

/-- The score result, entry by entry: the score where valid, -1 elsewhere. -/
theorem scores_of (ok : Vec Ideal S2x300 .i1) (w : Vec Ideal S2x300 .f32) (b : Fin 2) (t : Fin 300) :
    (select ok w (broadcastInDim S2x300 ![] bcast_S_S2x300 (id (constant (F := Ideal) S_ .f32 0xBF800000#32))) : Vec Ideal S2x300 .f32) (ix2 b t)
      = if ok (ix2 b t) = 1#1 then w (ix2 b t) else none' := rfl
/-- The label result, entry by entry: the class where valid, -1 elsewhere. -/
theorem labels_of (ok : Vec Ideal S2x300 .i1) (w : Vec Ideal S2x300 .i32) (b : Fin 2) (t : Fin 300) :
    (select ok w (broadcastInDim S2x300 ![] bcast_S_S2x300 (id (constantI S_ 32 4294967295#32))) : Vec Ideal S2x300 .i32) (ix2 b t)
      = if ok (ix2 b t) = 1#1 then w (ix2 b t) else 4294967295#32 := rfl
/-- The box result, entry by entry: the coordinate where valid, -1 elsewhere. -/
theorem boxes_of (ok : Vec Ideal S2x300 .i1) (w : Vec Ideal S2x300x4 .f32) (b : Fin 2) (t : Fin 300) (j : Fin 4) :
    (select (broadcastInDim S2x300x4 ![0, 1, 2] bcast_S2x300x1_S2x300x4_0_1_2 (broadcastInDim S2x300x1 ![0, 1] bcast_S2x300_S2x300x1_0_1 ok)) w
      (broadcastInDim S2x300x4 ![] bcast_S_S2x300x4 (id (constant (F := Ideal) S_ .f32 0xBF800000#32))) : Vec Ideal S2x300x4 .f32) (ix3 b t j)
      = if ok (ix2 b t) = 1#1 then w (ix3 b t j) else none' := by
  pointwise
  rfl
/-- The maximum with zero, entry by entry. -/
theorem max0_of (w : Vec Ideal S2x300 .i32) (b : Fin 2) (t : Fin 300) :
    (maxsi w (broadcastInDim S2x300 ![] bcast_S_S2x300 (constantI S_ 32 0#32)) : Vec Ideal S2x300 .i32) (ix2 b t) = IntOp.maxsi (w (ix2 b t)) 0#32 := rfl

variable (B : Fin 2 → Fin 5000 → Fin 4 → EReal) (s : Fin 2 → Fin 80 → Fin 5000 → EReal)

section
variable (h5 : ∀ (b : Fin 2) (k : Fin 80) (i : Fin 300), y5 (ix3 i b k) = top (live (B b) (s b k) i.val))
include h5

/-- The flattened recorded scores are the candidates' scores of the specification. -/
theorem rowF_cand (b : Fin 2) : (fun p => rowF y5 (ix2 b p)) = cand (B b) (s b) := by
  funext p
  unfold rowF
  rw [rowF_at, h5]
  rfl

/-- The t-th score of the top 300 is the t-th winner's. -/
theorem topS_at (b : Fin 2) (t : Fin 300) : topS y5 (ix2 b t) = cand (B b) (s b) (winner (B b) (s b) t) := by
  unfold topS
  refine (topK2 (rowF y5) sliceFits_S2x24000_S2x300 b t (by decide)).1.trans ?_
  rw [rowF_cand y5 B s h5]
  exact congrFun (rowF_cand y5 B s h5 b) _

/-- The t-th position of the top 300 is the t-th winner's. -/
theorem topI_at (b : Fin 2) (t : Fin 300) : topI y5 (ix2 b t) = BitVec.ofNat 32 (winner (B b) (s b) t).val := by
  unfold topI
  refine (topK2 (rowF y5) sliceFits_S2x24000_S2x300 b t (by decide)).2.trans ?_
  rw [rowF_cand y5 B s h5]
  rfl

/-- The t-th of the top 300 is valid exactly when its score is above minus infinity. -/
theorem left_at (b : Fin 2) (t : Fin 300) : left y5 (ix2 b t) = 1#1 ↔ ⊥ < cand (B b) (s b) (winner (B b) (s b) t) := by
  rw [← topS_at y5 B s h5, ← ofBits_neg_inf]
  exact decide_bit _

/-- Gathering a flat list at the top positions reads it at the winners. -/
theorem words_at (w : Vec Ideal S2x24000 .i32) (b : Fin 2) (t : Fin 300) :
    (Host.gather gather_S2x24000_S2x300x2_S2x300_n_01_n_n_01_2_11 w (pairs300 (topI y5)) : Vec Ideal S2x300 .i32) (ix2 b t)
      = w (ix2 b (winner (B b) (s b) t)) := by
  refine gather_words (N := 24000) (K := 300) _ w (pairs300 (topI y5)) b t (winner (B b) (s b) t) ?_ ?_
  · rw [pairs300_zero]; exact toInt_small _ (by omega)
  · rw [pairs300_one, topI_at y5 B s h5]; exact WordCmp.toInt_ofNat_of_lt (by omega)

open Classical in
/-- The box number gathered for the t-th of the top 300, where valid, is the one its class picked at its turn. -/
theorem places_at
    (h4 : ∀ (b : Fin 2) (k : Fin 80) (i : Fin 300), y4 (ix3 i b k) =
      if ⊥ < top (live (B b) (s b k) i.val) then BitVec.ofNat 32 (best (live (B b) (s b k) i.val)).val else 4294967295#32)
    (b : Fin 2) (t : Fin 300) (ht : ⊥ < cand (B b) (s b) (winner (B b) (s b) t)) :
    (places y4 y5 (ix2 b t)).toInt = ((candBest (B b) (s b) (winner (B b) (s b) t)).val : Int) := by
  unfold places
  rw [max0_of, words_at y5 B s h5]
  unfold rowI
  rw [rowI_at, h4]
  rw [if_pos (show ⊥ < top (live (B b) (s b (rowOf (winner (B b) (s b) t))) (colOf (winner (B b) (s b) t)).val) from ht)]
  show (IntOp.maxsi (BitVec.ofNat 32 (candBest (B b) (s b) (winner (B b) (s b) t)).val) 0#32).toInt = _
  generalize candBest (B b) (s b) (winner (B b) (s b) t) = q
  have hq : (BitVec.ofNat 32 q.val).toInt = (q.val : Int) := toInt_small _ q.isLt
  have h0 : (0#32).toInt = 0 := rfl
  unfold IntOp.maxsi BitVec.slt
  rw [hq, h0]
  by_cases h : 0 < q.val
  · rw [if_pos (by simpa using h)]; exact hq
  · rw [if_neg (by simpa using h)]; rw [h0]; omega

end

end

/-! ## The run -/

/-- The returned boxes. -/
noncomputable def resBox (x : Vec Ideal S2x5000x4 .f32) (z : Vec Ideal S2x5000x80 .f32) : Vec Ideal S2x300x4 .f32 :=
  fun i => outBox (boxesOf x (i 0)) (scoresOf z (i 0)) (i 1) (i 2)
/-- The returned scores. -/
noncomputable def resScore (x : Vec Ideal S2x5000x4 .f32) (z : Vec Ideal S2x5000x80 .f32) : Vec Ideal S2x300 .f32 :=
  fun i => outScore (boxesOf x (i 0)) (scoresOf z (i 0)) (i 1)
/-- The returned labels. -/
noncomputable def resLabel (x : Vec Ideal S2x5000x4 .f32) (z : Vec Ideal S2x5000x80 .f32) : Vec Ideal S2x300 .i32 :=
  fun i => outLabel (boxesOf x (i 0)) (scoresOf z (i 0)) (i 1)

section
variable (m : (ℓ : Loc nD τ sig) → Buf (Elt Ideal) ℓ) (ρ : Dev nD → PrngReg) (c : Dev nD)
variable (fin : ∀ b i j, ∃ r : ℝ, argB m c (ix3 b i j) = r)
include fin

/-- The reference's score result is the specification's. -/
theorem score_at : out_main_v41 (atTurn m c 300) = resScore (argB m c) (argS m c) := by
  classical
  funext i
  obtain ⟨b, t, rfl⟩ : ∃ b t, i = ix2 b t := ⟨i 0, i 1, eq_ix2 i⟩
  have h5 := fun (b : Fin 2) (k : Fin 80) (i : Fin 300) => (turn_rows m c fin b k i 300 (by decide) i.isLt).2
  refine (scores_of (left (atTurn m c 300 (Proc.devRef .tc main_v5_5))) (topS (atTurn m c 300 (Proc.devRef .tc main_v5_5))) b t).trans ?_
  rw [topS_at _ (boxesOf (argB m c)) (scoresOf (argS m c)) h5]
  have hl := left_at _ (boxesOf (argB m c)) (scoresOf (argS m c)) h5 b t
  show _ = outScore (boxesOf (argB m c) b) (scoresOf (argS m c) b) t
  unfold outScore
  by_cases h : ⊥ < cand (boxesOf (argB m c) b) (scoresOf (argS m c) b) (winner (boxesOf (argB m c) b) (scoresOf (argS m c) b) t)
  · rw [if_pos h, if_pos (hl.mpr h)]
  · rw [if_neg h, if_neg (fun e => h (hl.mp e))]

/-- The reference's label result is the specification's. -/
theorem label_at : out_main_v42 (atTurn m c 300) = resLabel (argB m c) (argS m c) := by
  classical
  funext i
  obtain ⟨b, t, rfl⟩ : ∃ b t, i = ix2 b t := ⟨i 0, i 1, eq_ix2 i⟩
  have h5 := fun (b : Fin 2) (k : Fin 80) (i : Fin 300) => (turn_rows m c fin b k i 300 (by decide) i.isLt).2
  refine (labels_of (left (atTurn m c 300 (Proc.devRef .tc main_v5_5)))
    (Host.gather gather_S2x24000_S2x300x2_S2x300_n_01_n_n_01_2_11 classes (pairs300 (topI (atTurn m c 300 (Proc.devRef .tc main_v5_5))))) b t).trans ?_
  rw [words_at _ (boxesOf (argB m c)) (scoresOf (argS m c)) h5, classes_at]
  have hl := left_at _ (boxesOf (argB m c)) (scoresOf (argS m c)) h5 b t
  show _ = outLabel (boxesOf (argB m c) b) (scoresOf (argS m c) b) t
  unfold outLabel
  by_cases h : ⊥ < cand (boxesOf (argB m c) b) (scoresOf (argS m c) b) (winner (boxesOf (argB m c) b) (scoresOf (argS m c) b) t)
  · rw [if_pos h, if_pos (hl.mpr h)]
  · rw [if_neg h, if_neg (fun e => h (hl.mp e))]

/-- The reference's box result is the specification's. -/
theorem box_at : out_main_v40 (atTurn m c 300) = resBox (argB m c) (argS m c) := by
  classical
  funext i
  obtain ⟨b, t, j, rfl⟩ : ∃ b t j, i = ix3 b t j := ⟨i 0, i 1, i 2, eq_ix3 i⟩
  have h4 := fun (b : Fin 2) (k : Fin 80) (i : Fin 300) => (turn_rows m c fin b k i 300 (by decide) i.isLt).1
  have h5 := fun (b : Fin 2) (k : Fin 80) (i : Fin 300) => (turn_rows m c fin b k i 300 (by decide) i.isLt).2
  refine (boxes_of (left (atTurn m c 300 (Proc.devRef .tc main_v5_5)))
    (Host.gather gather_S2x5000x4_S2x300x2_S2x300x4_2_01_n_n_01_2_114 (atTurn m c 300 (Proc.devRef .tc main_arg0))
      (pairs300 (places (atTurn m c 300 (Proc.devRef .tc main_v5_4)) (atTurn m c 300 (Proc.devRef .tc main_v5_5))))) b t j).trans ?_
  have e0 : atTurn m c 300 (Proc.devRef .tc main_arg0) = argB m c := iter_main_arg0 m c 300
  have hl := left_at _ (boxesOf (argB m c)) (scoresOf (argS m c)) h5 b t
  rw [e0]
  show _ = outBox (boxesOf (argB m c) b) (scoresOf (argS m c) b) t j
  unfold outBox
  by_cases h : ⊥ < cand (boxesOf (argB m c) b) (scoresOf (argS m c) b) (winner (boxesOf (argB m c) b) (scoresOf (argS m c) b) t)
  · rw [if_pos h, if_pos (hl.mpr h)]
    refine gather_rows (N := 5000) (K := 300) _ (argB m c) _ b t j (candBest (boxesOf (argB m c) b) (scoresOf (argS m c) b) (winner (boxesOf (argB m c) b) (scoresOf (argS m c) b) t)) ?_ ?_
    · rw [pairs300_zero]; exact toInt_small _ (by omega)
    · rw [pairs300_one]
      exact places_at _ _ (boxesOf (argB m c)) (scoresOf (argS m c)) h5 h4 b t h
  · rw [if_neg h, if_neg (fun e => h (hl.mp e))]

end

/-- The reference's run on finite boxes: the three results, and the arguments unchanged. -/
theorem run (m : (ℓ : Loc nD τ sig) → Buf (Elt Ideal) ℓ) (ρ : Dev nD → PrngReg)
    (fin : ∀ c b i j, ∃ r : ℝ, argB m c (ix3 b i j) = r) :
    θ_run (defs (F := Ideal)) (onTc (τ := τ) (main (F := Ideal))) ⟨m, fun _ => 0, ρ⟩ fun r => ∀ c : Dev nD,
      r.2.mem ((c.tc : Thread nD τ).loc main_v40) = resBox (argB m c) (argS m c)
      ∧ r.2.mem ((c.tc : Thread nD τ).loc main_v41) = resScore (argB m c) (argS m c)
      ∧ r.2.mem ((c.tc : Thread nD τ).loc main_v42) = resLabel (argB m c) (argS m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (box_at m c (fin c)), (h c).2.1.trans (score_at m c (fin c)),
    (h c).2.2.1.trans (label_at m c (fin c)), (h c).2.2.2.1, (h c).2.2.2.2⟩) (Value.run m ρ)

end Cert.ReferenceIdeal.Hand
-- ==== Proof.lean ====
/-
  The certificate. The values come from `Proof/KernelRun.lean` and `Proof/RefOut.lean`, which read both programs' results as the
  functions of `Proof/MergeSpec.lean`. The kernel's and its idealization's frames are `Cert.Kernel.Hand.frame` and `Cert.KernelIdeal.Hand.frame`
  (`Proof/WordBody.lean`, `Proof/Body.lean`); the reference is host operations and one counted host loop alone, so its frame is the
  generated run, and it declares no semaphore.
-/
module

public import proofs.«01_k».proof.Defs
public import proofs.«01_k».proof.Proof.Body
public import proofs.«01_k».proof.Proof.WordBody
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KernelRun
public import proofs.«01_k».proof.Proof.RefOut
public import Idealize.ShloMosaic.Lib.Quiescent
public import Idealize.ShloMosaic.Lib.ReduceAll

@[expose] public section

noncomputable section

namespace Cert.Proof

open Idealize.ShloMosaic Idealize.ShloMosaic.TcCoe Idealize.SL.Sem

/-- The reference's frame: the generated run read at the arguments; there is no semaphore to read. -/
theorem frame_reference : Cert.quiescent_ReferenceIdeal := fun m ρ _ =>
  (θ_run _ _ _).mono (fun r h => ⟨fun c => ⟨(h c).2.2.2.1, (h c).2.2.2.2⟩, sem_eq_zero_of_no_sems (by decide) _⟩) (Cert.ReferenceIdeal.Value.run m ρ)

/-- The same under the precondition, which it does not use. -/
theorem frame_reference_finite [Cert.Pre_finite_boxes.Facts] : Cert.quiescent_ReferenceIdeal_pre_finite_boxes :=
  fun m ρ _ => frame_reference m ρ trivial

/-- The side conditions of the precondition's own operations. -/
theorem facts_finite : Cert.Pre_finite_boxes.Facts := ⟨by decide, by decide, by decide⟩

/-- An extended real strictly between the infinities is a real number. -/
theorem real_of_between (x : EReal) (h1 : Ideal.ofBits .f32 0xFF800000#32 < x) (h2 : x < Ideal.ofBits .f32 0x7F800000#32) : ∃ r : ℝ, x = r := by
  induction x with
  | bot => rw [Cert.Nms.ofBits_neg_inf] at h1; exact absurd h1 (lt_irrefl _)
  | coe r => exact ⟨r, rfl⟩
  | top => exact absurd h2 not_top_lt

/-- Where the precondition holds every coordinate of every box is a real number. -/
theorem finite_of_pre [Cert.Pre_finite_boxes.Facts] (x : FVec Ideal Cert.Pre_finite_boxes.S2x5000x4 .f32) (z : FVec Ideal Cert.Pre_finite_boxes.S2x5000x80 .f32)
    (h : Cert.Pre_finite_boxes.fn (F := Ideal) x z = fun _ => 1#1) (i : Cert.Pre_finite_boxes.S2x5000x4.Idx) : ∃ r : ℝ, x i = r := by
  have e := congrFun h (fun a => a.elim0)
  haveI : Subsingleton Cert.Pre_finite_boxes.S_.Idx := ⟨fun a b => funext fun k => k.elim0⟩
  unfold Cert.Pre_finite_boxes.fn at e
  dsimp only at e
  have h1 := Host.reduce_andi_all _ _ _ _ _ e i
  obtain ⟨h2, h3⟩ := IntOp.andi_eq_one.1 h1
  exact real_of_between (x i) ((Cert.ReferenceIdeal.Hand.decide_bit _).1 h2) ((Cert.ReferenceIdeal.Hand.decide_bit _).1 h3)

/-- On finite boxes the kernel and the reference return the same boxes, the same scores and the same labels. -/
theorem values [Cert.Pre_finite_boxes.Facts] : Cert.algebraic_KernelIdeal_ReferenceIdeal_pre_finite_boxes := by
  intro m g m' g' hpre hagree
  have fin : ∀ c b i j, ∃ r : ℝ, Cert.KernelIdeal.Hand.argB m c (ix3 b i j) = r := fun c b i j => finite_of_pre _ _ (hpre c) (ix3 b i j)
  have eB : ∀ c, Cert.ReferenceIdeal.Hand.argB m' c = Cert.KernelIdeal.Hand.argB m c := fun c => (hagree c).1
  have eS : ∀ c, Cert.ReferenceIdeal.Hand.argS m' c = Cert.KernelIdeal.Hand.argS m c := fun c => (hagree c).2
  refine ⟨fun c => Cert.KernelIdeal.Hand.resBox (Cert.KernelIdeal.Hand.argB m c) (Cert.KernelIdeal.Hand.argS m c),
    fun c => Cert.KernelIdeal.Hand.resScore (Cert.KernelIdeal.Hand.argB m c) (Cert.KernelIdeal.Hand.argS m c),
    fun c => Cert.KernelIdeal.Hand.resLabel (Cert.KernelIdeal.Hand.argB m c) (Cert.KernelIdeal.Hand.argS m c),
    Cert.KernelIdeal.Hand.run m g fin, ?_⟩
  refine (θ_run _ _ _).mono (fun r h c => ?_) (Cert.ReferenceIdeal.Hand.run m' g' (fun c b i j => by rw [eB c]; exact fin c b i j))
  obtain ⟨h1, h2, h3, h4, h5⟩ := h c
  rw [eB c, eS c] at h1 h2 h3
  exact ⟨h1, h2, h3, h4, h5⟩

/-- The certificate's claims. -/
theorem claim : Cert.Claim := ⟨Cert.Kernel.Gen.facts, Cert.KernelIdeal.Gen.facts, Cert.ReferenceIdeal.Gen.facts, facts_finite,
  fun m ρ _ => Cert.Kernel.Hand.frame m ρ, fun m ρ _ => Cert.KernelIdeal.Hand.frame m ρ, fun m ρ _ => Cert.KernelIdeal.Hand.frame m ρ,
  frame_reference, @frame_reference_finite facts_finite, trivial, @values facts_finite⟩

end Cert.Proof

end
